-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_block_maxima_normal [hPre_block_maxima_normal : Cert.Pre_block_maxima_normal.Facts] (m : (ℓ : Loc Cert.KernelIdeal.nD Cert.KernelIdeal.τ Cert.KernelIdeal.sig) → Buf (Elt Ideal) ℓ) : Prop :=
  ∀ c : Dev Cert.KernelIdeal.nD,
    (Cert.Pre_block_maxima_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_block_maxima_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_block_maxima_normal [hPre_block_maxima_normal : Cert.Pre_block_maxima_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_block_maxima_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_block_maxima_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_block_maxima_normal [hKernelIdeal : Cert.KernelIdeal.Facts] [hPre_block_maxima_normal : Cert.Pre_block_maxima_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_block_maxima_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_block_maxima_normal [hReferenceIdeal : Cert.ReferenceIdeal.Facts] [hPre_block_maxima_normal : Cert.Pre_block_maxima_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_block_maxima_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S16x128 Cert.KernelIdeal.S8x128
  ∧ IdealRules.bf16_pair.Statement Cert.KernelIdeal.S64x128 Cert.KernelIdeal.S32x128
  ∧ IdealRules.bf16_pair.PackStatement Cert.KernelIdeal.S32x128

def algebraic_KernelIdeal_ReferenceIdeal_pre_block_maxima_normal [hKernelIdeal : Cert.KernelIdeal.Facts] [hReferenceIdeal : Cert.ReferenceIdeal.Facts] [hPre_block_maxima_normal : Cert.Pre_block_maxima_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_block_maxima_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v294) = v0 c
          ∧ r.2.mem ((c.tc : Thread Cert.ReferenceIdeal.nD Cert.ReferenceIdeal.τ).loc Cert.ReferenceIdeal.main_v295) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v296) = v3 c
          ∧ r.2.mem ((c.tc : Thread Cert.ReferenceIdeal.nD Cert.ReferenceIdeal.τ).loc Cert.ReferenceIdeal.main_v147) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_block_maxima_normal : Cert.Pre_block_maxima_normal.Facts),
    quiescent_Kernel (hKernel := hKernel)
    ∧ quiescent_KernelIdeal (hKernelIdeal := hKernelIdeal)
    ∧ quiescent_KernelIdeal_pre_block_maxima_normal (hKernelIdeal := hKernelIdeal) (hPre_block_maxima_normal := hPre_block_maxima_normal)
    ∧ quiescent_ReferenceIdeal (hReferenceIdeal := hReferenceIdeal)
    ∧ quiescent_ReferenceIdeal_pre_block_maxima_normal (hReferenceIdeal := hReferenceIdeal) (hPre_block_maxima_normal := hPre_block_maxima_normal)
    ∧ preserves_Kernel_KernelIdeal
    ∧ algebraic_KernelIdeal_ReferenceIdeal_pre_block_maxima_normal (hKernelIdeal := hKernelIdeal) (hReferenceIdeal := hReferenceIdeal) (hPre_block_maxima_normal := hPre_block_maxima_normal)
-- ==== Pre_block_maxima_normal.lean ====
abbrev S3x640x7168 : Shape := ⟨3, ![3, 640, 7168]⟩
abbrev S3x640x2048 : Shape := ⟨3, ![3, 640, 2048]⟩
abbrev S2 : Shape := ⟨1, ![2]⟩
abbrev S3x10x64x7168 : Shape := ⟨4, ![3, 10, 64, 7168]⟩
abbrev S_ : Shape := ⟨0, ![]⟩
abbrev S3x10x7168 : Shape := ⟨3, ![3, 10, 7168]⟩
abbrev S3x10x64x2048 : Shape := ⟨4, ![3, 10, 64, 2048]⟩
abbrev S3x10x2048 : Shape := ⟨3, ![3, 10, 2048]⟩

class Facts : Prop where
  shapeCasts_S3x640x7168_S3x10x64x7168 : S3x640x7168.ShapeCasts S3x10x64x7168
  bitsLt_bf16_f32 : FTy.bits .bf16 < FTy.bits .f32
  reducesTo_S3x10x64x7168_S3x10x7168_d2 : S3x10x64x7168.ReducesTo [2] S3x10x7168
  h_S_ : 0 < S_.numel
  bcast_S_S3x10x7168 : S_.BroadcastsInDim S3x10x7168 (![] : Fin 0 → Fin S3x10x7168.rank)
  shapeCasts_S3x640x2048_S3x10x64x2048 : S3x640x2048.ShapeCasts S3x10x64x2048
  reducesTo_S3x10x64x2048_S3x10x2048_d2 : S3x10x64x2048.ReducesTo [2] S3x10x2048
  bcast_S_S3x10x2048 : S_.BroadcastsInDim S3x10x2048 (![] : Fin 0 → Fin S3x10x2048.rank)

variable [Facts]

def fn_part1 {F : FTy → Type} [FloatOps F] (main_v11 : IVec S3x10x7168 1) (main_v15 : FVec F S3x10x2048 .f32) (main_v17 : IVec S3x10x2048 1) : IVec S3x10x7168 1 × IVec S3x10x2048 1 :=
  let main_cst_5 : FVec F S_ .f32 := constant S_ .f32 0x01800000#32
  let main_v18 : FVec F S3x10x2048 .f32 := broadcastInDim S3x10x2048 ![] bcast_S_S3x10x2048 main_cst_5
  let main_v19 : IVec S3x10x2048 1 := cmpf .oge main_v15 main_v18
  let main_cst_6 : FVec F S_ .f32 := constant S_ .f32 0x7F7FFFFF#32
  let main_v20 : FVec F S3x10x2048 .f32 := broadcastInDim S3x10x2048 ![] bcast_S_S3x10x2048 main_cst_6
  let main_v21 : IVec S3x10x2048 1 := cmpf .ole main_v15 main_v20
  let main_v22 : IVec S3x10x2048 1 := andi main_v19 main_v21
  let main_v23 : IVec S3x10x2048 1 := ori main_v17 main_v22
  (main_v11, main_v23)

def fn {F : FTy → Type} [FloatOps F] (main_arg0 : FVec F S3x640x7168 .bf16) (main_arg1 : FVec F S3x640x2048 .bf16) (main_arg2 : IVec S2 32) : IVec S3x10x7168 1 × IVec S3x10x2048 1 :=
  let main_v0 : FVec F S3x10x64x7168 .bf16 := shapeCast S3x10x64x7168 main_arg0 shapeCasts_S3x640x7168_S3x10x64x7168
  let main_v1 : FVec F S3x10x64x7168 .f32 := (extf .f32 · bitsLt_bf16_f32) main_v0
  let main_v2 : FVec F S3x10x64x7168 .f32 := Host.absf main_v1
  let main_cst : FVec F S_ .f32 := constant S_ .f32 0xFF800000#32
  let main_v3 : FVec F S3x10x7168 .f32 := (fun x v => Host.reduce FloatOps.maximumf x v reducesTo_S3x10x64x7168_S3x10x7168_d2 h_S_) main_v2 main_cst
  let main_cst_0 : FVec F S_ .f32 := constant S_ .f32 0x00000000#32
  let main_v4 : FVec F S3x10x7168 .f32 := broadcastInDim S3x10x7168 ![] bcast_S_S3x10x7168 main_cst_0
  let main_v5 : IVec S3x10x7168 1 := cmpf .oeq main_v3 main_v4
  let main_cst_1 : FVec F S_ .f32 := constant S_ .f32 0x01800000#32
  let main_v6 : FVec F S3x10x7168 .f32 := broadcastInDim S3x10x7168 ![] bcast_S_S3x10x7168 main_cst_1
  let main_v7 : IVec S3x10x7168 1 := cmpf .oge main_v3 main_v6
  let main_cst_2 : FVec F S_ .f32 := constant S_ .f32 0x7F7FFFFF#32
  let main_v8 : FVec F S3x10x7168 .f32 := broadcastInDim S3x10x7168 ![] bcast_S_S3x10x7168 main_cst_2
  let main_v9 : IVec S3x10x7168 1 := cmpf .ole main_v3 main_v8
  let main_v10 : IVec S3x10x7168 1 := andi main_v7 main_v9
  let main_v11 : IVec S3x10x7168 1 := ori main_v5 main_v10
  let main_v12 : FVec F S3x10x64x2048 .bf16 := shapeCast S3x10x64x2048 main_arg1 shapeCasts_S3x640x2048_S3x10x64x2048
  let main_v13 : FVec F S3x10x64x2048 .f32 := (extf .f32 · bitsLt_bf16_f32) main_v12
  let main_v14 : FVec F S3x10x64x2048 .f32 := Host.absf main_v13
  let main_cst_3 : FVec F S_ .f32 := constant S_ .f32 0xFF800000#32
  let main_v15 : FVec F S3x10x2048 .f32 := (fun x v => Host.reduce FloatOps.maximumf x v reducesTo_S3x10x64x2048_S3x10x2048_d2 h_S_) main_v14 main_cst_3
  let main_cst_4 : FVec F S_ .f32 := constant S_ .f32 0x00000000#32
  let main_v16 : FVec F S3x10x2048 .f32 := broadcastInDim S3x10x2048 ![] bcast_S_S3x10x2048 main_cst_4
  let main_v17 : IVec S3x10x2048 1 := cmpf .oeq main_v15 main_v16
  fn_part1 (F := F) main_v11 main_v15 main_v17
-- ==== Kernel.lean ====
abbrev S3x640x7168 : Shape := ⟨3, ![3, 640, 7168]⟩
abbrev S3x640x2048 : Shape := ⟨3, ![3, 640, 2048]⟩
abbrev S2 : Shape := ⟨1, ![2]⟩
abbrev S1920x7168 : Shape := ⟨2, ![1920, 7168]⟩
abbrev S1920x2048 : Shape := ⟨2, ![1920, 2048]⟩
abbrev S7168x2048 : Shape := ⟨2, ![7168, 2048]⟩
abbrev S960x7168 : Shape := ⟨2, ![960, 7168]⟩
abbrev S3x10x7168 : Shape := ⟨3, ![3, 10, 7168]⟩
abbrev S960x2048 : Shape := ⟨2, ![960, 2048]⟩
abbrev S3x10x2048 : Shape := ⟨3, ![3, 10, 2048]⟩
abbrev S1920x512 : Shape := ⟨2, ![1920, 512]⟩
abbrev S512x2048 : Shape := ⟨2, ![512, 2048]⟩
abbrev S960x512 : Shape := ⟨2, ![960, 512]⟩
abbrev S3x10x512 : Shape := ⟨3, ![3, 10, 512]⟩
abbrev S2x512x1920 : Shape := ⟨3, ![2, 512, 1920]⟩
abbrev S240x128 : Shape := ⟨2, ![240, 128]⟩
abbrev S30x128 : Shape := ⟨2, ![30, 128]⟩
abbrev S1 : Shape := ⟨1, ![1]⟩
abbrev S64x128 : Shape := ⟨2, ![64, 128]⟩
abbrev S4x16x128 : Shape := ⟨3, ![4, 16, 128]⟩
abbrev S1x16x128 : Shape := ⟨3, ![1, 16, 128]⟩
abbrev S16x128 : Shape := ⟨2, ![16, 128]⟩
abbrev S8x128 : Shape := ⟨2, ![8, 128]⟩
abbrev S10x128 : Shape := ⟨2, ![10, 128]⟩
abbrev S1x10x128 : Shape := ⟨3, ![1, 10, 128]⟩
abbrev S32x128 : Shape := ⟨2, ![32, 128]⟩
abbrev S1x128 : Shape := ⟨2, ![1, 128]⟩
abbrev S128x128 : Shape := ⟨2, ![128, 128]⟩
abbrev S1x512x1920 : Shape := ⟨3, ![1, 512, 1920]⟩
abbrev S512x1920 : Shape := ⟨2, ![512, 1920]⟩
abbrev S512x512 : Shape := ⟨2, ![512, 512]⟩
abbrev S1x128x128 : Shape := ⟨3, ![1, 128, 128]⟩

abbrev nBuf : Space → Nat
  | .hbm => 11
  | .vmem => 16
  | .smem => 1
  | _ => 0

abbrev bufTy : (tb : Table) → Fin (tcTables nBuf tb) → BufTy
  | .hbm, ⟨0, _⟩ => ⟨S3x640x7168, .bf16⟩
  | .hbm, ⟨1, _⟩ => ⟨S3x640x2048, .bf16⟩
  | .hbm, ⟨2, _⟩ => ⟨S2, .i32⟩
  | .hbm, ⟨3, _⟩ => ⟨S1920x7168, .bf16⟩
  | .hbm, ⟨4, _⟩ => ⟨S1920x2048, .bf16⟩
  | .hbm, ⟨5, _⟩ => ⟨S2, .i32⟩
  | .hbm, ⟨6, _⟩ => ⟨S7168x2048, .f32⟩
  | .hbm, ⟨7, _⟩ => ⟨S960x7168, .i8⟩
  | .hbm, ⟨8, _⟩ => ⟨S3x10x7168, .f32⟩
  | .hbm, ⟨9, _⟩ => ⟨S960x2048, .i8⟩
  | .hbm, ⟨10, _⟩ => ⟨S3x10x2048, .f32⟩
  | .local _ .vmem, ⟨0, _⟩ => ⟨S1920x512, .bf16⟩
  | .local _ .vmem, ⟨1, _⟩ => ⟨S1920x512, .bf16⟩
  | .local _ .vmem, ⟨2, _⟩ => ⟨S1920x2048, .bf16⟩
  | .local _ .vmem, ⟨3, _⟩ => ⟨S512x2048, .f32⟩
  | .local _ .vmem, ⟨4, _⟩ => ⟨S512x2048, .f32⟩
  | .local _ .vmem, ⟨5, _⟩ => ⟨S960x512, .i8⟩
  | .local _ .vmem, ⟨6, _⟩ => ⟨S960x512, .i8⟩
  | .local _ .vmem, ⟨7, _⟩ => ⟨S3x10x512, .f32⟩
  | .local _ .vmem, ⟨8, _⟩ => ⟨S3x10x512, .f32⟩
  | .local _ .vmem, ⟨9, _⟩ => ⟨S960x2048, .i8⟩
  | .local _ .vmem, ⟨10, _⟩ => ⟨S3x10x2048, .f32⟩
  | .local _ .vmem, ⟨11, _⟩ => ⟨S2x512x1920, .bf16⟩
  | .local _ .vmem, ⟨12, _⟩ => ⟨S1920x2048, .bf16⟩
  | .local _ .vmem, ⟨13, _⟩ => ⟨S240x128, .f32⟩
  | .local _ .vmem, ⟨14, _⟩ => ⟨S30x128, .i32⟩
  | .local _ .vmem, ⟨15, _⟩ => ⟨S30x128, .i32⟩
  | .local _ .smem, ⟨0, _⟩ => ⟨S2, .i32⟩
  | _, _ => ⟨S3x640x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [BitOps F]

abbrev grid0 : Pipeline.Grid := ⟨1, ![15], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c16_i32_12 : BitVec 32 := 16#32
  let v24 : BitVec 32 := Scalar.addi c0_i32_11 c16_i32_12
  let c1_i32_13 : BitVec 32 := 1#32
  ⟨c0_i32_11, v24, c1_i32_13⟩
def k0_mult1 (k0_t1 : Fin k0_t1_loop.trips) : BitVec 32 :=
  let c0_i32_11 : BitVec 32 := 0#32
  let c1_i32_13 : BitVec 32 := 1#32
  let arg14 : BitVec 32 := Scf.iv c0_i32_11 c1_i32_13 k0_t1
  let c128_i32 : BitVec 32 := 128#32
  let v25 : BitVec 32 := Scalar.muli arg14 c128_i32
  v25
@[reducible] def k0_t2_loop : Scf.Loop 32 :=
  let c0_i32_27 : BitVec 32 := 0#32
  let c30_i32 : BitVec 32 := 30#32
  let v54 : BitVec 32 := Scalar.addi c0_i32_27 c30_i32
  let c1_i32_28 : BitVec 32 := 1#32
  ⟨c0_i32_27, v54, c1_i32_28⟩
def k0_mult2 (k0_t2 : Fin k0_t2_loop.trips) : BitVec 32 :=
  let c0_i32_27 : BitVec 32 := 0#32
  let c1_i32_28 : BitVec 32 := 1#32
  let arg15 : BitVec 32 := Scf.iv c0_i32_27 c1_i32_28 k0_t2
  let c64_i32 : BitVec 32 := 64#32
  let v379 : BitVec 32 := Scalar.muli arg15 c64_i32
  v379
def k0_off1 (k0_t1 : Fin k0_t1_loop.trips) (k0_t2 : Fin k0_t2_loop.trips) : Fin 2 → Nat :=
  let c0_i32_27 : BitVec 32 := 0#32
  let c1_i32_28 : BitVec 32 := 1#32
  let arg15 : BitVec 32 := Scf.iv c0_i32_27 c1_i32_28 k0_t2
  let c64_i32 : BitVec 32 := 64#32
  let v379 : BitVec 32 := Scalar.muli arg15 c64_i32
  let v380 : BitVec 32 := v379
  let v381 : Index := Scalar.indexCast v380
  let c0_i32_11 : BitVec 32 := 0#32
  let c1_i32_13 : BitVec 32 := 1#32
  let arg14 : BitVec 32 := Scf.iv c0_i32_11 c1_i32_13 k0_t1
  let c128_i32 : BitVec 32 := 128#32
  let v25 : BitVec 32 := Scalar.muli arg14 c128_i32
  let v26 : BitVec 32 := v25
  let v382 : Index := Scalar.indexCast v26
  ![v381.toNat, v382.toNat]
def k0_mult3 (k0_t2 : Fin k0_t2_loop.trips) : BitVec 32 :=
  let c0_i32_27 : BitVec 32 := 0#32
  let c1_i32_28 : BitVec 32 := 1#32
  let arg15 : BitVec 32 := Scf.iv c0_i32_27 c1_i32_28 k0_t2
  let c8_i32_163 : BitVec 32 := 8#32
  let v406 : BitVec 32 := Scalar.muli arg15 c8_i32_163
  v406
def k0_off2 (k0_t2 : Fin k0_t2_loop.trips) : Fin 2 → Nat :=
  let c0_i32_27 : BitVec 32 := 0#32
  let c1_i32_28 : BitVec 32 := 1#32
  let arg15 : BitVec 32 := Scf.iv c0_i32_27 c1_i32_28 k0_t2
  let c8_i32_163 : BitVec 32 := 8#32
  let v406 : BitVec 32 := Scalar.muli arg15 c8_i32_163
  let v407 : BitVec 32 := v406
  let v408 : Index := Scalar.indexCast v407
  let c0_164 : Index := 0#32
  ![v408.toNat, 0]
def k0_off3 (k0_t1 : Fin k0_t1_loop.trips) : Fin 3 → Nat :=
  let c0_60 : Index := 0#32
  let c0_61 : Index := 0#32
  let c0_i32_11 : BitVec 32 := 0#32
  let c1_i32_13 : BitVec 32 := 1#32
  let arg14 : BitVec 32 := Scf.iv c0_i32_11 c1_i32_13 k0_t1
  let c128_i32 : BitVec 32 := 128#32
  let v25 : BitVec 32 := Scalar.muli arg14 c128_i32
  let v26 : BitVec 32 := v25
  let v144 : Index := Scalar.indexCast v26
  ![0, 0, v144.toNat]
def k0_off4 (k0_t1 : Fin k0_t1_loop.trips) : Fin 3 → Nat :=
  let c1_106 : Index := 1#32
  let c0_107 : Index := 0#32
  let c0_i32_11 : BitVec 32 := 0#32
  let c1_i32_13 : BitVec 32 := 1#32
  let arg14 : BitVec 32 := Scf.iv c0_i32_11 c1_i32_13 k0_t1
  let c128_i32 : BitVec 32 := 128#32
  let v25 : BitVec 32 := Scalar.muli arg14 c128_i32
  let v26 : BitVec 32 := v25
  let v249 : Index := Scalar.indexCast v26
  ![1, 0, v249.toNat]
def k0_off5 (k0_t1 : Fin k0_t1_loop.trips) : Fin 3 → Nat :=
  let c2_151 : Index := 2#32
  let c0_152 : Index := 0#32
  let c0_i32_11 : BitVec 32 := 0#32
  let c1_i32_13 : BitVec 32 := 1#32
  let arg14 : BitVec 32 := Scf.iv c0_i32_11 c1_i32_13 k0_t1
  let c128_i32 : BitVec 32 := 128#32
  let v25 : BitVec 32 := Scalar.muli arg14 c128_i32
  let v26 : BitVec 32 := v25
  let v354 : Index := Scalar.indexCast v26
  ![2, 0, v354.toNat]
@[reducible] def k0_t3_loop : Scf.Loop 32 :=
  let c0_i32_159 : BitVec 32 := 0#32
  let c15_i32 : BitVec 32 := 15#32
  let v378 : BitVec 32 := Scalar.addi c0_i32_159 c15_i32
  let c1_i32_160 : BitVec 32 := 1#32
  ⟨c0_i32_159, v378, c1_i32_160⟩
def k0_mult4 (k0_t3 : Fin k0_t3_loop.trips) : BitVec 32 :=
  let c2_i32_162 : BitVec 32 := 2#32
  let c0_i32_159 : BitVec 32 := 0#32
  let c1_i32_160 : BitVec 32 := 1#32
  let arg15 : BitVec 32 := Scf.iv c0_i32_159 c1_i32_160 k0_t3
  let v379 : BitVec 32 := Scalar.muli c2_i32_162 arg15
  let c0_i32_163 : BitVec 32 := 0#32
  let v380 : BitVec 32 := Scalar.addi v379 c0_i32_163
  let c64_i32 : BitVec 32 := 64#32
  let v381 : BitVec 32 := Scalar.muli v380 c64_i32
  v381
def k0_off6 (k0_t1 : Fin k0_t1_loop.trips) (k0_t3 : Fin k0_t3_loop.trips) (c0_i32_163 : BitVec 32) : Fin 2 → Nat :=
  let c2_i32_162 : BitVec 32 := 2#32
  let c0_i32_159 : BitVec 32 := 0#32
  let c1_i32_160 : BitVec 32 := 1#32
  let arg15 : BitVec 32 := Scf.iv c0_i32_159 c1_i32_160 k0_t3
  let v379 : BitVec 32 := Scalar.muli c2_i32_162 arg15
  let v380 : BitVec 32 := Scalar.addi v379 c0_i32_163
  let c64_i32 : BitVec 32 := 64#32
  let v381 : BitVec 32 := Scalar.muli v380 c64_i32
  let v382 : BitVec 32 := v381
  let v383 : Index := Scalar.indexCast v382
  let c0_i32_11 : BitVec 32 := 0#32
  let c1_i32_13 : BitVec 32 := 1#32
  let arg14 : BitVec 32 := Scf.iv c0_i32_11 c1_i32_13 k0_t1
  let c128_i32 : BitVec 32 := 128#32
  let v25 : BitVec 32 := Scalar.muli arg14 c128_i32
  let v26 : BitVec 32 := v25
  let v384 : Index := Scalar.indexCast v26
  ![v383.toNat, v384.toNat]
def k0_off7 (k0_t3 : Fin k0_t3_loop.trips) (c0_i32_163 : BitVec 32) : Fin 2 → Nat :=
  let c2_i32_162 : BitVec 32 := 2#32
  let c0_i32_159 : BitVec 32 := 0#32
  let c1_i32_160 : BitVec 32 := 1#32
  let arg15 : BitVec 32 := Scf.iv c0_i32_159 c1_i32_160 k0_t3
  let v379 : BitVec 32 := Scalar.muli c2_i32_162 arg15
  let v380 : BitVec 32 := Scalar.addi v379 c0_i32_163
  let v387 : Index := Scalar.indexCast v380
  let c0_164 : Index := 0#32
  ![v387.toNat, 0]
def k0_mult5 (k0_t3 : Fin k0_t3_loop.trips) : BitVec 32 :=
  let c2_i32_162 : BitVec 32 := 2#32
  let c0_i32_159 : BitVec 32 := 0#32
  let c1_i32_160 : BitVec 32 := 1#32
  let arg15 : BitVec 32 := Scf.iv c0_i32_159 c1_i32_160 k0_t3
  let v379 : BitVec 32 := Scalar.muli c2_i32_162 arg15
  let c0_i32_163 : BitVec 32 := 0#32
  let v380 : BitVec 32 := Scalar.addi v379 c0_i32_163
  let c32_i32 : BitVec 32 := 32#32
  let v489 : BitVec 32 := Scalar.muli v380 c32_i32
  v489
def k0_off8 (k0_t1 : Fin k0_t1_loop.trips) (k0_t3 : Fin k0_t3_loop.trips) (c0_i32_163 : BitVec 32) : Fin 2 → Nat :=
  let c2_i32_162 : BitVec 32 := 2#32
  let c0_i32_159 : BitVec 32 := 0#32
  let c1_i32_160 : BitVec 32 := 1#32
  let arg15 : BitVec 32 := Scf.iv c0_i32_159 c1_i32_160 k0_t3
  let v379 : BitVec 32 := Scalar.muli c2_i32_162 arg15
  let v380 : BitVec 32 := Scalar.addi v379 c0_i32_163
  let c32_i32 : BitVec 32 := 32#32
  let v489 : BitVec 32 := Scalar.muli v380 c32_i32
  let v490 : BitVec 32 := v489
  let v491 : Index := Scalar.indexCast v490
  let c0_i32_11 : BitVec 32 := 0#32
  let c1_i32_13 : BitVec 32 := 1#32
  let arg14 : BitVec 32 := Scf.iv c0_i32_11 c1_i32_13 k0_t1
  let c128_i32 : BitVec 32 := 128#32
  let v25 : BitVec 32 := Scalar.muli arg14 c128_i32
  let v26 : BitVec 32 := v25
  let v492 : Index := Scalar.indexCast v26
  ![v491.toNat, v492.toNat]
def k0_mult6 (k0_t3 : Fin k0_t3_loop.trips) : BitVec 32 :=
  let c2_i32_192 : BitVec 32 := 2#32
  let c0_i32_159 : BitVec 32 := 0#32
  let c1_i32_160 : BitVec 32 := 1#32
  let arg15 : BitVec 32 := Scf.iv c0_i32_159 c1_i32_160 k0_t3
  let v495 : BitVec 32 := Scalar.muli c2_i32_192 arg15
  let c1_i32_193 : BitVec 32 := 1#32
  let v496 : BitVec 32 := Scalar.addi v495 c1_i32_193
  let c64_i32_194 : BitVec 32 := 64#32
  let v497 : BitVec 32 := Scalar.muli v496 c64_i32_194
  v497
def k0_mult7 (k0_t3 : Fin k0_t3_loop.trips) : BitVec 32 :=
  let c2_i32_192 : BitVec 32 := 2#32
  let c0_i32_159 : BitVec 32 := 0#32
  let c1_i32_160 : BitVec 32 := 1#32
  let arg15 : BitVec 32 := Scf.iv c0_i32_159 c1_i32_160 k0_t3
  let v495 : BitVec 32 := Scalar.muli c2_i32_192 arg15
  let c1_i32_193 : BitVec 32 := 1#32
  let v496 : BitVec 32 := Scalar.addi v495 c1_i32_193
  let c32_i32_229 : BitVec 32 := 32#32
  let v605 : BitVec 32 := Scalar.muli v496 c32_i32_229
  v605
def k0_mult8 (k0_t3 : Fin k0_t3_loop.trips) : BitVec 32 :=
  let c0_i32_159 : BitVec 32 := 0#32
  let c1_i32_160 : BitVec 32 := 1#32
  let arg15 : BitVec 32 := Scf.iv c0_i32_159 c1_i32_160 k0_t3
  let c128_i32_230 : BitVec 32 := 128#32
  let v612 : BitVec 32 := Scalar.muli arg15 c128_i32_230
  v612
def k0_off9 (k0_t1 : Fin k0_t1_loop.trips) (k0_t3 : Fin k0_t3_loop.trips) : Fin 2 → Nat :=
  let c0_i32_159 : BitVec 32 := 0#32
  let c1_i32_160 : BitVec 32 := 1#32
  let arg15 : BitVec 32 := Scf.iv c0_i32_159 c1_i32_160 k0_t3
  let c128_i32_230 : BitVec 32 := 128#32
  let v612 : BitVec 32 := Scalar.muli arg15 c128_i32_230
  let v613 : BitVec 32 := v612
  let v614 : Index := Scalar.indexCast v613
  let c0_i32_11 : BitVec 32 := 0#32
  let c1_i32_13 : BitVec 32 := 1#32
  let arg14 : BitVec 32 := Scf.iv c0_i32_11 c1_i32_13 k0_t1
  let c128_i32 : BitVec 32 := 128#32
  let v25 : BitVec 32 := Scalar.muli arg14 c128_i32
  let v26 : BitVec 32 := v25
  let v615 : Index := Scalar.indexCast v26
  ![v614.toNat, v615.toNat]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off10 (i : grid0.Coords) : Fin 3 → Nat :=
  let arg0 : BitVec 32 := BitVec.ofNat 32 (i 0).val
  let c1_i32_10 : BitVec 32 := 1#32
  let v21 : BitVec 32 := Scalar.addi arg0 c1_i32_10
  let c2_i32_11 : BitVec 32 := 2#32
  let c0_i32_12 : BitVec 32 := 0#32
  let v22 : BitVec 1 := Scalar.cmpi .eq c2_i32_11 c0_i32_12
  let c1_i32_13 : BitVec 32 := 1#32
  let v23 : BitVec 32 := Scalar.select v22 c1_i32_13 c2_i32_11
  let v24 : BitVec 32 := Scalar.remsi v21 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let v32 : Index := Scalar.indexCast v31
  let c0_17 : Index := 0#32
  let c0_18 : Index := 0#32
  ![v32.toNat, 0, 0]
@[reducible] def k0_t4_loop : Scf.Loop 32 :=
  let c0_i32_7 : BitVec 32 := 0#32
  let c4_i32 : BitVec 32 := 4#32
  let v20 : BitVec 32 := Scalar.addi c0_i32_7 c4_i32
  let c1_i32_8 : BitVec 32 := 1#32
  ⟨c0_i32_7, v20, c1_i32_8⟩
def k0_mult9 (k0_t4 : Fin k0_t4_loop.trips) : BitVec 32 :=
  let c0_i32_7 : BitVec 32 := 0#32
  let c1_i32_8 : BitVec 32 := 1#32
  let arg14 : BitVec 32 := Scf.iv c0_i32_7 c1_i32_8 k0_t4
  let c128_i32 : BitVec 32 := 128#32
  let v21 : BitVec 32 := Scalar.muli arg14 c128_i32
  v21
@[reducible] def k0_t5_loop : Scf.Loop 32 :=
  let c0_i32_24 : BitVec 32 := 0#32
  let c30_i32 : BitVec 32 := 30#32
  let v52 : BitVec 32 := Scalar.addi c0_i32_24 c30_i32
  let c1_i32_25 : BitVec 32 := 1#32
  ⟨c0_i32_24, v52, c1_i32_25⟩
def k0_mult10 (k0_t5 : Fin k0_t5_loop.trips) : BitVec 32 :=
  let c0_i32_24 : BitVec 32 := 0#32
  let c1_i32_25 : BitVec 32 := 1#32
  let arg15 : BitVec 32 := Scf.iv c0_i32_24 c1_i32_25 k0_t5
  let c64_i32 : BitVec 32 := 64#32
  let v377 : BitVec 32 := Scalar.muli arg15 c64_i32
  v377
def k0_off11 (k0_t4 : Fin k0_t4_loop.trips) (k0_t5 : Fin k0_t5_loop.trips) : Fin 2 → Nat :=
  let c0_i32_24 : BitVec 32 := 0#32
  let c1_i32_25 : BitVec 32 := 1#32
  let arg15 : BitVec 32 := Scf.iv c0_i32_24 c1_i32_25 k0_t5
  let c64_i32 : BitVec 32 := 64#32
  let v377 : BitVec 32 := Scalar.muli arg15 c64_i32
  let v378 : BitVec 32 := v377
  let v379 : Index := Scalar.indexCast v378
  let c0_i32_7 : BitVec 32 := 0#32
  let c1_i32_8 : BitVec 32 := 1#32
  let arg14 : BitVec 32 := Scf.iv c0_i32_7 c1_i32_8 k0_t4
  let c128_i32 : BitVec 32 := 128#32
  let v21 : BitVec 32 := Scalar.muli arg14 c128_i32
  let v22 : BitVec 32 := v21
  let v380 : Index := Scalar.indexCast v22
  ![v379.toNat, v380.toNat]
def k0_mult11 (k0_t5 : Fin k0_t5_loop.trips) : BitVec 32 :=
  let c0_i32_24 : BitVec 32 := 0#32
  let c1_i32_25 : BitVec 32 := 1#32
  let arg15 : BitVec 32 := Scf.iv c0_i32_24 c1_i32_25 k0_t5
  let c8_i32 : BitVec 32 := 8#32
  let v404 : BitVec 32 := Scalar.muli arg15 c8_i32
  v404
def k0_off12 (k0_t5 : Fin k0_t5_loop.trips) : Fin 2 → Nat :=
  let c0_i32_24 : BitVec 32 := 0#32
  let c1_i32_25 : BitVec 32 := 1#32
  let arg15 : BitVec 32 := Scf.iv c0_i32_24 c1_i32_25 k0_t5
  let c8_i32 : BitVec 32 := 8#32
  let v404 : BitVec 32 := Scalar.muli arg15 c8_i32
  let v405 : BitVec 32 := v404
  let v406 : Index := Scalar.indexCast v405
  let c0_158 : Index := 0#32
  ![v406.toNat, 0]
def k0_off13 (k0_t4 : Fin k0_t4_loop.trips) : Fin 3 → Nat :=
  let c0_56 : Index := 0#32
  let c0_57 : Index := 0#32
  let c0_i32_7 : BitVec 32 := 0#32
  let c1_i32_8 : BitVec 32 := 1#32
  let arg14 : BitVec 32 := Scf.iv c0_i32_7 c1_i32_8 k0_t4
  let c128_i32 : BitVec 32 := 128#32
  let v21 : BitVec 32 := Scalar.muli arg14 c128_i32
  let v22 : BitVec 32 := v21
  let v142 : Index := Scalar.indexCast v22
  ![0, 0, v142.toNat]
def k0_off14 (k0_t4 : Fin k0_t4_loop.trips) : Fin 3 → Nat :=
  let c1_102 : Index := 1#32
  let c0_103 : Index := 0#32
  let c0_i32_7 : BitVec 32 := 0#32
  let c1_i32_8 : BitVec 32 := 1#32
  let arg14 : BitVec 32 := Scf.iv c0_i32_7 c1_i32_8 k0_t4
  let c128_i32 : BitVec 32 := 128#32
  let v21 : BitVec 32 := Scalar.muli arg14 c128_i32
  let v22 : BitVec 32 := v21
  let v247 : Index := Scalar.indexCast v22
  ![1, 0, v247.toNat]
def k0_off15 (k0_t4 : Fin k0_t4_loop.trips) : Fin 3 → Nat :=
  let c2_147 : Index := 2#32
  let c0_148 : Index := 0#32
  let c0_i32_7 : BitVec 32 := 0#32
  let c1_i32_8 : BitVec 32 := 1#32
  let arg14 : BitVec 32 := Scf.iv c0_i32_7 c1_i32_8 k0_t4
  let c128_i32 : BitVec 32 := 128#32
  let v21 : BitVec 32 := Scalar.muli arg14 c128_i32
  let v22 : BitVec 32 := v21
  let v352 : Index := Scalar.indexCast v22
  ![2, 0, v352.toNat]
@[reducible] def k0_t6_loop : Scf.Loop 32 :=
  let c0_i32_154 : BitVec 32 := 0#32
  let c15_i32 : BitVec 32 := 15#32
  let v376 : BitVec 32 := Scalar.addi c0_i32_154 c15_i32
  let c1_i32_155 : BitVec 32 := 1#32
  ⟨c0_i32_154, v376, c1_i32_155⟩
def k0_mult12 (k0_t6 : Fin k0_t6_loop.trips) : BitVec 32 :=
  let c2_i32_157 : BitVec 32 := 2#32
  let c0_i32_154 : BitVec 32 := 0#32
  let c1_i32_155 : BitVec 32 := 1#32
  let arg15 : BitVec 32 := Scf.iv c0_i32_154 c1_i32_155 k0_t6
  let v377 : BitVec 32 := Scalar.muli c2_i32_157 arg15
  let c0_i32_158 : BitVec 32 := 0#32
  let v378 : BitVec 32 := Scalar.addi v377 c0_i32_158
  let c64_i32 : BitVec 32 := 64#32
  let v379 : BitVec 32 := Scalar.muli v378 c64_i32
  v379
def k0_off16 (k0_t4 : Fin k0_t4_loop.trips) (k0_t6 : Fin k0_t6_loop.trips) (c0_i32_158 : BitVec 32) : Fin 2 → Nat :=
  let c2_i32_157 : BitVec 32 := 2#32
  let c0_i32_154 : BitVec 32 := 0#32
  let c1_i32_155 : BitVec 32 := 1#32
  let arg15 : BitVec 32 := Scf.iv c0_i32_154 c1_i32_155 k0_t6
  let v377 : BitVec 32 := Scalar.muli c2_i32_157 arg15
  let v378 : BitVec 32 := Scalar.addi v377 c0_i32_158
  let c64_i32 : BitVec 32 := 64#32
  let v379 : BitVec 32 := Scalar.muli v378 c64_i32
  let v380 : BitVec 32 := v379
  let v381 : Index := Scalar.indexCast v380
  let c0_i32_7 : BitVec 32 := 0#32
  let c1_i32_8 : BitVec 32 := 1#32
  let arg14 : BitVec 32 := Scf.iv c0_i32_7 c1_i32_8 k0_t4
  let c128_i32 : BitVec 32 := 128#32
  let v21 : BitVec 32 := Scalar.muli arg14 c128_i32
  let v22 : BitVec 32 := v21
  let v382 : Index := Scalar.indexCast v22
  ![v381.toNat, v382.toNat]
def k0_off17 (k0_t6 : Fin k0_t6_loop.trips) (c0_i32_158 : BitVec 32) : Fin 2 → Nat :=
  let c2_i32_157 : BitVec 32 := 2#32
  let c0_i32_154 : BitVec 32 := 0#32
  let c1_i32_155 : BitVec 32 := 1#32
  let arg15 : BitVec 32 := Scf.iv c0_i32_154 c1_i32_155 k0_t6
  let v377 : BitVec 32 := Scalar.muli c2_i32_157 arg15
  let v378 : BitVec 32 := Scalar.addi v377 c0_i32_158
  let v385 : Index := Scalar.indexCast v378
  let c0_159 : Index := 0#32
  ![v385.toNat, 0]
def k0_mult13 (k0_t6 : Fin k0_t6_loop.trips) : BitVec 32 :=
  let c2_i32_157 : BitVec 32 := 2#32
  let c0_i32_154 : BitVec 32 := 0#32
  let c1_i32_155 : BitVec 32 := 1#32
  let arg15 : BitVec 32 := Scf.iv c0_i32_154 c1_i32_155 k0_t6
  let v377 : BitVec 32 := Scalar.muli c2_i32_157 arg15
  let c0_i32_158 : BitVec 32 := 0#32
  let v378 : BitVec 32 := Scalar.addi v377 c0_i32_158
  let c32_i32 : BitVec 32 := 32#32
  let v487 : BitVec 32 := Scalar.muli v378 c32_i32
  v487
def k0_off18 (k0_t4 : Fin k0_t4_loop.trips) (k0_t6 : Fin k0_t6_loop.trips) (c0_i32_158 : BitVec 32) : Fin 2 → Nat :=
  let c2_i32_157 : BitVec 32 := 2#32
  let c0_i32_154 : BitVec 32 := 0#32
  let c1_i32_155 : BitVec 32 := 1#32
  let arg15 : BitVec 32 := Scf.iv c0_i32_154 c1_i32_155 k0_t6
  let v377 : BitVec 32 := Scalar.muli c2_i32_157 arg15
  let v378 : BitVec 32 := Scalar.addi v377 c0_i32_158
  let c32_i32 : BitVec 32 := 32#32
  let v487 : BitVec 32 := Scalar.muli v378 c32_i32
  let v488 : BitVec 32 := v487
  let v489 : Index := Scalar.indexCast v488
  let c0_i32_7 : BitVec 32 := 0#32
  let c1_i32_8 : BitVec 32 := 1#32
  let arg14 : BitVec 32 := Scf.iv c0_i32_7 c1_i32_8 k0_t4
  let c128_i32 : BitVec 32 := 128#32
  let v21 : BitVec 32 := Scalar.muli arg14 c128_i32
  let v22 : BitVec 32 := v21
  let v490 : Index := Scalar.indexCast v22
  ![v489.toNat, v490.toNat]
def k0_mult14 (k0_t6 : Fin k0_t6_loop.trips) : BitVec 32 :=
  let c2_i32_185 : BitVec 32 := 2#32
  let c0_i32_154 : BitVec 32 := 0#32
  let c1_i32_155 : BitVec 32 := 1#32
  let arg15 : BitVec 32 := Scf.iv c0_i32_154 c1_i32_155 k0_t6
  let v493 : BitVec 32 := Scalar.muli c2_i32_185 arg15
  let c1_i32_186 : BitVec 32 := 1#32
  let v494 : BitVec 32 := Scalar.addi v493 c1_i32_186
  let c64_i32_187 : BitVec 32 := 64#32
  let v495 : BitVec 32 := Scalar.muli v494 c64_i32_187
  v495
def k0_mult15 (k0_t6 : Fin k0_t6_loop.trips) : BitVec 32 :=
  let c2_i32_185 : BitVec 32 := 2#32
  let c0_i32_154 : BitVec 32 := 0#32
  let c1_i32_155 : BitVec 32 := 1#32
  let arg15 : BitVec 32 := Scf.iv c0_i32_154 c1_i32_155 k0_t6
  let v493 : BitVec 32 := Scalar.muli c2_i32_185 arg15
  let c1_i32_186 : BitVec 32 := 1#32
  let v494 : BitVec 32 := Scalar.addi v493 c1_i32_186
  let c32_i32_222 : BitVec 32 := 32#32
  let v603 : BitVec 32 := Scalar.muli v494 c32_i32_222
  v603
def k0_mult16 (k0_t6 : Fin k0_t6_loop.trips) : BitVec 32 :=
  let c0_i32_154 : BitVec 32 := 0#32
  let c1_i32_155 : BitVec 32 := 1#32
  let arg15 : BitVec 32 := Scf.iv c0_i32_154 c1_i32_155 k0_t6
  let c128_i32_223 : BitVec 32 := 128#32
  let v611 : BitVec 32 := Scalar.muli arg15 c128_i32_223
  v611
def k0_off19 (i : grid0.Coords) (k0_t4 : Fin k0_t4_loop.trips) (k0_t6 : Fin k0_t6_loop.trips) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let v613 : Index := Scalar.indexCast v15
  let c0_i32_7 : BitVec 32 := 0#32
  let c1_i32_8 : BitVec 32 := 1#32
  let arg14 : BitVec 32 := Scf.iv c0_i32_7 c1_i32_8 k0_t4
  let c128_i32 : BitVec 32 := 128#32
  let v21 : BitVec 32 := Scalar.muli arg14 c128_i32
  let v22 : BitVec 32 := v21
  let v614 : Index := Scalar.indexCast v22
  let c0_i32_154 : BitVec 32 := 0#32
  let c1_i32_155 : BitVec 32 := 1#32
  let arg15 : BitVec 32 := Scf.iv c0_i32_154 c1_i32_155 k0_t6
  let c128_i32_223 : BitVec 32 := 128#32
  let v611 : BitVec 32 := Scalar.muli arg15 c128_i32_223
  let v612 : BitVec 32 := v611
  let v615 : Index := Scalar.indexCast v612
  ![v613.toNat, v614.toNat, v615.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1920x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1920x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S960x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x10x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S960x2048 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x10x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F]
-- ==== ReferenceIdeal.lean ====
abbrev S3x640x7168 : Shape := ⟨3, ![3, 640, 7168]⟩
abbrev S3x640x2048 : Shape := ⟨3, ![3, 640, 2048]⟩
abbrev S2 : Shape := ⟨1, ![2]⟩
abbrev S1 : Shape := ⟨1, ![1]⟩
abbrev S_ : Shape := ⟨0, ![]⟩
abbrev S3x320x14336 : Shape := ⟨3, ![3, 320, 14336]⟩
abbrev S3x320x7168 : Shape := ⟨3, ![3, 320, 7168]⟩
abbrev S3x10x32x7168 : Shape := ⟨4, ![3, 10, 32, 7168]⟩
abbrev S3x10x7168 : Shape := ⟨3, ![3, 10, 7168]⟩
abbrev S3x10x1x7168 : Shape := ⟨4, ![3, 10, 1, 7168]⟩
abbrev S3x320x4096 : Shape := ⟨3, ![3, 320, 4096]⟩
abbrev S3x320x2048 : Shape := ⟨3, ![3, 320, 2048]⟩
abbrev S3x10x32x2048 : Shape := ⟨4, ![3, 10, 32, 2048]⟩
abbrev S3x10x2048 : Shape := ⟨3, ![3, 10, 2048]⟩
abbrev S3x10x1x2048 : Shape := ⟨4, ![3, 10, 1, 2048]⟩
abbrev S960x7168 : Shape := ⟨2, ![960, 7168]⟩
abbrev S960x2048 : Shape := ⟨2, ![960, 2048]⟩
abbrev S7168x2048 : Shape := ⟨2, ![7168, 2048]⟩

abbrev nBuf : Space → Nat
  | .hbm => 412
  | .vmem => 0
  | .smem => 0
  | _ => 0

abbrev hbmTy0_0 (i : Nat) : BufTy := match i % 128 with
  | 0 => ⟨S3x640x7168, .bf16⟩
  | 1 => ⟨S3x640x2048, .bf16⟩
  | 2 => ⟨S2, .i32⟩
  | 3 => ⟨S1, .i32⟩
  | 4 => ⟨S_, .i32⟩
  | 5 => ⟨S3x320x14336, .bf16⟩
  | 6 => ⟨S3x320x7168, .bf16⟩
  | 7 => ⟨S3x320x7168, .f32⟩
  | 8 => ⟨S3x10x32x7168, .f32⟩
  | 9 => ⟨S3x320x7168, .bf16⟩
  | 10 => ⟨S3x320x7168, .f32⟩
  | 11 => ⟨S3x10x32x7168, .f32⟩
  | 12 => ⟨S3x10x32x7168, .f32⟩
  | 13 => ⟨S_, .f32⟩
  | 14 => ⟨S3x10x7168, .f32⟩
  | 15 => ⟨S3x10x32x7168, .f32⟩
  | 16 => ⟨S_, .f32⟩
  | 17 => ⟨S3x10x7168, .f32⟩
  | 18 => ⟨S3x10x7168, .f32⟩
  | 19 => ⟨S_, .f32⟩
  | 20 => ⟨S3x10x7168, .f32⟩
  | 21 => ⟨S3x10x7168, .f32⟩
  | 22 => ⟨S3x10x7168, .f32⟩
  | 23 => ⟨S3x10x7168, .f32⟩
  | 24 => ⟨S3x10x7168, .f32⟩
  | 25 => ⟨S_, .f32⟩
  | 26 => ⟨S3x10x7168, .f32⟩
  | 27 => ⟨S3x10x7168, .f32⟩
  | 28 => ⟨S_, .f32⟩
  | 29 => ⟨S3x10x7168, .f32⟩
  | 30 => ⟨S3x10x7168, .i1⟩
  | 31 => ⟨S_, .f32⟩
  | 32 => ⟨S3x10x7168, .f32⟩
  | 33 => ⟨S3x10x7168, .f32⟩
  | 34 => ⟨S3x10x7168, .f32⟩
  | 35 => ⟨S_, .f32⟩
  | 36 => ⟨S3x10x7168, .f32⟩
  | 37 => ⟨S3x10x7168, .f32⟩
  | 38 => ⟨S_, .f32⟩
  | 39 => ⟨S3x10x7168, .f32⟩
  | 40 => ⟨S3x10x7168, .f32⟩
  | 41 => ⟨S3x10x7168, .f32⟩
  | 42 => ⟨S_, .f32⟩
  | 43 => ⟨S3x10x7168, .f32⟩
  | 44 => ⟨S3x10x7168, .f32⟩
  | 45 => ⟨S3x10x1x7168, .f32⟩
  | 46 => ⟨S3x320x7168, .i32⟩
  | 47 => ⟨S3x320x7168, .i32⟩
  | 48 => ⟨S3x320x7168, .i32⟩
  | 49 => ⟨S_, .i32⟩
  | 50 => ⟨S3x320x7168, .i32⟩
  | 51 => ⟨S3x320x7168, .i32⟩
  | 52 => ⟨S_, .i32⟩
  | 53 => ⟨S3x320x7168, .i32⟩
  | 54 => ⟨S3x320x7168, .i32⟩
  | 55 => ⟨S3x320x7168, .i32⟩
  | 56 => ⟨S_, .i32⟩
  | 57 => ⟨S3x320x7168, .i32⟩
  | 58 => ⟨S3x320x7168, .i32⟩
  | 59 => ⟨S_, .i32⟩
  | 60 => ⟨S3x320x7168, .i32⟩
  | 61 => ⟨S3x320x7168, .i32⟩
  | 62 => ⟨S3x320x7168, .i32⟩
  | 63 => ⟨S3x320x7168, .i32⟩
  | 64 => ⟨S3x320x7168, .i32⟩
  | 65 => ⟨S_, .i32⟩
  | 66 => ⟨S3x320x7168, .i32⟩
  | 67 => ⟨S3x320x7168, .i32⟩
  | 68 => ⟨S3x320x7168, .i32⟩
  | 69 => ⟨S_, .i32⟩
  | 70 => ⟨S3x320x7168, .i32⟩
  | 71 => ⟨S3x320x7168, .i32⟩
  | 72 => ⟨S_, .i32⟩
  | 73 => ⟨S3x320x7168, .i32⟩
  | 74 => ⟨S3x320x7168, .i32⟩
  | 75 => ⟨S3x320x7168, .i32⟩
  | 76 => ⟨S_, .i32⟩
  | 77 => ⟨S3x320x7168, .i32⟩
  | 78 => ⟨S3x320x7168, .i32⟩
  | 79 => ⟨S_, .i32⟩
  | 80 => ⟨S3x320x7168, .i32⟩
  | 81 => ⟨S3x320x7168, .i32⟩
  | 82 => ⟨S3x320x7168, .i32⟩
  | 83 => ⟨S_, .i32⟩
  | 84 => ⟨S3x320x7168, .i32⟩
  | 85 => ⟨S3x320x7168, .i32⟩
  | 86 => ⟨S3x320x7168, .f32⟩
  | 87 => ⟨S_, .f32⟩
  | 88 => ⟨S3x320x7168, .f32⟩
  | 89 => ⟨S3x320x7168, .f32⟩
  | 90 => ⟨S3x10x32x7168, .f32⟩
  | 91 => ⟨S3x320x7168, .i32⟩
  | 92 => ⟨S3x320x7168, .i32⟩
  | 93 => ⟨S3x320x7168, .i32⟩
  | 94 => ⟨S_, .i32⟩
  | 95 => ⟨S3x320x7168, .i32⟩
  | 96 => ⟨S3x320x7168, .i32⟩
  | 97 => ⟨S_, .i32⟩
  | 98 => ⟨S3x320x7168, .i32⟩
  | 99 => ⟨S3x320x7168, .i32⟩
  | 100 => ⟨S3x320x7168, .i32⟩
  | 101 => ⟨S_, .i32⟩
  | 102 => ⟨S3x320x7168, .i32⟩
  | 103 => ⟨S3x320x7168, .i32⟩
  | 104 => ⟨S_, .i32⟩
  | 105 => ⟨S3x320x7168, .i32⟩
  | 106 => ⟨S3x320x7168, .i32⟩
  | 107 => ⟨S3x320x7168, .i32⟩
  | 108 => ⟨S3x320x7168, .i32⟩
  | 109 => ⟨S3x320x7168, .i32⟩
  | 110 => ⟨S_, .i32⟩
  | 111 => ⟨S3x320x7168, .i32⟩
  | 112 => ⟨S3x320x7168, .i32⟩
  | 113 => ⟨S3x320x7168, .i32⟩
  | 114 => ⟨S_, .i32⟩
  | 115 => ⟨S3x320x7168, .i32⟩
  | 116 => ⟨S3x320x7168, .i32⟩
  | 117 => ⟨S_, .i32⟩
  | 118 => ⟨S3x320x7168, .i32⟩
  | 119 => ⟨S3x320x7168, .i32⟩
  | 120 => ⟨S3x320x7168, .i32⟩
  | 121 => ⟨S_, .i32⟩
  | 122 => ⟨S3x320x7168, .i32⟩
  | 123 => ⟨S3x320x7168, .i32⟩
  | 124 => ⟨S_, .i32⟩
  | 125 => ⟨S3x320x7168, .i32⟩
  | 126 => ⟨S3x320x7168, .i32⟩
  | 127 => ⟨S3x320x7168, .i32⟩
  | _ => ⟨S3x640x7168, .bf16⟩

abbrev hbmTy0_1 (i : Nat) : BufTy := match i % 128 with
  | 0 => ⟨S_, .i32⟩
  | 1 => ⟨S3x320x7168, .i32⟩
  | 2 => ⟨S3x320x7168, .i32⟩
  | 3 => ⟨S3x320x7168, .f32⟩
  | 4 => ⟨S_, .f32⟩
  | 5 => ⟨S3x320x7168, .f32⟩
  | 6 => ⟨S3x320x7168, .f32⟩
  | 7 => ⟨S3x10x32x7168, .f32⟩
  | 8 => ⟨S3x10x32x7168, .f32⟩
  | 9 => ⟨S3x10x32x7168, .f32⟩
  | 10 => ⟨S3x10x32x7168, .f32⟩
  | 11 => ⟨S3x10x32x7168, .f32⟩
  | 12 => ⟨S_, .i32⟩
  | 13 => ⟨S_, .i32⟩
  | 14 => ⟨S_, .f32⟩
  | 15 => ⟨S3x10x32x7168, .f32⟩
  | 16 => ⟨S3x10x32x7168, .f32⟩
  | 17 => ⟨S_, .f32⟩
  | 18 => ⟨S3x10x32x7168, .f32⟩
  | 19 => ⟨S3x10x32x7168, .f32⟩
  | 20 => ⟨S3x10x32x7168, .i32⟩
  | 21 => ⟨S3x10x32x7168, .f32⟩
  | 22 => ⟨S3x10x32x7168, .f32⟩
  | 23 => ⟨S3x10x32x7168, .f32⟩
  | 24 => ⟨S3x10x32x7168, .f32⟩
  | 25 => ⟨S_, .i32⟩
  | 26 => ⟨S_, .i32⟩
  | 27 => ⟨S_, .f32⟩
  | 28 => ⟨S3x10x32x7168, .f32⟩
  | 29 => ⟨S3x10x32x7168, .f32⟩
  | 30 => ⟨S_, .f32⟩
  | 31 => ⟨S3x10x32x7168, .f32⟩
  | 32 => ⟨S3x10x32x7168, .f32⟩
  | 33 => ⟨S3x10x32x7168, .i32⟩
  | 34 => ⟨S_, .i32⟩
  | 35 => ⟨S3x10x32x7168, .i32⟩
  | 36 => ⟨S3x10x32x7168, .i32⟩
  | 37 => ⟨S_, .i32⟩
  | 38 => ⟨S3x10x32x7168, .i32⟩
  | 39 => ⟨S3x10x32x7168, .i32⟩
  | 40 => ⟨S_, .i32⟩
  | 41 => ⟨S3x10x32x7168, .i32⟩
  | 42 => ⟨S3x10x32x7168, .i32⟩
  | 43 => ⟨S3x10x32x7168, .i32⟩
  | 44 => ⟨S3x10x32x7168, .i8⟩
  | 45 => ⟨S3x320x7168, .i8⟩
  | 46 => ⟨S1, .i32⟩
  | 47 => ⟨S_, .i32⟩
  | 48 => ⟨S3x320x4096, .bf16⟩
  | 49 => ⟨S3x320x2048, .bf16⟩
  | 50 => ⟨S3x320x2048, .f32⟩
  | 51 => ⟨S3x10x32x2048, .f32⟩
  | 52 => ⟨S3x320x2048, .bf16⟩
  | 53 => ⟨S3x320x2048, .f32⟩
  | 54 => ⟨S3x10x32x2048, .f32⟩
  | 55 => ⟨S3x10x32x2048, .f32⟩
  | 56 => ⟨S_, .f32⟩
  | 57 => ⟨S3x10x2048, .f32⟩
  | 58 => ⟨S3x10x32x2048, .f32⟩
  | 59 => ⟨S_, .f32⟩
  | 60 => ⟨S3x10x2048, .f32⟩
  | 61 => ⟨S3x10x2048, .f32⟩
  | 62 => ⟨S_, .f32⟩
  | 63 => ⟨S3x10x2048, .f32⟩
  | 64 => ⟨S3x10x2048, .f32⟩
  | 65 => ⟨S3x10x2048, .f32⟩
  | 66 => ⟨S3x10x2048, .f32⟩
  | 67 => ⟨S3x10x2048, .f32⟩
  | 68 => ⟨S_, .f32⟩
  | 69 => ⟨S3x10x2048, .f32⟩
  | 70 => ⟨S3x10x2048, .f32⟩
  | 71 => ⟨S_, .f32⟩
  | 72 => ⟨S3x10x2048, .f32⟩
  | 73 => ⟨S3x10x2048, .i1⟩
  | 74 => ⟨S_, .f32⟩
  | 75 => ⟨S3x10x2048, .f32⟩
  | 76 => ⟨S3x10x2048, .f32⟩
  | 77 => ⟨S3x10x2048, .f32⟩
  | 78 => ⟨S_, .f32⟩
  | 79 => ⟨S3x10x2048, .f32⟩
  | 80 => ⟨S3x10x2048, .f32⟩
  | 81 => ⟨S_, .f32⟩
  | 82 => ⟨S3x10x2048, .f32⟩
  | 83 => ⟨S3x10x2048, .f32⟩
  | 84 => ⟨S3x10x2048, .f32⟩
  | 85 => ⟨S_, .f32⟩
  | 86 => ⟨S3x10x2048, .f32⟩
  | 87 => ⟨S3x10x2048, .f32⟩
  | 88 => ⟨S3x10x1x2048, .f32⟩
  | 89 => ⟨S3x320x2048, .i32⟩
  | 90 => ⟨S3x320x2048, .i32⟩
  | 91 => ⟨S3x320x2048, .i32⟩
  | 92 => ⟨S_, .i32⟩
  | 93 => ⟨S3x320x2048, .i32⟩
  | 94 => ⟨S3x320x2048, .i32⟩
  | 95 => ⟨S_, .i32⟩
  | 96 => ⟨S3x320x2048, .i32⟩
  | 97 => ⟨S3x320x2048, .i32⟩
  | 98 => ⟨S3x320x2048, .i32⟩
  | 99 => ⟨S_, .i32⟩
  | 100 => ⟨S3x320x2048, .i32⟩
  | 101 => ⟨S3x320x2048, .i32⟩
  | 102 => ⟨S_, .i32⟩
  | 103 => ⟨S3x320x2048, .i32⟩
  | 104 => ⟨S3x320x2048, .i32⟩
  | 105 => ⟨S3x320x2048, .i32⟩
  | 106 => ⟨S3x320x2048, .i32⟩
  | 107 => ⟨S3x320x2048, .i32⟩
  | 108 => ⟨S_, .i32⟩
  | 109 => ⟨S3x320x2048, .i32⟩
  | 110 => ⟨S3x320x2048, .i32⟩
  | 111 => ⟨S3x320x2048, .i32⟩
  | 112 => ⟨S_, .i32⟩
  | 113 => ⟨S3x320x2048, .i32⟩
  | 114 => ⟨S3x320x2048, .i32⟩
  | 115 => ⟨S_, .i32⟩
  | 116 => ⟨S3x320x2048, .i32⟩
  | 117 => ⟨S3x320x2048, .i32⟩
  | 118 => ⟨S3x320x2048, .i32⟩
  | 119 => ⟨S_, .i32⟩
  | 120 => ⟨S3x320x2048, .i32⟩
  | 121 => ⟨S3x320x2048, .i32⟩
  | 122 => ⟨S_, .i32⟩
  | 123 => ⟨S3x320x2048, .i32⟩
  | 124 => ⟨S3x320x2048, .i32⟩
  | 125 => ⟨S3x320x2048, .i32⟩
  | 126 => ⟨S_, .i32⟩
  | 127 => ⟨S3x320x2048, .i32⟩
  | _ => ⟨S3x640x7168, .bf16⟩

abbrev hbmTy0_2 (i : Nat) : BufTy := match i % 128 with
  | 0 => ⟨S3x320x2048, .i32⟩
  | 1 => ⟨S3x320x2048, .f32⟩
  | 2 => ⟨S_, .f32⟩
  | 3 => ⟨S3x320x2048, .f32⟩
  | 4 => ⟨S3x320x2048, .f32⟩
  | 5 => ⟨S3x10x32x2048, .f32⟩
  | 6 => ⟨S3x320x2048, .i32⟩
  | 7 => ⟨S3x320x2048, .i32⟩
  | 8 => ⟨S3x320x2048, .i32⟩
  | 9 => ⟨S_, .i32⟩
  | 10 => ⟨S3x320x2048, .i32⟩
  | 11 => ⟨S3x320x2048, .i32⟩
  | 12 => ⟨S_, .i32⟩
  | 13 => ⟨S3x320x2048, .i32⟩
  | 14 => ⟨S3x320x2048, .i32⟩
  | 15 => ⟨S3x320x2048, .i32⟩
  | 16 => ⟨S_, .i32⟩
  | 17 => ⟨S3x320x2048, .i32⟩
  | 18 => ⟨S3x320x2048, .i32⟩
  | 19 => ⟨S_, .i32⟩
  | 20 => ⟨S3x320x2048, .i32⟩
  | 21 => ⟨S3x320x2048, .i32⟩
  | 22 => ⟨S3x320x2048, .i32⟩
  | 23 => ⟨S3x320x2048, .i32⟩
  | 24 => ⟨S3x320x2048, .i32⟩
  | 25 => ⟨S_, .i32⟩
  | 26 => ⟨S3x320x2048, .i32⟩
  | 27 => ⟨S3x320x2048, .i32⟩
  | 28 => ⟨S3x320x2048, .i32⟩
  | 29 => ⟨S_, .i32⟩
  | 30 => ⟨S3x320x2048, .i32⟩
  | 31 => ⟨S3x320x2048, .i32⟩
  | 32 => ⟨S_, .i32⟩
  | 33 => ⟨S3x320x2048, .i32⟩
  | 34 => ⟨S3x320x2048, .i32⟩
  | 35 => ⟨S3x320x2048, .i32⟩
  | 36 => ⟨S_, .i32⟩
  | 37 => ⟨S3x320x2048, .i32⟩
  | 38 => ⟨S3x320x2048, .i32⟩
  | 39 => ⟨S_, .i32⟩
  | 40 => ⟨S3x320x2048, .i32⟩
  | 41 => ⟨S3x320x2048, .i32⟩
  | 42 => ⟨S3x320x2048, .i32⟩
  | 43 => ⟨S_, .i32⟩
  | 44 => ⟨S3x320x2048, .i32⟩
  | 45 => ⟨S3x320x2048, .i32⟩
  | 46 => ⟨S3x320x2048, .f32⟩
  | 47 => ⟨S_, .f32⟩
  | 48 => ⟨S3x320x2048, .f32⟩
  | 49 => ⟨S3x320x2048, .f32⟩
  | 50 => ⟨S3x10x32x2048, .f32⟩
  | 51 => ⟨S3x10x32x2048, .f32⟩
  | 52 => ⟨S3x10x32x2048, .f32⟩
  | 53 => ⟨S3x10x32x2048, .f32⟩
  | 54 => ⟨S3x10x32x2048, .f32⟩
  | 55 => ⟨S_, .i32⟩
  | 56 => ⟨S_, .i32⟩
  | 57 => ⟨S_, .f32⟩
  | 58 => ⟨S3x10x32x2048, .f32⟩
  | 59 => ⟨S3x10x32x2048, .f32⟩
  | 60 => ⟨S_, .f32⟩
  | 61 => ⟨S3x10x32x2048, .f32⟩
  | 62 => ⟨S3x10x32x2048, .f32⟩
  | 63 => ⟨S3x10x32x2048, .i32⟩
  | 64 => ⟨S3x10x32x2048, .f32⟩
  | 65 => ⟨S3x10x32x2048, .f32⟩
  | 66 => ⟨S3x10x32x2048, .f32⟩
  | 67 => ⟨S3x10x32x2048, .f32⟩
  | 68 => ⟨S_, .i32⟩
  | 69 => ⟨S_, .i32⟩
  | 70 => ⟨S_, .f32⟩
  | 71 => ⟨S3x10x32x2048, .f32⟩
  | 72 => ⟨S3x10x32x2048, .f32⟩
  | 73 => ⟨S_, .f32⟩
  | 74 => ⟨S3x10x32x2048, .f32⟩
  | 75 => ⟨S3x10x32x2048, .f32⟩
  | 76 => ⟨S3x10x32x2048, .i32⟩
  | 77 => ⟨S_, .i32⟩
  | 78 => ⟨S3x10x32x2048, .i32⟩
  | 79 => ⟨S3x10x32x2048, .i32⟩
  | 80 => ⟨S_, .i32⟩
  | 81 => ⟨S3x10x32x2048, .i32⟩
  | 82 => ⟨S3x10x32x2048, .i32⟩
  | 83 => ⟨S_, .i32⟩
  | 84 => ⟨S3x10x32x2048, .i32⟩
  | 85 => ⟨S3x10x32x2048, .i32⟩
  | 86 => ⟨S3x10x32x2048, .i32⟩
  | 87 => ⟨S3x10x32x2048, .i8⟩
  | 88 => ⟨S3x320x2048, .i8⟩
  | 89 => ⟨S3x320x7168, .i32⟩
  | 90 => ⟨S_, .i32⟩
  | 91 => ⟨S3x320x7168, .i32⟩
  | 92 => ⟨S3x320x7168, .i32⟩
  | 93 => ⟨S_, .i32⟩
  | 94 => ⟨S3x320x7168, .i32⟩
  | 95 => ⟨S3x320x7168, .i32⟩
  | 96 => ⟨S_, .i32⟩
  | 97 => ⟨S3x320x7168, .i32⟩
  | 98 => ⟨S3x320x7168, .i32⟩
  | 99 => ⟨S_, .i32⟩
  | 100 => ⟨S3x320x7168, .i32⟩
  | 101 => ⟨S3x320x7168, .i32⟩
  | 102 => ⟨S_, .i32⟩
  | 103 => ⟨S3x320x7168, .i32⟩
  | 104 => ⟨S3x320x7168, .i32⟩
  | 105 => ⟨S_, .i32⟩
  | 106 => ⟨S3x320x7168, .i32⟩
  | 107 => ⟨S3x320x7168, .i32⟩
  | 108 => ⟨S3x10x7168, .bf16⟩
  | 109 => ⟨S3x10x1x7168, .bf16⟩
  | 110 => ⟨S3x320x7168, .bf16⟩
  | 111 => ⟨S3x10x32x7168, .bf16⟩
  | 112 => ⟨S3x10x32x7168, .bf16⟩
  | 113 => ⟨S3x10x32x7168, .bf16⟩
  | 114 => ⟨S960x7168, .bf16⟩
  | 115 => ⟨S3x320x7168, .bf16⟩
  | 116 => ⟨S3x10x32x7168, .bf16⟩
  | 117 => ⟨S3x10x32x7168, .bf16⟩
  | 118 => ⟨S3x10x32x7168, .bf16⟩
  | 119 => ⟨S960x7168, .bf16⟩
  | 120 => ⟨S3x320x2048, .i32⟩
  | 121 => ⟨S_, .i32⟩
  | 122 => ⟨S3x320x2048, .i32⟩
  | 123 => ⟨S3x320x2048, .i32⟩
  | 124 => ⟨S_, .i32⟩
  | 125 => ⟨S3x320x2048, .i32⟩
  | 126 => ⟨S3x320x2048, .i32⟩
  | 127 => ⟨S_, .i32⟩
  | _ => ⟨S3x640x7168, .bf16⟩

abbrev hbmTy0_3 (i : Nat) : BufTy := match i % 128 with
  | 0 => ⟨S3x320x2048, .i32⟩
  | 1 => ⟨S3x320x2048, .i32⟩
  | 2 => ⟨S_, .i32⟩
  | 3 => ⟨S3x320x2048, .i32⟩
  | 4 => ⟨S3x320x2048, .i32⟩
  | 5 => ⟨S_, .i32⟩
  | 6 => ⟨S3x320x2048, .i32⟩
  | 7 => ⟨S3x320x2048, .i32⟩
  | 8 => ⟨S_, .i32⟩
  | 9 => ⟨S3x320x2048, .i32⟩
  | 10 => ⟨S3x320x2048, .i32⟩
  | 11 => ⟨S3x10x2048, .bf16⟩
  | 12 => ⟨S3x10x1x2048, .bf16⟩
  | 13 => ⟨S3x320x2048, .bf16⟩
  | 14 => ⟨S3x10x32x2048, .bf16⟩
  | 15 => ⟨S3x10x32x2048, .bf16⟩
  | 16 => ⟨S3x10x32x2048, .bf16⟩
  | 17 => ⟨S960x2048, .bf16⟩
  | 18 => ⟨S3x320x2048, .bf16⟩
  | 19 => ⟨S3x10x32x2048, .bf16⟩
  | 20 => ⟨S3x10x32x2048, .bf16⟩
  | 21 => ⟨S3x10x32x2048, .bf16⟩
  | 22 => ⟨S960x2048, .bf16⟩
  | 23 => ⟨S7168x2048, .f32⟩
  | 24 => ⟨S7168x2048, .f32⟩
  | 25 => ⟨S7168x2048, .f32⟩
  | 26 => ⟨S960x7168, .i8⟩
  | 27 => ⟨S960x2048, .i8⟩
  | _ => ⟨S3x640x7168, .bf16⟩

abbrev hbmTy (i : Nat) : BufTy := match i / 128 with
  | 0 => hbmTy0_0 i
  | 1 => hbmTy0_1 i
  | 2 => hbmTy0_2 i
  | 3 => hbmTy0_3 i
  | _ => ⟨S3x640x7168, .bf16⟩

abbrev bufTy : (tb : Table) → Fin (tcTables nBuf tb) → BufTy
  | .hbm, ⟨i, _⟩ => hbmTy i
  | _, _ => ⟨S3x640x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_call0_v0 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_c_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_12 : Ref sig .tc := ⟨.hbm, 69, rfl⟩
abbrev main_v50 : Ref sig .tc := ⟨.hbm, 70, rfl⟩
abbrev main_v51 : Ref sig .tc := ⟨.hbm, 71, rfl⟩
abbrev main_c_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_14 : Ref sig .tc := ⟨.hbm, 76, rfl⟩
abbrev main_v55 : Ref sig .tc := ⟨.hbm, 77, rfl⟩
abbrev main_v56 : Ref sig .tc := ⟨.hbm, 78, rfl⟩
abbrev main_c_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_18 : Ref sig .tc := ⟨.hbm, 94, rfl⟩
abbrev main_v69 : Ref sig .tc := ⟨.hbm, 95, rfl⟩
abbrev main_v70 : Ref sig .tc := ⟨.hbm, 96, rfl⟩
abbrev main_c_19 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_20 : Ref sig .tc := ⟨.hbm, 101, rfl⟩
abbrev main_v74 : Ref sig .tc := ⟨.hbm, 102, rfl⟩
abbrev main_v75 : Ref sig .tc := ⟨.hbm, 103, rfl⟩
abbrev main_c_21 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_22 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_23 : Ref sig .tc := ⟨.hbm, 114, rfl⟩
abbrev main_v84 : Ref sig .tc := ⟨.hbm, 115, rfl⟩
abbrev main_v85 : Ref sig .tc := ⟨.hbm, 116, rfl⟩
abbrev main_c_24 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_25 : Ref sig .tc := ⟨.hbm, 121, rfl⟩
abbrev main_v89 : Ref sig .tc := ⟨.hbm, 122, rfl⟩
abbrev main_v90 : Ref sig .tc := ⟨.hbm, 123, rfl⟩
abbrev main_c_26 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_27 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_28 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_29 : Ref sig .tc := ⟨.hbm, 140, rfl⟩
abbrev main_c_30 : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_c_31 : Ref sig .tc := ⟨.hbm, 153, rfl⟩
abbrev main_c_32 : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_v110 : Ref sig .tc := ⟨.hbm, 160, rfl⟩
abbrev main_v111 : Ref sig .tc := ⟨.hbm, 161, rfl⟩
abbrev main_c_33 : Ref sig .tc := ⟨.hbm, 162, rfl⟩
abbrev main_v112 : Ref sig .tc := ⟨.hbm, 163, rfl⟩
abbrev main_v113 : Ref sig .tc := ⟨.hbm, 164, rfl⟩
abbrev main_c_34 : Ref sig .tc := ⟨.hbm, 165, rfl⟩
abbrev main_v114 : Ref sig .tc := ⟨.hbm, 166, rfl⟩
abbrev main_v115 : Ref sig .tc := ⟨.hbm, 167, rfl⟩
abbrev main_c_35 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_36 : Ref sig .tc := ⟨.hbm, 184, rfl⟩
abbrev main_v131 : Ref sig .tc := ⟨.hbm, 185, rfl⟩
abbrev main_v132 : Ref sig .tc := ⟨.hbm, 186, rfl⟩
abbrev main_cst_37 : Ref sig .tc := ⟨.hbm, 187, rfl⟩
abbrev main_v133 : Ref sig .tc := ⟨.hbm, 188, rfl⟩
abbrev main_v134 : Ref sig .tc := ⟨.hbm, 189, rfl⟩
abbrev main_cst_38 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_39 : Ref sig .tc := ⟨.hbm, 196, rfl⟩
abbrev main_v140 : Ref sig .tc := ⟨.hbm, 197, rfl⟩
abbrev main_v141 : Ref sig .tc := ⟨.hbm, 198, rfl⟩
abbrev main_cst_40 : Ref sig .tc := ⟨.hbm, 199, rfl⟩
abbrev main_v142 : Ref sig .tc := ⟨.hbm, 200, rfl⟩
abbrev main_v143 : Ref sig .tc := ⟨.hbm, 201, rfl⟩
abbrev main_cst_41 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_42 : Ref sig .tc := ⟨.hbm, 206, rfl⟩
abbrev main_call4_v0 : Ref sig .tc := ⟨.hbm, 207, rfl⟩
abbrev main_v147 : Ref sig .tc := ⟨.hbm, 208, rfl⟩
abbrev main_cst_43 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_cst_44 : Ref sig .tc := ⟨.hbm, 213, rfl⟩
abbrev main_call5_v0 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_c_45 : Ref sig .tc := ⟨.hbm, 220, rfl⟩
abbrev main_v156 : Ref sig .tc := ⟨.hbm, 221, rfl⟩
abbrev main_v157 : Ref sig .tc := ⟨.hbm, 222, rfl⟩
abbrev main_c_46 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_c_47 : Ref sig .tc := ⟨.hbm, 227, rfl⟩
abbrev main_v161 : Ref sig .tc := ⟨.hbm, 228, rfl⟩
abbrev main_v162 : Ref sig .tc := ⟨.hbm, 229, rfl⟩
abbrev main_c_48 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_c_49 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_c_50 : Ref sig .tc := ⟨.hbm, 240, rfl⟩
abbrev main_v171 : Ref sig .tc := ⟨.hbm, 241, rfl⟩
abbrev main_v172 : Ref sig .tc := ⟨.hbm, 242, rfl⟩
abbrev main_c_51 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_c_52 : Ref sig .tc := ⟨.hbm, 247, rfl⟩
abbrev main_v176 : Ref sig .tc := ⟨.hbm, 248, rfl⟩
abbrev main_v177 : Ref sig .tc := ⟨.hbm, 249, rfl⟩
abbrev main_c_53 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_c_54 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_cst_55 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_c_56 : Ref sig .tc := ⟨.hbm, 265, rfl⟩
abbrev main_v190 : Ref sig .tc := ⟨.hbm, 266, rfl⟩
abbrev main_v191 : Ref sig .tc := ⟨.hbm, 267, rfl⟩
abbrev main_c_57 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_c_58 : Ref sig .tc := ⟨.hbm, 272, rfl⟩
abbrev main_v195 : Ref sig .tc := ⟨.hbm, 273, rfl⟩
abbrev main_v196 : Ref sig .tc := ⟨.hbm, 274, rfl⟩
abbrev main_c_59 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_c_60 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_c_61 : Ref sig .tc := ⟨.hbm, 285, rfl⟩
abbrev main_v205 : Ref sig .tc := ⟨.hbm, 286, rfl⟩
abbrev main_v206 : Ref sig .tc := ⟨.hbm, 287, rfl⟩
abbrev main_c_62 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_c_63 : Ref sig .tc := ⟨.hbm, 292, rfl⟩
abbrev main_v210 : Ref sig .tc := ⟨.hbm, 293, rfl⟩
abbrev main_v211 : Ref sig .tc := ⟨.hbm, 294, rfl⟩
abbrev main_c_64 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_c_65 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_cst_66 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_c_67 : Ref sig .tc := ⟨.hbm, 311, rfl⟩
abbrev main_c_68 : Ref sig .tc := ⟨.hbm, 312, rfl⟩
abbrev main_call6_v0 : Ref sig .tc := ⟨.hbm, 313, rfl⟩
abbrev main_call6_v1 : Ref sig .tc := ⟨.hbm, 314, rfl⟩
abbrev main_call6_v2 : Ref sig .tc := ⟨.hbm, 315, rfl⟩
abbrev main_call6_v3 : Ref sig .tc := ⟨.hbm, 316, rfl⟩
abbrev main_call6_v4 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_c_69 : Ref sig .tc := ⟨.hbm, 324, rfl⟩
abbrev main_c_70 : Ref sig .tc := ⟨.hbm, 325, rfl⟩
abbrev main_call7_v0 : Ref sig .tc := ⟨.hbm, 326, rfl⟩
abbrev main_call7_v1 : Ref sig .tc := ⟨.hbm, 327, rfl⟩
abbrev main_call7_v2 : Ref sig .tc := ⟨.hbm, 328, rfl⟩
abbrev main_call7_v3 : Ref sig .tc := ⟨.hbm, 329, rfl⟩
abbrev main_call7_v4 : Ref sig .tc := ⟨.hbm, 330, rfl⟩
abbrev main_v231 : Ref sig .tc := ⟨.hbm, 331, rfl⟩
abbrev main_v232 : Ref sig .tc := ⟨.hbm, 332, rfl⟩
abbrev main_c_71 : Ref sig .tc := ⟨.hbm, 333, rfl⟩
abbrev main_v233 : Ref sig .tc := ⟨.hbm, 334, rfl⟩
abbrev main_v234 : Ref sig .tc := ⟨.hbm, 335, rfl⟩
abbrev main_c_72 : Ref sig .tc := ⟨.hbm, 336, rfl⟩
abbrev main_v235 : Ref sig .tc := ⟨.hbm, 337, rfl⟩
abbrev main_v236 : Ref sig .tc := ⟨.hbm, 338, rfl⟩
abbrev main_c_73 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_v242 : Ref sig .tc := ⟨.hbm, 345, rfl⟩
abbrev main_c_74 : Ref sig .tc := ⟨.hbm, 346, rfl⟩
abbrev main_v243 : Ref sig .tc := ⟨.hbm, 347, rfl⟩
abbrev main_v244 : Ref sig .tc := ⟨.hbm, 348, rfl⟩
abbrev main_c_75 : Ref sig .tc := ⟨.hbm, 349, rfl⟩
abbrev main_v245 : Ref sig .tc := ⟨.hbm, 350, rfl⟩
abbrev main_v246 : Ref sig .tc := ⟨.hbm, 351, rfl⟩
abbrev main_c_76 : Ref sig .tc := ⟨.hbm, 352, rfl⟩
abbrev main_v247 : Ref sig .tc := ⟨.hbm, 353, rfl⟩
abbrev main_v248 : Ref sig .tc := ⟨.hbm, 354, rfl⟩
abbrev main_c_77 : Ref sig .tc := ⟨.hbm, 355, rfl⟩
abbrev main_v249 : Ref sig .tc := ⟨.hbm, 356, rfl⟩
abbrev main_v250 : Ref sig .tc := ⟨.hbm, 357, rfl⟩
abbrev main_c_78 : Ref sig .tc := ⟨.hbm, 358, rfl⟩
abbrev main_v251 : Ref sig .tc := ⟨.hbm, 359, rfl⟩
abbrev main_v252 : Ref sig .tc := ⟨.hbm, 360, rfl⟩
abbrev main_c_79 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩
abbrev main_v256 : Ref sig .tc := ⟨.hbm, 365, rfl⟩
abbrev main_v257 : Ref sig .tc := ⟨.hbm, 366, rfl⟩
abbrev main_v258 : Ref sig .tc := ⟨.hbm, 367, rfl⟩
abbrev main_v259 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_v264 : Ref sig .tc := ⟨.hbm, 373, rfl⟩
abbrev main_v265 : Ref sig .tc := ⟨.hbm, 374, rfl⟩
abbrev main_v266 : Ref sig .tc := ⟨.hbm, 375, rfl⟩
abbrev main_v267 : Ref sig .tc := ⟨.hbm, 376, rfl⟩
abbrev main_c_80 : Ref sig .tc := ⟨.hbm, 377, rfl⟩
abbrev main_v268 : Ref sig .tc := ⟨.hbm, 378, rfl⟩
abbrev main_v269 : Ref sig .tc := ⟨.hbm, 379, rfl⟩
abbrev main_c_81 : Ref sig .tc := ⟨.hbm, 380, rfl⟩
abbrev main_v270 : Ref sig .tc := ⟨.hbm, 381, rfl⟩
abbrev main_v271 : Ref sig .tc := ⟨.hbm, 382, rfl⟩
abbrev main_c_82 : Ref sig .tc := ⟨.hbm, 383, rfl⟩
abbrev main_v272 : Ref sig .tc := ⟨.hbm, 384, rfl⟩
abbrev main_v273 : Ref sig .tc := ⟨.hbm, 385, rfl⟩
abbrev main_c_83 : Ref sig .tc := ⟨.hbm, 386, rfl⟩
abbrev main_v274 : Ref sig .tc := ⟨.hbm, 387, rfl⟩
abbrev main_v275 : Ref sig .tc := ⟨.hbm, 388, rfl⟩
abbrev main_c_84 : Ref sig .tc := ⟨.hbm, 389, rfl⟩
abbrev main_v276 : Ref sig .tc := ⟨.hbm, 390, rfl⟩
abbrev main_v277 : Ref sig .tc := ⟨.hbm, 391, rfl⟩
abbrev main_c_85 : Ref sig .tc := ⟨.hbm, 392, rfl⟩
abbrev main_v278 : Ref sig .tc := ⟨.hbm, 393, rfl⟩
abbrev main_v279 : Ref sig .tc := ⟨.hbm, 394, rfl⟩
abbrev main_v280 : Ref sig .tc := ⟨.hbm, 395, rfl⟩
abbrev main_v281 : Ref sig .tc := ⟨.hbm, 396, rfl⟩
abbrev main_v282 : Ref sig .tc := ⟨.hbm, 397, rfl⟩
abbrev main_v283 : Ref sig .tc := ⟨.hbm, 398, rfl⟩
abbrev main_v284 : Ref sig .tc := ⟨.hbm, 399, rfl⟩
abbrev main_v285 : Ref sig .tc := ⟨.hbm, 400, rfl⟩
abbrev main_v286 : Ref sig .tc := ⟨.hbm, 401, rfl⟩
abbrev main_v287 : Ref sig .tc := ⟨.hbm, 402, rfl⟩
abbrev main_v288 : Ref sig .tc := ⟨.hbm, 403, rfl⟩
abbrev main_v289 : Ref sig .tc := ⟨.hbm, 404, rfl⟩
abbrev main_v290 : Ref sig .tc := ⟨.hbm, 405, rfl⟩
abbrev main_v291 : Ref sig .tc := ⟨.hbm, 406, rfl⟩
abbrev main_v292 : Ref sig .tc := ⟨.hbm, 407, rfl⟩
abbrev main_v293 : Ref sig .tc := ⟨.hbm, 408, rfl⟩
abbrev main_v294 : Ref sig .tc := ⟨.hbm, 409, rfl⟩
abbrev main_v295 : Ref sig .tc := ⟨.hbm, 410, rfl⟩
abbrev main_v296 : Ref sig .tc := ⟨.hbm, 411, rfl⟩

abbrev nD : Nat := 1
abbrev τ : Topo := Topo.v7x

variable {F : FTy → Type} [FloatOps F]
-- ==== Proof.KernelLoops.lean ====
/-
  The two column-group loops of `Kernel`'s body — over `dy`'s sixteen groups of 128 columns and over the four of the
  current tile of `x` — by invariants that name what a trip only reads and leave open what it writes: the frame
  claim asks nothing of the contents.
-/
module

public import proofs.«01_k».proof.Proof.Gen.Kernel.Frame
public import proofs.«01_k».proof.Proof.Gen.Kernel.Loops

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (c : Dev nD) (E : Set ℕ) (i : grid0.Coords)
  (arg1 : Memref sig .tc .smem S2 .i32) (harg1 : arg1.IsWhole)
  (arg2 : Memref sig .tc .vmem S1920x512 .bf16) (harg2 : arg2.IsWhole)
  (arg3 : Memref sig .tc .vmem S1920x2048 .bf16) (harg3 : arg3.IsWhole)
  (arg4 : Memref sig .tc .vmem S512x2048 .f32) (harg4 : arg4.IsWhole)
  (arg5 : Memref sig .tc .vmem S960x512 .i8) (harg5 : arg5.IsWhole)
  (arg6 : Memref sig .tc .vmem S3x10x512 .f32) (harg6 : arg6.IsWhole)
  (arg7 : Memref sig .tc .vmem S960x2048 .i8) (harg7 : arg7.IsWhole)
  (arg8 : Memref sig .tc .vmem S3x10x2048 .f32) (harg8 : arg8.IsWhole)
  (arg9 : Memref sig .tc .vmem S2x512x1920 .bf16) (harg9 : arg9.IsWhole)
  (arg10 : Memref sig .tc .vmem S1920x2048 .bf16) (harg10 : arg10.IsWhole)
  (arg11 : Memref sig .tc .vmem S240x128 .f32) (harg11 : arg11.IsWhole)
  (arg12 : Memref sig .tc .vmem S30x128 .i32) (harg12 : arg12.IsWhole)
  (arg13 : Memref sig .tc .vmem S30x128 .i32) (harg13 : arg13.IsWhole)

/-- What the `dy` loop holds before a trip: `dy`'s block, and its outputs and scratch at some contents. -/
abbrev openDy (X3 : BufTy.Contents (Elt F) arg3.view.ty) : sProp 𝕄 :=
  iprop((arg3.view.loc (c : Thread nD τ) ↦[arg3.view.set]{fullShare} X3) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))

set_option maxHeartbeats 1600000 in
/-- One trip of the `dy` loop from `openDy` to `openDy`. -/
theorem stepDy (k0_h1 : k0_cond1 i = 1#1) (v23 : BitVec 32) (X3 : BufTy.Contents (Elt F) arg3.view.ty) (k : Fin k0_t1_loop.trips) :
    openDy (F := F) c arg3 arg7 arg8 arg10 arg11 arg12 arg13 X3
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 arg9 harg9 arg10 harg10 arg11 harg11 arg12 harg12 arg13 harg13 k0_h1 v23 k PUnit.unit)
          (fun _ => openDy (F := F) c arg3 arg7 arg8 arg10 arg11 arg12 arg13 X3) := by
    unfold k0_t1_body
    iintro ⟨H3, ⟨%f7, H7⟩, ⟨%f8, H8⟩, ⟨%f10, H10⟩, ⟨%f11, H11⟩, ⟨%f12, H12⟩, ⟨%f13, H13⟩⟩
    sl_exec
    sl_step
    isplitl [H3]; · iexact H3
    isplitl [H7]; · iexists _; iexact H7
    isplitl [H8]; · iexists _; iexact H8
    isplitl [H10]; · iexists _; iexact H10
    isplitl [H11]; · iexists _; iexact H11
    isplitl [H12]; · iexists _; iexact H12
    iexists _; iexact H13

set_option warn.classDefReducibility false in
@[sl_loop] def loopInv_k0_t1 (k0_h1 : k0_cond1 i = 1#1) (v23 : BitVec 32) (X3 : BufTy.Contents (Elt F) arg3.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 k0_h1 v23 where
  inv _ _ := openDy (F := F) c arg3 arg7 arg8 arg10 arg11 arg12 arg13 X3
  step k _ := stepDy c E i arg1 harg1 arg2 harg2 arg3 harg3 arg4 harg4 arg5 harg5 arg6 harg6 arg7 harg7 arg8 harg8 arg9 harg9 arg10 harg10 arg11 harg11 arg12 harg12 arg13 harg13 k0_h1 v23 X3 k

/-- What the `x` loop holds before a trip: `x`'s block, and its outputs and scratch at some contents. -/
abbrev openX (X2 : BufTy.Contents (Elt F) arg2.view.ty) : sProp 𝕄 :=
  iprop((arg2.view.loc (c : Thread nD τ) ↦[arg2.view.set]{fullShare} X2) ∗ (∃ f, (arg5.view.loc (c : Thread nD τ) ↦[arg5.view.set]{fullShare} f)) ∗ (∃ f, (arg6.view.loc (c : Thread nD τ) ↦[arg6.view.set]{fullShare} f)) ∗ (∃ f, (arg9.view.loc (c : Thread nD τ) ↦[arg9.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))

set_option maxHeartbeats 1600000 in
/-- One trip of the `x` loop from `openX` to `openX`. -/
theorem stepX (v16 : Elt F .i32) (v19 : BitVec 32) (X2 : BufTy.Contents (Elt F) arg2.view.ty) (k : Fin k0_t4_loop.trips) :
    openX (F := F) c arg2 arg5 arg6 arg9 arg11 arg12 arg13 X2
      ⊢ wp frame (wpE (defs₀ (F := F)) Variants.none (c : Thread nD τ) none) E
          (k0_t4_body (F := F) i arg1 harg1 arg2 harg2 arg3 harg3 arg4 harg4 arg5 harg5 arg6 harg6 arg7 harg7 arg8 harg8 arg9 harg9 arg10 harg10 arg11 harg11 arg12 harg12 arg13 harg13 v16 v19 k PUnit.unit)
          (fun _ => openX (F := F) c arg2 arg5 arg6 arg9 arg11 arg12 arg13 X2) := by
    unfold k0_t4_body
    iintro ⟨H2, ⟨%f5, H5⟩, ⟨%f6, H6⟩, ⟨%f9, H9⟩, ⟨%f11, H11⟩, ⟨%f12, H12⟩, ⟨%f13, H13⟩⟩
    sl_exec
    sl_step
    isplitl [H2]; · iexact H2
    isplitl [H5]; · iexists _; iexact H5
    isplitl [H6]; · iexists _; iexact H6
    isplitl [H9]; · iexists _; iexact H9
    isplitl [H11]; · iexists _; iexact H11
    isplitl [H12]; · iexists _; iexact H12
    iexists _; iexact H13

set_option warn.classDefReducibility false in
@[sl_loop] def loopInv_k0_t4 (v16 : Elt F .i32) (v19 : BitVec 32) (X2 : BufTy.Contents (Elt F) arg2.view.ty) :
    LoopInvTy_k0_t4 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v16 v19 where
  inv _ _ := openX (F := F) c arg2 arg5 arg6 arg9 arg11 arg12 arg13 X2
  step k _ := stepX c E i arg1 harg1 arg2 harg2 arg3 harg3 arg4 harg4 arg5 harg5 arg6 harg6 arg7 harg7 arg8 harg8 arg9 harg9 arg10 harg10 arg11 harg11 arg12 harg12 arg13 harg13 v16 v19 X2 k

end Cert.Proof.Kernel

end
-- ==== Proof.KernelFrame.lean ====
/-
  The frame of `Kernel`: from any memory with zero counters every fair execution ends, the argument arrays unchanged and
  every semaphore counter at zero. Nothing is said of the outputs' contents.

  The grid has two kinds of point: the first quantises `dy` and the first tile of `x`; every later one multiplies the
  tile quantised before it and quantises its own. Each kind's body is one run over the printed skeleton, the loops by
  their invariants (KernelLoops.lean); the pipeline's proof data forgets the outputs.
-/
module

public import proofs.«01_k».proof.Proof.KernelLoops
public import proofs.«01_k».proof.Proof.Gen.Kernel.Points
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rdat (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 1 % 15 := Pipeline.Grid.coords_val t 0 (by decide) rfl
    simp only [cond0_0, k0_cond1, e0]
    word_cmp
   : ∀ t : Fin grid0.N, cond0_0 (grid0.coords t) ↔ t.val % 15 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1920x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1920x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S960x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x10x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S960x2048 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x10x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x512x1920 .bf16 := Memref.whole cc0_scratch0
abbrev scM0_1 : Memref sig .tc .vmem S1920x2048 .bf16 := Memref.whole cc0_scratch1
abbrev scM0_2 : Memref sig .tc .vmem S240x128 .f32 := Memref.whole cc0_scratch2
abbrev scM0_3 : Memref sig .tc .vmem S30x128 .i32 := Memref.whole cc0_scratch3
abbrev scM0_4 : Memref sig .tc .vmem S30x128 .i32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 1000000 in
/-- The body's triple IN CASE A (`scf.if` 0 taken, `scf.if` 1 not taken: points 0): on whole staging memrefs — the inputs' at their contents,
    the FORGOTTEN outputs' (3, 4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S2 .i32) (harg1 : arg1.IsWhole) (arg2 : Memref sig .tc .vmem S1920x512 .bf16) (harg2 : arg2.IsWhole) (arg3 : Memref sig .tc .vmem S1920x2048 .bf16) (harg3 : arg3.IsWhole) (arg4 : Memref sig .tc .vmem S512x2048 .f32) (harg4 : arg4.IsWhole) (arg5 : Memref sig .tc .vmem S960x512 .i8) (harg5 : arg5.IsWhole) (arg6 : Memref sig .tc .vmem S3x10x512 .f32) (harg6 : arg6.IsWhole) (arg7 : Memref sig .tc .vmem S960x2048 .i8) (harg7 : arg7.IsWhole) (arg8 : Memref sig .tc .vmem S3x10x2048 .f32) (harg8 : arg8.IsWhole) (arg9 : Memref sig .tc .vmem S2x512x1920 .bf16) (harg9 : arg9.IsWhole) (arg10 : Memref sig .tc .vmem S1920x2048 .bf16) (harg10 : arg10.IsWhole) (arg11 : Memref sig .tc .vmem S240x128 .f32) (harg11 : arg11.IsWhole) (arg12 : Memref sig .tc .vmem S30x128 .i32) (harg12 : arg12.IsWhole) (arg13 : Memref sig .tc .vmem S30x128 .i32) (harg13 : arg13.IsWhole) (hc0 : cond0_0 i) (hc1 : ¬cond0_1 i)
    (x0 : Vec F S2 .i32) (x1 : Vec F S1920x512 .bf16) (x2 : Vec F S1920x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_hbfp4_wgrad i arg1 harg1 arg2 harg2 arg3 harg3 arg4 harg4 arg5 harg5 arg6 harg6 arg7 harg7 arg8 harg8 arg9 harg9 arg10 harg10 arg11 harg11 arg12 harg12 arg13 harg13) K := by
    intro E K
    simp only [cc0_hbfp4_wgrad_eq_skeleton]; unfold cc0_hbfp4_wgrad_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

-- (the run's proof term is large: checking it walks past the default budget)
set_option maxHeartbeats 1000000 in
/-- The body's triple IN CASE B (`scf.if` 0 not taken, `scf.if` 1 taken: points 1, 2, … 14: 14 of 15): on whole staging memrefs — the inputs' at their contents,
    the FORGOTTEN outputs' (3, 4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S2 .i32) (harg1 : arg1.IsWhole) (arg2 : Memref sig .tc .vmem S1920x512 .bf16) (harg2 : arg2.IsWhole) (arg3 : Memref sig .tc .vmem S1920x2048 .bf16) (harg3 : arg3.IsWhole) (arg4 : Memref sig .tc .vmem S512x2048 .f32) (harg4 : arg4.IsWhole) (arg5 : Memref sig .tc .vmem S960x512 .i8) (harg5 : arg5.IsWhole) (arg6 : Memref sig .tc .vmem S3x10x512 .f32) (harg6 : arg6.IsWhole) (arg7 : Memref sig .tc .vmem S960x2048 .i8) (harg7 : arg7.IsWhole) (arg8 : Memref sig .tc .vmem S3x10x2048 .f32) (harg8 : arg8.IsWhole) (arg9 : Memref sig .tc .vmem S2x512x1920 .bf16) (harg9 : arg9.IsWhole) (arg10 : Memref sig .tc .vmem S1920x2048 .bf16) (harg10 : arg10.IsWhole) (arg11 : Memref sig .tc .vmem S240x128 .f32) (harg11 : arg11.IsWhole) (arg12 : Memref sig .tc .vmem S30x128 .i32) (harg12 : arg12.IsWhole) (arg13 : Memref sig .tc .vmem S30x128 .i32) (harg13 : arg13.IsWhole) (hc0 : ¬cond0_0 i) (hc1 : cond0_1 i)
    (x0 : Vec F S2 .i32) (x1 : Vec F S1920x512 .bf16) (x2 : Vec F S1920x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_hbfp4_wgrad i arg1 harg1 arg2 harg2 arg3 harg3 arg4 harg4 arg5 harg5 arg6 harg6 arg7 harg7 arg8 harg8 arg9 harg9 arg10 harg10 arg11 harg11 arg12 harg12 arg13 harg13) K := by
    intro E K
    simp only [cc0_hbfp4_wgrad_eq_skeleton]; unfold cc0_hbfp4_wgrad_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-! ## The pipeline's proof data -/

/-- The output windows this certificate FORGETS (3, 4, 5, 6, 7): nothing reads what the kernel leaves in them, so nothing
    of it is named (Lib/Pipeline/Dat.lean `Dat.toRForget`). -/
def forgets0 : Fin 8 → Bool := fun w => w.val == 3 || w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 15 := lt_of_lt_of_eq t.isLt (show cfg0.N = 15 from N_0)
  by_cases h0 : t.val % 15 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_rdat m ρ (fun c => (dats m 0 c).toRForget forgets0) (A_eq m) (run_main m ρ)

/-- THE FRAME: `Cert.quiescent_Kernel`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.Kernel

end
-- ==== Proof.KernelIdealLoops.lean ====
/-
  The two column-group loops of `KernelIdeal`'s body — over `dy`'s sixteen groups of 128 columns and over the four of the
  current tile of `x` — by invariants that name what a trip only reads and leave open what it writes: the frame
  claim asks nothing of the contents.
-/
module

public import proofs.«01_k».proof.Proof.Gen.KernelIdeal.Frame
public import proofs.«01_k».proof.Proof.Gen.KernelIdeal.Loops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg1 : Memref sig .tc .smem S2 .i32) (harg1 : arg1.IsWhole)
  (arg2 : Memref sig .tc .vmem S1920x512 .bf16) (harg2 : arg2.IsWhole)
  (arg3 : Memref sig .tc .vmem S1920x2048 .bf16) (harg3 : arg3.IsWhole)
  (arg4 : Memref sig .tc .vmem S512x2048 .f32) (harg4 : arg4.IsWhole)
  (arg5 : Memref sig .tc .vmem S960x512 .i8) (harg5 : arg5.IsWhole)
  (arg6 : Memref sig .tc .vmem S3x10x512 .f32) (harg6 : arg6.IsWhole)
  (arg7 : Memref sig .tc .vmem S960x2048 .i8) (harg7 : arg7.IsWhole)
  (arg8 : Memref sig .tc .vmem S3x10x2048 .f32) (harg8 : arg8.IsWhole)
  (arg9 : Memref sig .tc .vmem S2x512x1920 .bf16) (harg9 : arg9.IsWhole)
  (arg10 : Memref sig .tc .vmem S1920x2048 .bf16) (harg10 : arg10.IsWhole)
  (arg11 : Memref sig .tc .vmem S240x128 .f32) (harg11 : arg11.IsWhole)
  (arg12 : Memref sig .tc .vmem S30x128 .i32) (harg12 : arg12.IsWhole)
  (arg13 : Memref sig .tc .vmem S30x128 .i32) (harg13 : arg13.IsWhole)

/-- What the `dy` loop holds before a trip: `dy`'s block, and its outputs and scratch at some contents. -/
abbrev openDy (X3 : BufTy.Contents (Elt F) arg3.view.ty) : sProp 𝕄 :=
  iprop((arg3.view.loc (c : Thread nD τ) ↦[arg3.view.set]{fullShare} X3) ∗ (∃ f, (arg7.view.loc (c : Thread nD τ) ↦[arg7.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))

set_option maxHeartbeats 1600000 in
/-- One trip of the `dy` loop from `openDy` to `openDy`. -/
theorem stepDy (k0_h1 : k0_cond1 i = 1#1) (v23 : BitVec 32) (X3 : BufTy.Contents (Elt F) arg3.view.ty) (k : Fin k0_t1_loop.trips) :
    openDy (F := F) c arg3 arg7 arg8 arg10 arg11 arg12 arg13 X3
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 arg9 harg9 arg10 harg10 arg11 harg11 arg12 harg12 arg13 harg13 k0_h1 v23 k PUnit.unit)
          (fun _ => openDy (F := F) c arg3 arg7 arg8 arg10 arg11 arg12 arg13 X3) := by
    unfold k0_t1_body
    iintro ⟨H3, ⟨%f7, H7⟩, ⟨%f8, H8⟩, ⟨%f10, H10⟩, ⟨%f11, H11⟩, ⟨%f12, H12⟩, ⟨%f13, H13⟩⟩
    sl_exec
    sl_step
    isplitl [H3]; · iexact H3
    isplitl [H7]; · iexists _; iexact H7
    isplitl [H8]; · iexists _; iexact H8
    isplitl [H10]; · iexists _; iexact H10
    isplitl [H11]; · iexists _; iexact H11
    isplitl [H12]; · iexists _; iexact H12
    iexists _; iexact H13

set_option warn.classDefReducibility false in
@[sl_loop] def loopInv_k0_t1 (k0_h1 : k0_cond1 i = 1#1) (v23 : BitVec 32) (X3 : BufTy.Contents (Elt F) arg3.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 k0_h1 v23 where
  inv _ _ := openDy (F := F) c arg3 arg7 arg8 arg10 arg11 arg12 arg13 X3
  step k _ := stepDy c E i arg1 harg1 arg2 harg2 arg3 harg3 arg4 harg4 arg5 harg5 arg6 harg6 arg7 harg7 arg8 harg8 arg9 harg9 arg10 harg10 arg11 harg11 arg12 harg12 arg13 harg13 k0_h1 v23 X3 k

/-- What the `x` loop holds before a trip: `x`'s block, and its outputs and scratch at some contents. -/
abbrev openX (X2 : BufTy.Contents (Elt F) arg2.view.ty) : sProp 𝕄 :=
  iprop((arg2.view.loc (c : Thread nD τ) ↦[arg2.view.set]{fullShare} X2) ∗ (∃ f, (arg5.view.loc (c : Thread nD τ) ↦[arg5.view.set]{fullShare} f)) ∗ (∃ f, (arg6.view.loc (c : Thread nD τ) ↦[arg6.view.set]{fullShare} f)) ∗ (∃ f, (arg9.view.loc (c : Thread nD τ) ↦[arg9.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))

set_option maxHeartbeats 1600000 in
/-- One trip of the `x` loop from `openX` to `openX`. -/
theorem stepX (v16 : Elt F .i32) (v19 : BitVec 32) (X2 : BufTy.Contents (Elt F) arg2.view.ty) (k : Fin k0_t4_loop.trips) :
    openX (F := F) c arg2 arg5 arg6 arg9 arg11 arg12 arg13 X2
      ⊢ wp frame (wpE (defs₀ (F := F)) Variants.none (c : Thread nD τ) none) E
          (k0_t4_body (F := F) i arg1 harg1 arg2 harg2 arg3 harg3 arg4 harg4 arg5 harg5 arg6 harg6 arg7 harg7 arg8 harg8 arg9 harg9 arg10 harg10 arg11 harg11 arg12 harg12 arg13 harg13 v16 v19 k PUnit.unit)
          (fun _ => openX (F := F) c arg2 arg5 arg6 arg9 arg11 arg12 arg13 X2) := by
    unfold k0_t4_body
    iintro ⟨H2, ⟨%f5, H5⟩, ⟨%f6, H6⟩, ⟨%f9, H9⟩, ⟨%f11, H11⟩, ⟨%f12, H12⟩, ⟨%f13, H13⟩⟩
    sl_exec
    sl_step
    isplitl [H2]; · iexact H2
    isplitl [H5]; · iexists _; iexact H5
    isplitl [H6]; · iexists _; iexact H6
    isplitl [H9]; · iexists _; iexact H9
    isplitl [H11]; · iexists _; iexact H11
    isplitl [H12]; · iexists _; iexact H12
    iexists _; iexact H13

set_option warn.classDefReducibility false in
@[sl_loop] def loopInv_k0_t4 (v16 : Elt F .i32) (v19 : BitVec 32) (X2 : BufTy.Contents (Elt F) arg2.view.ty) :
    LoopInvTy_k0_t4 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v16 v19 where
  inv _ _ := openX (F := F) c arg2 arg5 arg6 arg9 arg11 arg12 arg13 X2
  step k _ := stepX c E i arg1 harg1 arg2 harg2 arg3 harg3 arg4 harg4 arg5 harg5 arg6 harg6 arg7 harg7 arg8 harg8 arg9 harg9 arg10 harg10 arg11 harg11 arg12 harg12 arg13 harg13 v16 v19 X2 k

end Cert.Proof.KernelIdeal

end
-- ==== Proof.KernelIdealFrame.lean ====
/-
  The frame of `KernelIdeal`: from any memory with zero counters every fair execution ends, the argument arrays unchanged and
  every semaphore counter at zero. Nothing is said of the outputs' contents.

  The grid has two kinds of point: the first quantises `dy` and the first tile of `x`; every later one multiplies the
  tile quantised before it and quantises its own. Each kind's body is one run over the printed skeleton, the loops by
  their invariants (KernelLoops.lean); the pipeline's proof data forgets the outputs.
-/
module

public import proofs.«01_k».proof.Proof.KernelIdealLoops
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_rdat (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 1 % 15 := Pipeline.Grid.coords_val t 0 (by decide) rfl
    simp only [cond0_0, k0_cond1, e0]
    word_cmp
   : ∀ t : Fin grid0.N, cond0_0 (grid0.coords t) ↔ t.val % 15 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1920x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1920x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S960x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x10x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S960x2048 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x10x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x512x1920 .bf16 := Memref.whole cc0_scratch0
abbrev scM0_1 : Memref sig .tc .vmem S1920x2048 .bf16 := Memref.whole cc0_scratch1
abbrev scM0_2 : Memref sig .tc .vmem S240x128 .f32 := Memref.whole cc0_scratch2
abbrev scM0_3 : Memref sig .tc .vmem S30x128 .i32 := Memref.whole cc0_scratch3
abbrev scM0_4 : Memref sig .tc .vmem S30x128 .i32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 1000000 in
/-- The body's triple IN CASE A (`scf.if` 0 taken, `scf.if` 1 not taken: points 0): on whole staging memrefs — the inputs' at their contents,
    the FORGOTTEN outputs' (3, 4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S2 .i32) (harg1 : arg1.IsWhole) (arg2 : Memref sig .tc .vmem S1920x512 .bf16) (harg2 : arg2.IsWhole) (arg3 : Memref sig .tc .vmem S1920x2048 .bf16) (harg3 : arg3.IsWhole) (arg4 : Memref sig .tc .vmem S512x2048 .f32) (harg4 : arg4.IsWhole) (arg5 : Memref sig .tc .vmem S960x512 .i8) (harg5 : arg5.IsWhole) (arg6 : Memref sig .tc .vmem S3x10x512 .f32) (harg6 : arg6.IsWhole) (arg7 : Memref sig .tc .vmem S960x2048 .i8) (harg7 : arg7.IsWhole) (arg8 : Memref sig .tc .vmem S3x10x2048 .f32) (harg8 : arg8.IsWhole) (arg9 : Memref sig .tc .vmem S2x512x1920 .bf16) (harg9 : arg9.IsWhole) (arg10 : Memref sig .tc .vmem S1920x2048 .bf16) (harg10 : arg10.IsWhole) (arg11 : Memref sig .tc .vmem S240x128 .f32) (harg11 : arg11.IsWhole) (arg12 : Memref sig .tc .vmem S30x128 .i32) (harg12 : arg12.IsWhole) (arg13 : Memref sig .tc .vmem S30x128 .i32) (harg13 : arg13.IsWhole) (hc0 : cond0_0 i) (hc1 : ¬cond0_1 i)
    (x0 : Vec F S2 .i32) (x1 : Vec F S1920x512 .bf16) (x2 : Vec F S1920x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_hbfp4_wgrad i arg1 harg1 arg2 harg2 arg3 harg3 arg4 harg4 arg5 harg5 arg6 harg6 arg7 harg7 arg8 harg8 arg9 harg9 arg10 harg10 arg11 harg11 arg12 harg12 arg13 harg13) K := by
    intro E K
    simp only [cc0_hbfp4_wgrad_eq_skeleton]; unfold cc0_hbfp4_wgrad_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

-- (the run's proof term is large: checking it walks past the default budget)
set_option maxHeartbeats 1000000 in
/-- The body's triple IN CASE B (`scf.if` 0 not taken, `scf.if` 1 taken: points 1, 2, … 14: 14 of 15): on whole staging memrefs — the inputs' at their contents,
    the FORGOTTEN outputs' (3, 4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S2 .i32) (harg1 : arg1.IsWhole) (arg2 : Memref sig .tc .vmem S1920x512 .bf16) (harg2 : arg2.IsWhole) (arg3 : Memref sig .tc .vmem S1920x2048 .bf16) (harg3 : arg3.IsWhole) (arg4 : Memref sig .tc .vmem S512x2048 .f32) (harg4 : arg4.IsWhole) (arg5 : Memref sig .tc .vmem S960x512 .i8) (harg5 : arg5.IsWhole) (arg6 : Memref sig .tc .vmem S3x10x512 .f32) (harg6 : arg6.IsWhole) (arg7 : Memref sig .tc .vmem S960x2048 .i8) (harg7 : arg7.IsWhole) (arg8 : Memref sig .tc .vmem S3x10x2048 .f32) (harg8 : arg8.IsWhole) (arg9 : Memref sig .tc .vmem S2x512x1920 .bf16) (harg9 : arg9.IsWhole) (arg10 : Memref sig .tc .vmem S1920x2048 .bf16) (harg10 : arg10.IsWhole) (arg11 : Memref sig .tc .vmem S240x128 .f32) (harg11 : arg11.IsWhole) (arg12 : Memref sig .tc .vmem S30x128 .i32) (harg12 : arg12.IsWhole) (arg13 : Memref sig .tc .vmem S30x128 .i32) (harg13 : arg13.IsWhole) (hc0 : ¬cond0_0 i) (hc1 : cond0_1 i)
    (x0 : Vec F S2 .i32) (x1 : Vec F S1920x512 .bf16) (x2 : Vec F S1920x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_hbfp4_wgrad i arg1 harg1 arg2 harg2 arg3 harg3 arg4 harg4 arg5 harg5 arg6 harg6 arg7 harg7 arg8 harg8 arg9 harg9 arg10 harg10 arg11 harg11 arg12 harg12 arg13 harg13) K := by
    intro E K
    simp only [cc0_hbfp4_wgrad_eq_skeleton]; unfold cc0_hbfp4_wgrad_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-! ## The pipeline's proof data -/

/-- The output windows this certificate FORGETS (3, 4, 5, 6, 7): nothing reads what the kernel leaves in them, so nothing
    of it is named (Lib/Pipeline/Dat.lean `Dat.toRForget`). -/
def forgets0 : Fin 8 → Bool := fun w => w.val == 3 || w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 15 := lt_of_lt_of_eq t.isLt (show cfg0.N = 15 from N_0)
  by_cases h0 : t.val % 15 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_rdat m ρ (fun c => (dats m 0 c).toRForget forgets0) (A_eq m) (run_main m ρ)

/-- THE FRAME: `Cert.quiescent_KernelIdeal`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.KernelIdeal

end
-- ==== Proof.Chunk.lean ====
module
public import proofs.«01_k».proof.Proof.Gen.KernelIdeal.Frame
public import proofs.«01_k».proof.Proof.Gen.KernelIdeal.Loops
public import Idealize.ShloMosaic.Lib.Pointwise
public import Idealize.ShloMosaic.PureOps.Ideal
public import Idealize.ShloMosaic.Lib.ValueIdx
public import Idealize.ShloMosaic.Lib.BitcastPair
@[expose] public section
/-! # One half of a pair pass: 64 rows of one 128-column group

The two copies of the pair pass (for `dy` and for `x`) compute the same thing from different words.  Here that thing
is written once over whole vectors, and read at one row and one column. -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI

/-- The hash of a row word, a lane word and a group word: the top 24 bits are the random number. -/
def hsh (R lane g : BitVec 32) : BitVec 32 :=
  let h0 := IntOp.xori (IntOp.xori (IntOp.xori (IntOp.shli .vector R 10#32) (IntOp.shrui .vector R 6#32)) lane) g
  let h1 := IntOp.muli h0 2146121005#32
  let h2 := IntOp.muli (IntOp.xori h1 (IntOp.shrui .vector h1 15#32)) 2221713035#32
  IntOp.xori (IntOp.shrui .vector h2 8#32) (IntOp.shrui .vector h2 24#32)

/-- One quantised value: the clipped floor of the scaled value plus the random number. -/
def rq (y : EReal) (h : BitVec 32) : EReal :=
  min (Ideal.ofBits .bf16 0x40E0#16) (max (Ideal.ofBits .bf16 0xC0E0#16)
    (Ideal.liftRound Int.floor (y + FloatOps.sitofp (F := Ideal) .f32 h * Ideal.ofBits .f32 0x33800000#32)))

/-- The float that half `p` of a word spells. -/
def dec (w : BitVec 32) (p : Nat) : EReal := Ideal.ofBits .bf16 (w.extractLsb' (16 * p) 16)

/-- The low four bits of a quantised value. -/
def nib (q : EReal) : BitVec 32 := IntOp.andi (FloatOps.fptosi (F := Ideal) (φ := .f32) 32 q) 15#32

/-- The code byte of an even row and the odd row after it. -/
def byte (qe qo : EReal) : BitVec 8 := BitVec.setWidth 8 (IntOp.ori (nib qe) (IntOp.shli .vector (nib qo) 4#32))

/-- The row of words a 1×128 load carries, decoded over 64 rows. -/
def decV (w : IVec S1x128 32) : FVec Ideal S64x128 .bf16 := k0_pay19 (F := Ideal) w

/-- The random numbers of 32 rows. -/
def uniV (base lane : IVec S32x128 32) (k g : BitVec 32) : FVec Ideal S32x128 .f32 :=
  have r : IVec S32x128 32 := addi base (broadcast S32x128 k)
  have h0 : IVec S32x128 32 := xori (xori (xori (shli r (broadcast S32x128 10#32)) (shrui r (broadcast S32x128 6#32))) lane) (broadcast S32x128 g)
  have h1 : IVec S32x128 32 := muli h0 (broadcast S32x128 2146121005#32)
  have h2 : IVec S32x128 32 := muli (xori h1 (shrui h1 (broadcast S32x128 15#32))) (broadcast S32x128 2221713035#32)
  mulf (sitofp .f32 (xori (shrui h2 (broadcast S32x128 8#32)) (shrui h2 (broadcast S32x128 24#32))))
    (broadcast S32x128 (Scalar.ofBits .f32 0x33800000#32 : Ideal .f32))

/-- The quantised values of 64 rows. -/
def qV (v : Vec Ideal S64x128 .bf16) (mw : IVec S1x128 32) (base lane : IVec S32x128 32) (ke ko g : BitVec 32) :
    FVec Ideal S64x128 .bf16 :=
  have y : FVec Ideal S64x128 .bf16 := mulf (shapeCast S64x128 v shapeCasts_S64x128_S64x128) (decV mw)
  k0_pay16 (interleaveRows S64x128
    (truncf .bf16 (floor (addf (extf .f32 (rowsOfParity 0 S32x128 y bitcasts_S64x128_w16_S32x128_w32)) (uniV base lane ke g))))
    (truncf .bf16 (floor (addf (extf .f32 (rowsOfParity 1 S32x128 y bitcasts_S64x128_w16_S32x128_w32)) (uniV base lane ko g))))
    bitcasts_S64x128_w16_S32x128_w32)

/-- The code bytes of 64 rows of quantised values. -/
def codesV (q : FVec Ideal S64x128 .bf16) : IVec S32x128 8 :=
  trunci 8 (ori (andi (fptosi 32 (extf .f32 (rowsOfParity 0 S32x128 q bitcasts_S64x128_w16_S32x128_w32))) (broadcast S32x128 15#32))
    (shli (andi (fptosi 32 (extf .f32 (rowsOfParity 1 S32x128 q bitcasts_S64x128_w16_S32x128_w32))) (broadcast S32x128 15#32)) (broadcast S32x128 4#32))) natLt_8_32

theorem decV_ix (w : IVec S1x128 32) (r : Fin 64) (l : Fin 128) :
    decV w (ix2 r l) = dec (w (ix2 0 l)) (r.val % 2) := by
  unfold decV
  unfold_payloads
  pointwise
  rw [bitcast_32_16]
  unfold dec
  have hrow : S64x128.row (ix2 r l) = r.val := rfl
  have hb : ∀ j : S32x128.Idx, (j ⟨1, by decide⟩).val = l.val →
      broadcastTo S32x128 w broadcasts_S1x128_S32x128 j = w (ix2 0 l) := by
    intro j hj
    obtain ⟨a, b, rfl⟩ : ∃ a b, j = ix2 a b := ⟨j 0, j 1, by funext a; fin_cases a <;> rfl⟩
    have e : b = l := Fin.ext hj
    subst e
    pointwise
  rw [hb _ (by rw [Shape.Bitcasts.srcIdx_other _ _ _ _ _ (by decide)]; rfl)]
  simp only [hrow]

theorem uniV_ix (base lane : IVec S32x128 32) (k g : BitVec 32) (r : Fin 32) (l : Fin 128) :
    uniV base lane k g (ix2 r l) = FloatOps.sitofp (F := Ideal) .f32 (hsh (IntOp.addi (base (ix2 r l)) k) (lane (ix2 r l)) g) * Ideal.ofBits .f32 0x33800000#32 := by
  rfl

theorem qV_ix (v : Vec Ideal S64x128 .bf16) (mw : IVec S1x128 32) (base lane : IVec S32x128 32) (ke ko g : BitVec 32)
    (r : Fin 64) (l : Fin 128) :
    qV v mw base lane ke ko g (ix2 r l) = rq (v (ix2 r l) * dec (mw (ix2 0 l)) (r.val % 2))
      (hsh (IntOp.addi (base (ix2 ⟨r.val / 2, by omega⟩ l)) (if r.val % 2 = 0 then ke else ko)) (lane (ix2 ⟨r.val / 2, by omega⟩ l)) g) := by
  unfold qV
  unfold_payloads
  pointwise
  rw [decV_ix, decV_ix, uniV_ix, uniV_ix]
  unfold rq
  rcases Nat.mod_two_eq_zero_or_one r.val with h | h
  · have e : (⟨2 * (r.val / 2), by omega⟩ : Fin 64) = r := Fin.ext (by simp; omega)
    rw [if_pos h, if_pos h, e]
  · have e : (⟨2 * (r.val / 2) + 1, by omega⟩ : Fin 64) = r := Fin.ext (by simp; omega)
    rw [if_neg (by omega), if_neg (by omega), e]

theorem codesV_ix (q : FVec Ideal S64x128 .bf16) (r : Fin 32) (l : Fin 128) :
    codesV q (ix2 r l) = byte (q (ix2 ⟨2 * r.val, by omega⟩ l)) (q (ix2 ⟨2 * r.val + 1, by omega⟩ l)) := by
  unfold codesV
  pointwise
  rfl

end Cert.Proof.KernelIdeal
end
-- ==== Proof.Scale.lean ====
module
public import proofs.«01_k».proof.Proof.Gen.KernelIdeal.Frame
public import proofs.«01_k».proof.Proof.Gen.KernelIdeal.Loops
public import Idealize.ShloMosaic.Lib.Pointwise
public import Idealize.ShloMosaic.PureOps.Ideal
public import Idealize.ShloMosaic.Lib.ValueIdx
@[expose] public section
/-! # The scale words of ten blocks

From the largest magnitudes of ten blocks: the exponent bits by a ladder of comparisons, the word of the scale, the
word of its inverse. Both quantisers and all three batches compute these functions. -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI

/-- One rung's remainder: where it reaches the rung's power it is divided by it. -/
def rungR (p q : BitVec 32) (r : FVec Ideal S10x128 .f32) : FVec Ideal S10x128 .f32 :=
  select (cmpf .oge r (broadcast S10x128 (Scalar.ofBits .f32 p : Ideal .f32))) (mulf r (broadcast S10x128 (Scalar.ofBits .f32 q : Ideal .f32))) r

/-- One rung's exponent word: where the remainder reaches the rung's power the word grows by it. -/
def rungE (p k : BitVec 32) (r : FVec Ideal S10x128 .f32) (e : IVec S10x128 32) : IVec S10x128 32 :=
  select (cmpf .oge r (broadcast S10x128 (Scalar.ofBits .f32 p : Ideal .f32))) (addi e (broadcast S10x128 k)) e

/-- The remainder before the first rung. -/
def lad0R (a : FVec Ideal S10x128 .f32) : FVec Ideal S10x128 .f32 :=
  select (cmpf .olt a (broadcast S10x128 (Scalar.ofBits .f32 0x3F800000#32 : Ideal .f32)))
    (mulf a (broadcast S10x128 (Scalar.ofBits .f32 0x7F000000#32 : Ideal .f32))) a
/-- The exponent word before the first rung. -/
def lad0E (a : FVec Ideal S10x128 .f32) : IVec S10x128 32 :=
  select (cmpf .olt a (broadcast S10x128 (Scalar.ofBits .f32 0x3F800000#32 : Ideal .f32)))
    (broadcast S10x128 0#32) (broadcast S10x128 1065353216#32)

/-- The exponent bits of the largest magnitudes, by the ladder. -/
def ladV (a : FVec Ideal S10x128 .f32) : IVec S10x128 32 :=
  let r0 := lad0R a
  let e0 := lad0E a
  let r1 := rungR 0x5F800000#32 0x1F800000#32 r0
  let e1 := rungE 0x5F800000#32 536870912#32 r0 e0
  let r2 := rungR 0x4F800000#32 0x2F800000#32 r1
  let e2 := rungE 0x4F800000#32 268435456#32 r1 e1
  let r3 := rungR 0x47800000#32 0x37800000#32 r2
  let e3 := rungE 0x47800000#32 134217728#32 r2 e2
  let r4 := rungR 0x43800000#32 0x3B800000#32 r3
  let e4 := rungE 0x43800000#32 67108864#32 r3 e3
  let r5 := rungR 0x41800000#32 0x3D800000#32 r4
  let e5 := rungE 0x41800000#32 33554432#32 r4 e4
  let r6 := rungR 0x40800000#32 0x3E800000#32 r5
  let e6 := rungE 0x40800000#32 16777216#32 r5 e5
  rungE 0x40000000#32 8388608#32 r6 e6

/-- The word of the scale, from the exponent bits. -/
def sV (e : IVec S10x128 32) : IVec S10x128 32 :=
  select (cmpi .eq e (broadcast S10x128 0#32)) (broadcast S10x128 1065353216#32)
    (maxsi (subi e (broadcast S10x128 16777216#32)) (broadcast S10x128 0#32))
/-- The word of its inverse. -/
def mV (e : IVec S10x128 32) : IVec S10x128 32 :=
  select (cmpi .eq e (broadcast S10x128 0#32)) (broadcast S10x128 1065353216#32) (subi (broadcast S10x128 2147483648#32) e)
/-- A word's high half in both halves. -/
def twV (e : IVec S10x128 32) : IVec S10x128 32 := ori e (shrui e (broadcast S10x128 16#32))

/-- The largest of eight rows of partial maxima. -/
def max8 (v0 v1 v2 v3 v4 v5 v6 v7 : FVec Ideal S10x128 .f32) : FVec Ideal S10x128 .f32 :=
  maximumf (maximumf (maximumf (maximumf (maximumf (maximumf (maximumf v0 v1) v2) v3) v4) v5) v6) v7

/-- The same functions, at one number. -/
def rungRs (p q : BitVec 32) (r : EReal) : EReal := rungR p q (fun _ => r) (ix2 0 0)
def rungEs (p k : BitVec 32) (r : EReal) (e : BitVec 32) : BitVec 32 := rungE p k (fun _ => r) (fun _ => e) (ix2 0 0)
def lad0Rs (a : EReal) : EReal := lad0R (fun _ => a) (ix2 0 0)
def lad0Es (a : EReal) : BitVec 32 := lad0E (fun _ => a) (ix2 0 0)
theorem rungR_ix (p q r j) : rungR p q r j = rungRs p q (r j) := rfl
theorem rungE_ix (p q r e j) : rungE p q r e j = rungEs p q (r j) (e j) := rfl
theorem lad0R_ix (a j) : lad0R a j = lad0Rs (a j) := rfl
theorem lad0E_ix (a j) : lad0E a j = lad0Es (a j) := rfl
def sWd (e : BitVec 32) : BitVec 32 := sV (fun _ => e) (ix2 0 0)
def mWd (e : BitVec 32) : BitVec 32 := mV (fun _ => e) (ix2 0 0)
def tw (e : BitVec 32) : BitVec 32 := twV (fun _ => e) (ix2 0 0)
theorem sV_ix (e : IVec S10x128 32) (j) : sV e j = sWd (e j) := rfl
theorem mV_ix (e : IVec S10x128 32) (j) : mV e j = mWd (e j) := rfl
theorem twV_ix (e : IVec S10x128 32) (j) : twV e j = tw (e j) := rfl

/-- The exponent bits of one magnitude, by the ladder. -/
def lad (a : EReal) : BitVec 32 :=
  let r0 := lad0Rs a
  let e0 := lad0Es a
  let r1 := rungRs 0x5F800000#32 0x1F800000#32 r0
  let e1 := rungEs 0x5F800000#32 536870912#32 r0 e0
  let r2 := rungRs 0x4F800000#32 0x2F800000#32 r1
  let e2 := rungEs 0x4F800000#32 268435456#32 r1 e1
  let r3 := rungRs 0x47800000#32 0x37800000#32 r2
  let e3 := rungEs 0x47800000#32 134217728#32 r2 e2
  let r4 := rungRs 0x43800000#32 0x3B800000#32 r3
  let e4 := rungEs 0x43800000#32 67108864#32 r3 e3
  let r5 := rungRs 0x41800000#32 0x3D800000#32 r4
  let e5 := rungEs 0x41800000#32 33554432#32 r4 e4
  let r6 := rungRs 0x40800000#32 0x3E800000#32 r5
  let e6 := rungEs 0x40800000#32 16777216#32 r5 e5
  rungEs 0x40000000#32 8388608#32 r6 e6

theorem ladV_ix (a : FVec Ideal S10x128 .f32) (j) : ladV a j = lad (a j) := by
  simp only [ladV, lad, rungR_ix, rungE_ix, lad0R_ix, lad0E_ix]

section
variable (v55 v56 v58 v60 v62 v64 v66 v68 : FVec Ideal S10x128 .f32)
set_option maxHeartbeats 1000000
theorem dy_r0 : k0_pay40 (F := Ideal) (k0_pay36 (F := Ideal) (k0_pay29 (F := Ideal) v55 v56) v58 v60 v62 v64 v66 v68)
    (k0_pay37 (F := Ideal) (k0_pay29 (F := Ideal) v55 v56) v58 v60 v62 v64 v66 v68) (k0_pay38 (F := Ideal) (k0_pay29 (F := Ideal) v55 v56) v58 v60 v62 v64 v66 v68) (k0_pay39 (F := Ideal))
    = ladV (max8 v55 v56 v58 v60 v62 v64 v66 v68) := rfl
end
end Cert.Proof.KernelIdeal
end
-- ==== Proof.Spec.lean ====
module
public import proofs.«01_k».proof.Proof.Chunk
public import proofs.«01_k».proof.Proof.Scale
public import Idealize.ShloMosaic.Lib.WritesUnit
public import Idealize.ShloMosaic.Lib.VecWindow
@[expose] public section
/-! # What the quantiser computes, column by column

A column is a function from token rows to numbers. Block `b` of a column is its rows `64·b … 64·b+63`. -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI

/-- Column `c` of an array of 1920 rows (zero outside the array). -/
def colA {N : Nat} (X : (⟨2, ![1920, N]⟩ : Shape).Idx → EReal) (c : Nat) : Nat → EReal :=
  fun t => if h : t < 1920 ∧ c < N then X (ix2 ⟨t, h.1⟩ ⟨c, h.2⟩) else 0

theorem colA_of {N : Nat} (X : (⟨2, ![1920, N]⟩ : Shape).Idx → EReal) (c t : Nat) (ht : t < 1920) (hc : c < N) :
    colA X c t = X (ix2 ⟨t, ht⟩ ⟨c, hc⟩) := dif_pos ⟨ht, hc⟩

/-- One absolute value. -/
def ab (x : EReal) : EReal := FloatOps.absf (F := Ideal) (φ := .bf16) x

/-- One of the eight partial maxima of 64 numbers: row pair `s` of the four groups of sixteen. -/
def pmax (f : Nat → EReal) (s : Nat) : EReal :=
  max (max (max (ab (f (2 * s + 1))) (ab (f (16 + (2 * s + 1))))) (max (ab (f (32 + (2 * s + 1)))) (ab (f (48 + (2 * s + 1))))))
    (max (max (ab (f (2 * s))) (ab (f (16 + 2 * s)))) (max (ab (f (32 + 2 * s))) (ab (f (48 + 2 * s)))))

/-- The largest magnitude of 64 numbers. -/
def amx (f : Nat → EReal) : EReal :=
  max (max (max (max (max (max (max (pmax f 0) (pmax f 1)) (pmax f 2)) (pmax f 3)) (pmax f 4)) (pmax f 5)) (pmax f 6)) (pmax f 7)

/-- The exponent bits of block `b` of a column. -/
def Ew (a : Nat → EReal) (b : Nat) : BitVec 32 := lad (amx fun r => a (64 * b + r))

/-- The quantised value of row `t` of a column, given that row's hash. -/
def Qv (a : Nat → EReal) (h : Nat → BitVec 32) (t : Nat) : EReal :=
  rq (a t * dec (tw (mWd (Ew a (t / 64)))) (t % 2)) (h t)

/-- The value of row `t` after quantisation. -/
def Vv (a : Nat → EReal) (h : Nat → BitVec 32) (t : Nat) : EReal := Qv a h t * dec (tw (sWd (Ew a (t / 64)))) (t % 2)

/-- The code byte of rows `2p` and `2p+1`. -/
def Cv (a : Nat → EReal) (h : Nat → BitVec 32) (p : Nat) : BitVec 8 := byte (Qv a h (2 * p)) (Qv a h (2 * p + 1))

/-- The scale of block `b`. -/
def Sv (a : Nat → EReal) (b : Nat) : EReal := Ideal.ofBits .f32 (sWd (Ew a b))

/-- The hash of row `t` in column `c` of an array of `1024·rm` columns. -/
def hv (rm : Nat) (mix : BitVec 32) (c : Nat) (t : Nat) : BitVec 32 :=
  hsh (BitVec.ofNat 32 (rm * t + c / 1024)) (IntOp.xori (BitVec.ofNat 32 (c % 128)) mix) (BitVec.ofNat 32 (128 * ((c / 128) % 8)))

/-- Block `b` of the 128 columns from column `c₀`. -/
def chunk {N : Nat} (X : (⟨2, ![1920, N]⟩ : Shape).Idx → EReal) (b c₀ : Nat) : Vec Ideal S64x128 .bf16 :=
  fun j => colA X (c₀ + (j 1).val) (64 * b + (j 0).val)

theorem chunk_ix {N : Nat} (X : (⟨2, ![1920, N]⟩ : Shape).Idx → EReal) (b c₀ : Nat) (r : Fin 64) (l : Fin 128) :
    chunk X b c₀ (ix2 r l) = colA X (c₀ + l.val) (64 * b + r.val) := rfl

theorem pay28_ix {N : Nat} (X : (⟨2, ![1920, N]⟩ : Shape).Idx → EReal) (b c₀ : Nat) (s : Fin 8) (l : Fin 128) :
    k0_pay28 (F := Ideal) (chunk X b c₀) (ix2 s l) = pmax (fun r => colA X (c₀ + l.val) (64 * b + r)) s.val := by
  unfold_payloads
  pointwise
  rfl
theorem pay113_ix {N : Nat} (X : (⟨2, ![1920, N]⟩ : Shape).Idx → EReal) (b c₀ : Nat) (s : Fin 8) (l : Fin 128) :
    k0_pay113 (F := Ideal) (chunk X b c₀) (ix2 s l) = pmax (fun r => colA X (c₀ + l.val) (64 * b + r)) s.val := by
  unfold_payloads
  pointwise
  rfl

/-- A block of 64 rows and 128 columns loaded from a view of the array. -/
theorem readAt_chunk {sig : RefSig} {κ : Kind} {sp : Space} {N : Nat} (v : View sig κ sp ⟨2, ![1920, N]⟩ .bf16)
    (f : v.ty.Contents (Elt Ideal)) {off : Fin 2 → Nat} (inb : ∀ a, off a + S64x128.size a ≤ (⟨2, ![1920, N]⟩ : Shape).size a)
    (b c₀ : Nat) (h : off = ![64 * b, c₀]) :
    v.readAt (Elt Ideal) (Rect.unit (s := ⟨2, ![1920, N]⟩) off S64x128.size inb).toLoadRect f = chunk (v.read (Elt Ideal) f) b c₀ := by
  subst h
  funext j
  have h0 := inb 0
  have h1 := inb 1
  have j0 := (j 0).isLt
  have j1 := (j 1).isLt
  unfold chunk
  rw [colA_of _ _ _ (by simp [S64x128] at h0 j0 ⊢; omega) (by simp [S64x128] at h1 j1 ⊢; omega), View.readAt_apply]
  congr 1
  funext a
  fin_cases a <;> (apply Fin.ext; simp [LoadRect.idx_apply])

theorem rhalf (r : Fin 64) : r.val / 2 < 32 := by omega

/-- The word added to the row words of a block's even rows. -/
def kE (m : BitVec 32) (p h : BitVec 32) : BitVec 32 := Scalar.muli (Scalar.muli (Scalar.addi (Scalar.muli 2#32 p) h) 64#32) m
/-- The word added to the row words of a block's odd rows. -/
def kO (m : BitVec 32) (p h : BitVec 32) : BitVec 32 := Scalar.muli (Scalar.addi (Scalar.muli (Scalar.addi (Scalar.muli 2#32 p) h) 64#32) 1#32) m

/-- The quantised value of row `t` of column `c`, from the words in force. -/
def qw {N : Nat} (X : (⟨2, ![1920, N]⟩ : Shape).Idx → EReal) (M : Nat → Nat → BitVec 32) (H : Nat → Nat → BitVec 32) (c t : Nat) : EReal :=
  rq (colA X c t * dec (M c (t / 64)) (t % 2)) (H c t)

/-- The value of row `t` of column `c` after quantisation, from the words in force. -/
def vw {N : Nat} (X : (⟨2, ![1920, N]⟩ : Shape).Idx → EReal) (M S : Nat → Nat → BitVec 32) (H : Nat → Nat → BitVec 32) (c t : Nat) : EReal :=
  qw X M H c t * dec (S c (t / 64)) (t % 2)

end Cert.Proof.KernelIdeal
end
-- ==== Proof.Writes.lean ====
module
public import proofs.«01_k».proof.Proof.Spec
@[expose] public section
/-! # What a pair pass writes, read back

One trip of a pair pass stores the codes of two blocks and the values of 128 rows. Each lemma reads such a store at one
position: inside it is the given value, outside what was there. -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {sig : RefSig} {κ : Kind} {sp : Space}

/-- A row of words loaded from a 30-row scratch. -/
theorem readAt_row (v : View sig κ sp S30x128 .i32) (f : v.ty.Contents (Elt Ideal)) {off : Fin 2 → Nat}
    (inb : ∀ a, off a + S1x128.size a ≤ S30x128.size a) (b : Fin 30) (h : off = ![b.val, 0]) (l : Fin 128) :
    v.readAt (Elt Ideal) (Rect.unit (s := S30x128) off S1x128.size inb).toLoadRect f (ix2 0 l) = v.read (Elt Ideal) f (ix2 b l) := by
  subst h
  rw [View.readAt_apply]
  congr 1
  funext a
  fin_cases a <;> (apply Fin.ext; simp [LoadRect.idx_apply])

/-- The codes of blocks `2p` and `2p+1` of the 128 columns from `c₀`. -/
theorem pair_codes {N : Nat} (v : View sig κ sp ⟨2, ![960, N]⟩ .i8) (G : v.ty.Contents (Elt Ideal)) (L : List (View.Piece (Elt Ideal) ⟨2, ![960, N]⟩ .i8))
    {off1 off0 : Fin 2 → Nat} (inb1 : ∀ a, off1 a + S32x128.size a ≤ (⟨2, ![960, N]⟩ : Shape).size a) (inb0 : ∀ a, off0 a + S32x128.size a ≤ (⟨2, ![960, N]⟩ : Shape).size a)
    (q1 q0 : FVec Ideal S64x128 .bf16) (p c₀ : Nat) (h1 : off1 = ![64 * p + 32, c₀]) (h0 : off0 = ![64 * p, c₀]) (Q : Nat → Nat → EReal)
    (hq1 : ∀ (r : Fin 64) (l : Fin 128), q1 (ix2 r l) = Q (c₀ + l.val) (128 * p + 64 + r.val))
    (hq0 : ∀ (r : Fin 64) (l : Fin 128), q0 (ix2 r l) = Q (c₀ + l.val) (128 * p + r.val))
    (y : (⟨2, ![960, N]⟩ : Shape).Idx) :
    v.read (Elt Ideal) (v.writes (Elt Ideal) G ((⟨Rect.unit off1 S32x128.size inb1, codesV q1⟩ : View.Piece (Elt Ideal) ⟨2, ![960, N]⟩ .i8) :: ⟨Rect.unit off0 S32x128.size inb0, codesV q0⟩ :: L)) y
      = if (c₀ ≤ (y 1).val ∧ (y 1).val < c₀ + 128) ∧ 64 * p ≤ (y 0).val ∧ (y 0).val < 64 * p + 64 then
          byte (Q (y 1).val (2 * (y 0).val)) (Q (y 1).val (2 * (y 0).val + 1))
        else v.read (Elt Ideal) (v.writes (Elt Ideal) G L) y := by
  by_cases hc : c₀ ≤ (y 1).val ∧ (y 1).val < c₀ + 128
  · by_cases hb : 64 * p + 32 ≤ (y 0).val ∧ (y 0).val < 64 * p + 64
    · rw [if_pos ⟨hc, by omega, hb.2⟩]
      rw [View.read_writes_cons_unit_of_mem v G inb1 (codesV q1) _ y (ix2 (⟨(y 0).val - (64 * p + 32), by omega⟩ : Fin 32) (⟨(y 1).val - c₀, by omega⟩ : Fin 128)) h1
        (by intro a; fin_cases a <;> simp <;> omega)]
      rw [codesV_ix, hq1, hq1]
      congr 2 <;> simp <;> omega
    · rw [View.read_writes_cons_unit_of_not_mem v _ _ _ _ y h1 0 (by simp [S32x128]; omega)]
      by_cases ha : 64 * p ≤ (y 0).val ∧ (y 0).val < 64 * p + 32
      · rw [if_pos ⟨hc, ha.1, by omega⟩]
        rw [View.read_writes_cons_unit_of_mem v G inb0 (codesV q0) _ y (ix2 (⟨(y 0).val - 64 * p, by omega⟩ : Fin 32) (⟨(y 1).val - c₀, by omega⟩ : Fin 128)) h0
          (by intro a; fin_cases a <;> simp <;> omega)]
        rw [codesV_ix, hq0, hq0]
        congr 2 <;> simp <;> omega
      · rw [View.read_writes_cons_unit_of_not_mem v _ _ _ _ y h0 0 (by simp [S32x128]; omega), if_neg (by omega)]
  · rw [View.read_writes_cons_unit_of_not_mem v _ _ _ _ y h1 1 (by simp [S32x128]; omega),
      View.read_writes_cons_unit_of_not_mem v _ _ _ _ y h0 1 (by simp [S32x128]; omega), if_neg (by omega)]

/-- The values of the 128 rows from `128·p` of the 128 columns from `c₀`. -/
theorem pair_vals {N : Nat} (v : View sig κ sp ⟨2, ![1920, N]⟩ .bf16) (G : v.ty.Contents (Elt Ideal)) (L : List (View.Piece (Elt Ideal) ⟨2, ![1920, N]⟩ .bf16))
    {off : Fin 2 → Nat} (inb : ∀ a, off a + S128x128.size a ≤ (⟨2, ![1920, N]⟩ : Shape).size a)
    (W : Vec Ideal S128x128 .bf16) (p c₀ : Nat) (h : off = ![128 * p, c₀]) (V : Nat → Nat → EReal)
    (hW : ∀ (r : Fin 128) (l : Fin 128), W (ix2 r l) = V (c₀ + l.val) (128 * p + r.val))
    (y : (⟨2, ![1920, N]⟩ : Shape).Idx) :
    v.read (Elt Ideal) (v.writes (Elt Ideal) G ((⟨Rect.unit off S128x128.size inb, W⟩ : View.Piece (Elt Ideal) ⟨2, ![1920, N]⟩ .bf16) :: L)) y
      = if (c₀ ≤ (y 1).val ∧ (y 1).val < c₀ + 128) ∧ 128 * p ≤ (y 0).val ∧ (y 0).val < 128 * p + 128 then
          V (y 1).val (y 0).val
        else v.read (Elt Ideal) (v.writes (Elt Ideal) G L) y := by
  split
  · rename_i hc
    rw [View.read_writes_cons_unit_of_mem v G inb W _ y (ix2 (⟨(y 0).val - 128 * p, by omega⟩ : Fin 128) (⟨(y 1).val - c₀, by omega⟩ : Fin 128)) h
        (by intro a; fin_cases a <;> simp <;> omega)]
    rw [hW]
    congr 1 <;> simp <;> omega
  · rename_i hc
    by_cases h1 : c₀ ≤ (y 1).val ∧ (y 1).val < c₀ + 128
    · rw [View.read_writes_cons_unit_of_not_mem v _ _ _ _ y h 0 (by simp [S128x128]; omega)]
    · rw [View.read_writes_cons_unit_of_not_mem v _ _ _ _ y h 1 (by simp [S128x128]; omega)]

/-- The same values stored transposed into slot `s`: token along the last axis. -/
theorem pair_valsT (v : View sig κ sp S2x512x1920 .bf16) (G : v.ty.Contents (Elt Ideal)) (L : List (View.Piece (Elt Ideal) S2x512x1920 .bf16))
    {off : Fin 3 → Nat} (inb : ∀ a, off a + S1x128x128.size a ≤ S2x512x1920.size a)
    (W : Vec Ideal S1x128x128 .bf16) (s p c₀ : Nat) (h : off = ![s, c₀, 128 * p]) (V : Nat → Nat → EReal)
    (hW : ∀ (r : Fin 128) (l : Fin 128), W (ix3 0 l r) = V (c₀ + l.val) (128 * p + r.val))
    (y : S2x512x1920.Idx) :
    v.read (Elt Ideal) (v.writes (Elt Ideal) G ((⟨Rect.unit off S1x128x128.size inb, W⟩ : View.Piece (Elt Ideal) S2x512x1920 .bf16) :: L)) y
      = if (y 0).val = s ∧ (c₀ ≤ (y 1).val ∧ (y 1).val < c₀ + 128) ∧ 128 * p ≤ (y 2).val ∧ (y 2).val < 128 * p + 128 then
          V (y 1).val (y 2).val
        else v.read (Elt Ideal) (v.writes (Elt Ideal) G L) y := by
  split
  · rename_i hc
    rw [View.read_writes_cons_unit_of_mem v G inb W _ y (ix3 (0 : Fin 1) (⟨(y 1).val - c₀, by omega⟩ : Fin 128) (⟨(y 2).val - 128 * p, by omega⟩ : Fin 128)) h
        (by intro a; fin_cases a <;> simp <;> omega)]
    rw [hW]
    congr 1 <;> simp <;> omega
  · rename_i hc
    by_cases h0 : (y 0).val = s
    · by_cases h1 : c₀ ≤ (y 1).val ∧ (y 1).val < c₀ + 128
      · rw [View.read_writes_cons_unit_of_not_mem v _ _ _ _ y h 2 (by simp [S1x128x128]; omega)]
      · rw [View.read_writes_cons_unit_of_not_mem v _ _ _ _ y h 1 (by simp [S1x128x128]; omega)]
    · rw [View.read_writes_cons_unit_of_not_mem v _ _ _ _ y h 0 (by simp [S1x128x128]; omega)]

/-- Two blocks of 64 rows joined, the second one scaled: what is stored for 128 rows. -/
theorem pay3_ix (q0 s0 q1 s1 : FVec Ideal S64x128 .bf16) (r l : Fin 128) (V : Nat → EReal)
    (h0 : ∀ r : Fin 64, q0 (ix2 r l) = V r.val) (h1 : ∀ r : Fin 64, q1 (ix2 r l) * s1 (ix2 r l) = V (64 + r.val)) :
    k0_pay3 (F := Ideal) q0 s1 q1 (ix2 r l) = V r.val := by
  unfold_payloads
  pointwise
  split
  · exact h0 _
  · rw [h1]
    congr 1
    simp
    omega

theorem pay8_ix (q0 s0 q1 s1 : FVec Ideal S64x128 .bf16) (r l : Fin 128) (V : Nat → EReal)
    (h0 : ∀ r : Fin 64, q0 (ix2 r l) = V r.val) (h1 : ∀ r : Fin 64, q1 (ix2 r l) * s1 (ix2 r l) = V (64 + r.val)) :
    k0_pay8 (F := Ideal) q0 s1 q1 (ix3 0 l r) = V r.val := by
  unfold_payloads
  pointwise
  split
  · exact h0 _
  · rw [h1]
    congr 1
    simp
    omega

end Cert.Proof.KernelIdeal
end
-- ==== Proof.DyInner.lean ====
module
public import proofs.«01_k».proof.Proof.Writes
@[expose] public section
/-! # The inner loops of the `dy` pass: what they leave -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable (c : Dev nD) (i : grid0.Coords)
  (arg1 : Memref sig .tc .smem S2 .i32) (harg1 : arg1.IsWhole)
  (arg2 : Memref sig .tc .vmem S1920x512 .bf16) (harg2 : arg2.IsWhole)
  (arg3 : Memref sig .tc .vmem S1920x2048 .bf16) (harg3 : arg3.IsWhole)
  (arg4 : Memref sig .tc .vmem S512x2048 .f32) (harg4 : arg4.IsWhole)
  (arg5 : Memref sig .tc .vmem S960x512 .i8) (harg5 : arg5.IsWhole)
  (arg6 : Memref sig .tc .vmem S3x10x512 .f32) (harg6 : arg6.IsWhole)
  (arg7 : Memref sig .tc .vmem S960x2048 .i8) (harg7 : arg7.IsWhole)
  (arg8 : Memref sig .tc .vmem S3x10x2048 .f32) (harg8 : arg8.IsWhole)
  (arg9 : Memref sig .tc .vmem S2x512x1920 .bf16) (harg9 : arg9.IsWhole)
  (arg10 : Memref sig .tc .vmem S1920x2048 .bf16) (harg10 : arg10.IsWhole)
  (arg11 : Memref sig .tc .vmem S240x128 .f32) (harg11 : arg11.IsWhole)
  (arg12 : Memref sig .tc .vmem S30x128 .i32) (harg12 : arg12.IsWhole)
  (arg13 : Memref sig .tc .vmem S30x128 .i32) (harg13 : arg13.IsWhole)

/-- After `n` trips of the maxima pass the first `8·n` rows hold the partial maxima of the first `n` blocks. -/
theorem t2_read (k0_h1 : k0_cond1 i = 1#1) (w0 w1 : BitVec 32) (k : Fin k0_t1_loop.trips) (X3 : BufTy.Contents (Elt Ideal) arg3.view.ty)
    (G : BufTy.Contents (Elt Ideal) arg11.view.ty) : ∀ n : Nat, n ≤ 30 → ∀ (y : S240x128.Idx), (y 0).val < 8 * n →
    arg11.view.read (Elt Ideal) (arg11.view.writes (Elt Ideal) G (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 w0 w1 k X3 n)) y
      = pmax (fun r => colA (arg3.view.read (Elt Ideal) X3) (128 * k.val + (y 1).val) (64 * ((y 0).val / 8) + r)) ((y 0).val % 8) := by
  intro n
  induction n with
  | zero => intro _ y hy; omega
  | succ n ih =>
    intro hn y hy
    have hk : n < k0_t2_loop.trips := by
      have : k0_t2_loop.trips = 30 := by decide +kernel
      omega
    have e := pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 w0 w1 k X3 ⟨n, hk⟩
    simp only at e
    rw [e]
    unfold tripL_k0_t2 trip_k0_t2
    dsimp only
    rw [List.cons_append, List.nil_append]
    by_cases h : (y 0).val < 8 * n
    · rw [View.read_writes_cons_unit_of_not_mem _ _ _ _ _ _ (k0_off2_eq ⟨n, hk⟩) 0 (Or.inl (by simpa using h))]
      exact ih (by omega) y h
    · have y1 := (y 1).isLt
      rw [View.read_writes_cons_unit_of_mem _ _ _ _ _ _ (ix2 (⟨(y 0).val - 8 * n, by omega⟩ : Fin 8) (⟨(y 1).val, y1⟩ : Fin 128)) (k0_off2_eq ⟨n, hk⟩)
        (by intro a; fin_cases a <;> simp; omega)]
      rw [readAt_chunk arg3.view X3 _ n (128 * k.val) (k0_off1_eq k ⟨n, hk⟩), pay28_ix]
      simp only
      rw [show (y 0).val / 8 = n by omega, show (y 0).val % 8 = (y 0).val - 8 * n by omega]

section
variable (k0_h1 : k0_cond1 i = 1#1) (k0_t1 : Fin k0_t1_loop.trips) (v26 v43 v53 : BitVec 32) (v372 v373 : IVec S32x128 32)
  (X3 : BufTy.Contents (Elt Ideal) arg3.view.ty) (X12 : BufTy.Contents (Elt Ideal) arg12.view.ty) (X13 : BufTy.Contents (Elt Ideal) arg13.view.ty)
  (M S H : Nat → Nat → BitVec 32)
  (hM : ∀ (b : Fin 30) (l : Fin 128), arg12.view.read (Elt Ideal) X12 (ix2 b l) = M (128 * k0_t1.val + l.val) b.val)
  (hS : ∀ (b : Fin 30) (l : Fin 128), arg13.view.read (Elt Ideal) X13 (ix2 b l) = S (128 * k0_t1.val + l.val) b.val)
  (hH : ∀ (p : Fin k0_t3_loop.trips) (h : Fin 2) (r : Fin 64) (l : Fin 128),
    hsh (IntOp.addi (k0_pay1 v43 v373 (ix2 ⟨r.val / 2, rhalf r⟩ l))
        (if r.val % 2 = 0 then kE 2#32 (Scf.iv 0#32 1#32 p) (BitVec.ofNat 32 h.val) else kO 2#32 (Scf.iv 0#32 1#32 p) (BitVec.ofNat 32 h.val)))
      (v372 (ix2 ⟨r.val / 2, rhalf r⟩ l)) (Scalar.muli v53 128#32) = H (128 * k0_t1.val + l.val) (64 * (2 * p.val + h.val) + r.val))

include hM hH in
/-- One block's quantised values are the wanted ones. -/
theorem dy_half (p : Fin k0_t3_loop.trips) (h : Fin 2) (h2 : BitVec 32) (he : h2 = BitVec.ofNat 32 h.val)
    {off : Fin 2 → Nat} (inb : ∀ a, off a + S64x128.size a ≤ S1920x2048.size a) (ho : off = ![64 * (2 * p.val + h.val), 128 * k0_t1.val])
    {offm : Fin 2 → Nat} (inbm : ∀ a, offm a + S1x128.size a ≤ S30x128.size a) (hom : offm = ![2 * p.val + h.val, 0]) (r : Fin 64) (l : Fin 128) :
    qV (arg3.view.readAt (Elt Ideal) (Rect.unit (s := S1920x2048) off S64x128.size inb).toLoadRect X3)
      (arg12.view.readAt (Elt Ideal) (Rect.unit (s := S30x128) offm S1x128.size inbm).toLoadRect X12)
      (k0_pay1 v43 v373) v372 (kE 2#32 (Scf.iv 0#32 1#32 p) h2) (kO 2#32 (Scf.iv 0#32 1#32 p) h2) (Scalar.muli v53 128#32) (ix2 r l)
      = qw (arg3.view.read (Elt Ideal) X3) M H (128 * k0_t1.val + l.val) (64 * (2 * p.val + h.val) + r.val) := by
  subst he
  have hp : p.val < 15 := by have := p.isLt; have : k0_t3_loop.trips = 15 := by decide +kernel
                             omega
  rw [qV_ix, readAt_chunk arg3.view X3 inb _ _ ho, chunk_ix, readAt_row arg12.view X12 inbm ⟨2 * p.val + h.val, by omega⟩ hom, hM, hH p h r l]
  unfold qw
  rw [show (64 * (2 * p.val + h.val) + r.val) / 64 = 2 * p.val + h.val by omega, show (64 * (2 * p.val + h.val) + r.val) % 2 = r.val % 2 by omega]

set_option maxHeartbeats 1000000
/-- The quantised values of block `2p+h`, from what the trip loads. -/
def dyQ (p : Fin k0_t3_loop.trips) (h2 : BitVec 32) (inb : ∀ a, k0_off6 k0_t1 p h2 a + S64x128.size a ≤ S1920x2048.size a)
    (inbm : ∀ a, k0_off7 p h2 a + S1x128.size a ≤ S30x128.size a) : FVec Ideal S64x128 .bf16 :=
  qV (arg3.view.readAt (Elt Ideal) (Rect.unit (s := S1920x2048) (k0_off6 k0_t1 p h2) S64x128.size inb).toLoadRect X3)
      (arg12.view.readAt (Elt Ideal) (Rect.unit (s := S30x128) (k0_off7 p h2) S1x128.size inbm).toLoadRect X12)
      (k0_pay1 v43 v373) v372 (kE 2#32 (Scf.iv 0#32 1#32 p) h2) (kO 2#32 (Scf.iv 0#32 1#32 p) h2) (Scalar.muli v53 128#32)

/-- The code pieces of one trip. -/
theorem t3_trip1 (k : Fin k0_t3_loop.trips) :
    ∃ i1 i0 j1 j0 m1 m0, (trip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 k0_t1 v26 v43 v53 v372 v373 X3 X12 X13 k).1
      = [⟨Rect.unit (s := S960x2048) (k0_off8 k0_t1 k 1#32) S32x128.size i1, codesV (dyQ arg3 arg12 k0_t1 v43 v53 v372 v373 X3 X12 k 1#32 j1 m1)⟩,
         ⟨Rect.unit (s := S960x2048) (k0_off8 k0_t1 k 0#32) S32x128.size i0, codesV (dyQ arg3 arg12 k0_t1 v43 v53 v372 v373 X3 X12 k 0#32 j0 m0)⟩] := by
  refine ⟨?_, ?_, ?_, ?_, ?_, ?_, ?e⟩
  case e =>
    unfold trip_k0_t3
    dsimp only
    rfl
/-- The value piece of one trip. -/
theorem t3_trip2 (k : Fin k0_t3_loop.trips) :
    ∃ i1 j1 j0 m1 m0, (trip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 k0_t1 v26 v43 v53 v372 v373 X3 X12 X13 k).2.1
      = [⟨Rect.unit (s := S1920x2048) (k0_off9 k0_t1 k) S128x128.size i1,
          k0_pay3 (F := Ideal) (mulf (dyQ arg3 arg12 k0_t1 v43 v53 v372 v373 X3 X12 k 0#32 j0 m0) (decV (arg13.view.readAt (Elt Ideal) (Rect.unit (s := S30x128) (k0_off7 k 0#32) S1x128.size m0).toLoadRect X13)))
            (decV (arg13.view.readAt (Elt Ideal) (Rect.unit (s := S30x128) (k0_off7 k 1#32) S1x128.size m1).toLoadRect X13))
            (dyQ arg3 arg12 k0_t1 v43 v53 v372 v373 X3 X12 k 1#32 j1 m1)⟩] := by
  refine ⟨?_, ?_, ?_, ?_, ?_, ?e⟩
  case e =>
    unfold trip_k0_t3
    dsimp only
    rfl

set_option maxHeartbeats 400000
include hM hH in
theorem dyQ_ix (n : Nat) (hk : n < k0_t3_loop.trips) (h : Fin 2) (h2 : BitVec 32) (he : h2 = BitVec.ofNat 32 h.val) (d : Nat) (hd : d = 128 * n + 64 * h.val) (j m) (r : Fin 64) (l : Fin 128) :
    dyQ arg3 arg12 k0_t1 v43 v53 v372 v373 X3 X12 ⟨n, hk⟩ h2 j m (ix2 r l)
      = qw (arg3.view.read (Elt Ideal) X3) M H (128 * k0_t1.val + l.val) (d + r.val) := by
  subst he hd
  have e := dy_half arg3 arg12 k0_t1 v43 v53 v372 v373 X3 X12 M H hM hH ⟨n, hk⟩ h _ rfl j
    ((k0_off6_eq k0_t1 ⟨n, hk⟩ h).trans (by congr 1; simp only; omega)) m (k0_off7_eq ⟨n, hk⟩ h) r l
  rw [show 64 * (2 * (⟨n, hk⟩ : Fin k0_t3_loop.trips).val + h.val) + r.val = 128 * n + 64 * h.val + r.val by simp only; omega] at e
  exact e

include hS in
theorem dyS_ix (n : Nat) (hk : n < k0_t3_loop.trips) (h : Fin 2) (h2 : BitVec 32) (he : h2 = BitVec.ofNat 32 h.val) (d : Nat) (hd : d = 128 * n + 64 * h.val)
    (m : ∀ a, k0_off7 ⟨n, hk⟩ h2 a + S1x128.size a ≤ S30x128.size a) (r : Fin 64) (l : Fin 128) :
    decV (arg13.view.readAt (Elt Ideal) (Rect.unit (s := S30x128) (k0_off7 ⟨n, hk⟩ h2) S1x128.size m).toLoadRect X13) (ix2 r l)
      = dec (S (128 * k0_t1.val + l.val) ((d + r.val) / 64)) ((d + r.val) % 2) := by
  subst he hd
  have h15 : n < 15 := by have : k0_t3_loop.trips = 15 := by decide +kernel
                          omega
  rw [decV_ix, readAt_row arg13.view X13 m ⟨2 * n + h.val, by omega⟩ (k0_off7_eq ⟨n, hk⟩ h), hS,
    show (128 * n + 64 * h.val + r.val) / 64 = 2 * n + h.val by omega, show (128 * n + 64 * h.val + r.val) % 2 = r.val % 2 by omega]

include hM hH in
/-- After `n` pairs the codes of the first `64·n` rows of this group of columns are written. -/
theorem t3_codes (G : BufTy.Contents (Elt Ideal) arg7.view.ty) : ∀ n : Nat, n ≤ 15 → ∀ (y : S960x2048.Idx),
    arg7.view.read (Elt Ideal) (arg7.view.writes (Elt Ideal) G (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 k0_t1 v26 v43 v53 v372 v373 X3 X12 X13 n).1) y
      = if (128 * k0_t1.val ≤ (y 1).val ∧ (y 1).val < 128 * k0_t1.val + 128) ∧ (y 0).val < 64 * n then
          byte (qw (arg3.view.read (Elt Ideal) X3) M H (y 1).val (2 * (y 0).val)) (qw (arg3.view.read (Elt Ideal) X3) M H (y 1).val (2 * (y 0).val + 1))
        else arg7.view.read (Elt Ideal) G y := by
  intro n
  induction n with
  | zero => intro _ y; rw [if_neg (by omega)]; rfl
  | succ n ih =>
    intro hn y
    have hk : n < k0_t3_loop.trips := by
      have : k0_t3_loop.trips = 15 := by decide +kernel
      omega
    have ih' := ih (by omega) y
    have e := congrArg Prod.fst (pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 k0_t1 v26 v43 v53 v372 v373 X3 X12 X13 ⟨n, hk⟩)
    obtain ⟨i1, i0, j1, j0, m1, m0, e1⟩ := t3_trip1 c i arg1 harg1 arg2 harg2 arg3 harg3 arg4 harg4 arg5 harg5 arg6 harg6 arg7 harg7 arg8 harg8 arg9 harg9 arg10 harg10 arg11 harg11 arg12 harg12 arg13 harg13 k0_h1 k0_t1 v26 v43 v53 v372 v373 X3 X12 X13 ⟨n, hk⟩
    have hq1 := dyQ_ix arg3 arg12 k0_t1 v43 v53 v372 v373 X3 X12 M H hM hH n hk 1 1#32 rfl (128 * n + 64) rfl j1 m1
    have hq0 := dyQ_ix arg3 arg12 k0_t1 v43 v53 v372 v373 X3 X12 M H hM hH n hk 0 0#32 rfl (128 * n) rfl j0 m0
    simp only [e1, List.cons_append, List.nil_append] at e
    rw [e]
    generalize dyQ arg3 arg12 k0_t1 v43 v53 v372 v373 X3 X12 ⟨n, hk⟩ 1#32 j1 m1 = q1 at hq1 ⊢
    generalize dyQ arg3 arg12 k0_t1 v43 v53 v372 v373 X3 X12 ⟨n, hk⟩ 0#32 j0 m0 = q0 at hq0 ⊢
    generalize (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 k0_t1 v26 v43 v53 v372 v373 X3 X12 X13 n).1 = L at ih' ⊢
    have ho1 : k0_off8 k0_t1 ⟨n, hk⟩ 1#32 = ![64 * n + 32, 128 * k0_t1.val] := k0_off8_eq k0_t1 ⟨n, hk⟩ 1
    have ho0 : k0_off8 k0_t1 ⟨n, hk⟩ 0#32 = ![64 * n, 128 * k0_t1.val] := k0_off8_eq k0_t1 ⟨n, hk⟩ 0
    rw [pair_codes arg7.view G L i1 i0 q1 q0 n (128 * k0_t1.val) ho1 ho0 (qw (arg3.view.read (Elt Ideal) X3) M H) hq1 hq0 y, ih']
    by_cases hc : 128 * k0_t1.val ≤ (y 1).val ∧ (y 1).val < 128 * k0_t1.val + 128
    · by_cases h1 : (y 0).val < 64 * n
      · rw [if_neg (by omega), if_pos ⟨hc, h1⟩, if_pos ⟨hc, by omega⟩]
      · by_cases h2 : (y 0).val < 64 * n + 64
        · rw [if_pos ⟨hc, by omega, h2⟩, if_pos ⟨hc, by omega⟩]
        · rw [if_neg (by omega), if_neg (by omega), if_neg (by omega)]
    · rw [if_neg (by omega), if_neg (by omega), if_neg (by omega)]

include hM hS hH in
/-- After `n` pairs the values of the first `128·n` rows of this group of columns are written. -/
theorem t3_vals (G : BufTy.Contents (Elt Ideal) arg10.view.ty) : ∀ n : Nat, n ≤ 15 → ∀ (y : S1920x2048.Idx),
    arg10.view.read (Elt Ideal) (arg10.view.writes (Elt Ideal) G (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 k0_t1 v26 v43 v53 v372 v373 X3 X12 X13 n).2) y
      = if (128 * k0_t1.val ≤ (y 1).val ∧ (y 1).val < 128 * k0_t1.val + 128) ∧ (y 0).val < 128 * n then
          vw (arg3.view.read (Elt Ideal) X3) M S H (y 1).val (y 0).val
        else arg10.view.read (Elt Ideal) G y := by
  intro n
  induction n with
  | zero => intro _ y; rw [if_neg (by omega)]; rfl
  | succ n ih =>
    intro hn y
    have hk : n < k0_t3_loop.trips := by
      have : k0_t3_loop.trips = 15 := by decide +kernel
      omega
    have ih' := ih (by omega) y
    have e := congrArg Prod.snd (pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 k0_t1 v26 v43 v53 v372 v373 X3 X12 X13 ⟨n, hk⟩)
    obtain ⟨i1, j1, j0, m1, m0, e1⟩ := t3_trip2 c i arg1 harg1 arg2 harg2 arg3 harg3 arg4 harg4 arg5 harg5 arg6 harg6 arg7 harg7 arg8 harg8 arg9 harg9 arg10 harg10 arg11 harg11 arg12 harg12 arg13 harg13 k0_h1 k0_t1 v26 v43 v53 v372 v373 X3 X12 X13 ⟨n, hk⟩
    have hq1 := dyQ_ix arg3 arg12 k0_t1 v43 v53 v372 v373 X3 X12 M H hM hH n hk 1 1#32 rfl (128 * n + 64) rfl j1 m1
    have hq0 := dyQ_ix arg3 arg12 k0_t1 v43 v53 v372 v373 X3 X12 M H hM hH n hk 0 0#32 rfl (128 * n) rfl j0 m0
    have hs1 := dyS_ix arg13 k0_t1 X13 S hS n hk 1 1#32 rfl (128 * n + 64) rfl m1
    have hs0 := dyS_ix arg13 k0_t1 X13 S hS n hk 0 0#32 rfl (128 * n) rfl m0
    simp only [e1, List.cons_append, List.nil_append] at e
    rw [e]
    generalize dyQ arg3 arg12 k0_t1 v43 v53 v372 v373 X3 X12 ⟨n, hk⟩ 1#32 j1 m1 = q1 at hq1 ⊢
    generalize dyQ arg3 arg12 k0_t1 v43 v53 v372 v373 X3 X12 ⟨n, hk⟩ 0#32 j0 m0 = q0 at hq0 ⊢
    generalize decV (arg13.view.readAt (Elt Ideal) (Rect.unit (s := S30x128) (k0_off7 ⟨n, hk⟩ 1#32) S1x128.size m1).toLoadRect X13) = s1 at hs1 ⊢
    generalize decV (arg13.view.readAt (Elt Ideal) (Rect.unit (s := S30x128) (k0_off7 ⟨n, hk⟩ 0#32) S1x128.size m0).toLoadRect X13) = s0 at hs0 ⊢
    generalize (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 k0_t1 v26 v43 v53 v372 v373 X3 X12 X13 n).2 = L at ih' ⊢
    have hW : ∀ (r l : Fin 128), k0_pay3 (F := Ideal) (mulf q0 s0) s1 q1 (ix2 r l) = vw (arg3.view.read (Elt Ideal) X3) M S H (128 * k0_t1.val + l.val) (128 * n + r.val) := by
      intro r l
      refine pay3_ix (mulf q0 s0) s1 q1 s1 r l (fun r => vw (arg3.view.read (Elt Ideal) X3) M S H (128 * k0_t1.val + l.val) (128 * n + r)) (fun r => ?_) (fun r => ?_)
      · show q0 (ix2 r l) * s0 (ix2 r l) = _
        rw [hq0, hs0]; rfl
      · rw [hq1, hs1, ← Nat.add_assoc]; rfl
    generalize k0_pay3 (F := Ideal) (mulf q0 s0) s1 q1 = W at hW ⊢
    rw [pair_vals arg10.view G L i1 W n (128 * k0_t1.val) (k0_off9_eq k0_t1 ⟨n, hk⟩) (vw (arg3.view.read (Elt Ideal) X3) M S H) hW y, ih']
    by_cases hc : 128 * k0_t1.val ≤ (y 1).val ∧ (y 1).val < 128 * k0_t1.val + 128
    · by_cases h1 : (y 0).val < 128 * n
      · rw [if_neg (by omega), if_pos ⟨hc, h1⟩, if_pos ⟨hc, by omega⟩]
      · by_cases h2 : (y 0).val < 128 * n + 128
        · rw [if_pos ⟨hc, by omega, h2⟩, if_pos ⟨hc, by omega⟩]
        · rw [if_neg (by omega), if_neg (by omega), if_neg (by omega)]
    · rw [if_neg (by omega), if_neg (by omega), if_neg (by omega)]
end

end Cert.Proof.KernelIdeal
end
-- ==== Proof.Maxima.lean ====
module
public import proofs.«01_k».proof.Proof.Writes
@[expose] public section
/-! # From the partial maxima to the words of the scales

The maxima scratch holds eight partial maxima a block; a strided load takes one of the eight for ten blocks. -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {sig : RefSig} {κ : Kind} {sp : Space}

/-- Every eighth row of the maxima scratch from row `o`. -/
def lrow (o : Nat) (h : o ≤ 167) : LoadRect S240x128 := ⟨![o, 0], S10x128.size, ![8, 1], by
  intro a; right; fin_cases a <;> simp [S10x128, S240x128]; omega⟩

/-- The largest magnitudes of ten blocks, from the maxima scratch. -/
def mxL (v : View sig κ sp S240x128 .f32) (f : v.ty.Contents (Elt Ideal)) (o : Nat) (h : o ≤ 160) : FVec Ideal S10x128 .f32 :=
  max8 (v.readAt (Elt Ideal) (lrow o (by omega)) f) (v.readAt (Elt Ideal) (lrow (o + 1) (by omega)) f)
    (v.readAt (Elt Ideal) (lrow (o + 2) (by omega)) f) (v.readAt (Elt Ideal) (lrow (o + 3) (by omega)) f)
    (v.readAt (Elt Ideal) (lrow (o + 4) (by omega)) f) (v.readAt (Elt Ideal) (lrow (o + 5) (by omega)) f)
    (v.readAt (Elt Ideal) (lrow (o + 6) (by omega)) f) (v.readAt (Elt Ideal) (lrow (o + 7) (by omega)) f)

theorem lrow_ix (v : View sig κ sp S240x128 .f32) (f : v.ty.Contents (Elt Ideal)) (o : Nat) (h : o ≤ 167) (r : Fin 10) (l : Fin 128) :
    v.readAt (Elt Ideal) (lrow o h) f (ix2 r l) = v.read (Elt Ideal) f (ix2 (⟨o + 8 * r.val, by omega⟩ : Fin 240) l) := by
  show v.read (Elt Ideal) f ((lrow o h).idx (ix2 r l)) = _
  congr 1
  funext a
  fin_cases a <;> (apply Fin.ext; simp [LoadRect.idx_apply, lrow])

section
variable {N : Nat} (X : (⟨2, ![1920, N]⟩ : Shape).Idx → EReal) (c₀ : Nat)
  (v : View sig κ sp S240x128 .f32) (f : v.ty.Contents (Elt Ideal))
  (hf : ∀ y : S240x128.Idx, v.read (Elt Ideal) f y = pmax (fun r => colA X (c₀ + (y 1).val) (64 * ((y 0).val / 8) + r)) ((y 0).val % 8))

include hf in
theorem lrow_pmax (bi s o : Nat) (hs : s < 8) (ho : o = 80 * bi + s) (h : o ≤ 167) (r : Fin 10) (l : Fin 128) :
    v.readAt (Elt Ideal) (lrow o h) f (ix2 r l) = pmax (fun q => colA X (c₀ + l.val) (64 * (10 * bi + r.val) + q)) s := by
  subst ho
  rw [lrow_ix, hf]
  show pmax (fun q => colA X (c₀ + l.val) (64 * ((80 * bi + s + 8 * r.val) / 8) + q)) ((80 * bi + s + 8 * r.val) % 8) = _
  rw [show (80 * bi + s + 8 * r.val) / 8 = 10 * bi + r.val by omega, show (80 * bi + s + 8 * r.val) % 8 = s by omega]

include hf in
theorem mxL_ix (bi o : Nat) (ho : o = 80 * bi) (h : o ≤ 160) (r : Fin 10) (l : Fin 128) :
    mxL v f o h (ix2 r l) = amx (fun q => colA X (c₀ + l.val) (64 * (10 * bi + r.val) + q)) := by
  have e (s : Nat) (hs : s < 8) := lrow_pmax X c₀ v f hf bi s (o + s) hs (by omega) (by omega) r l
  unfold mxL amx
  show max _ _ = _
  rw [← e 0 (by omega), ← e 1 (by omega), ← e 2 (by omega), ← e 3 (by omega), ← e 4 (by omega), ← e 5 (by omega), ← e 6 (by omega), ← e 7 (by omega)]
  rfl

include hf in
theorem lad_mxL (bi o : Nat) (ho : o = 80 * bi) (h : o ≤ 160) (r : Fin 10) (l : Fin 128) :
    ladV (mxL v f o h) (ix2 r l) = Ew (colA X (c₀ + l.val)) (10 * bi + r.val) := by
  rw [ladV_ix, mxL_ix X c₀ v f hf bi o ho]
  rfl
end

/-- Ten rows of words stored for each batch. -/
theorem words_read (v : View sig κ sp S30x128 .i32) (G : v.ty.Contents (Elt Ideal)) (i2 i1 i0) (w2 w1 w0 : IVec S10x128 32) (W : Nat → Nat → BitVec 32)
    (h2 : ∀ (r : Fin 10) (l : Fin 128), w2 (ix2 r l) = W l.val (20 + r.val))
    (h1 : ∀ (r : Fin 10) (l : Fin 128), w1 (ix2 r l) = W l.val (10 + r.val))
    (h0 : ∀ (r : Fin 10) (l : Fin 128), w0 (ix2 r l) = W l.val r.val) (b : Fin 30) (l : Fin 128) :
    v.read (Elt Ideal) (v.writes (Elt Ideal) G
      [(⟨Rect.unit (s := S30x128) ![20, 0] S10x128.size i2, w2⟩ : View.Piece (Elt Ideal) S30x128 .i32), ⟨Rect.unit (s := S30x128) ![10, 0] S10x128.size i1, w1⟩,
       ⟨Rect.unit (s := S30x128) ![0, 0] S10x128.size i0, w0⟩]) (ix2 b l) = W l.val b.val := by
  by_cases c2 : 20 ≤ b.val
  · rw [View.read_writes_cons_unit_of_mem v G i2 w2 _ (ix2 b l) (ix2 (⟨b.val - 20, by omega⟩ : Fin 10) l) rfl
      (by intro a; fin_cases a <;> simp; omega), h2]
    congr 1; simp only; omega
  rw [View.read_writes_cons_unit_of_not_mem v G i2 w2 _ (ix2 b l) rfl 0 (Or.inl (by simpa using c2))]
  by_cases c1 : 10 ≤ b.val
  · rw [View.read_writes_cons_unit_of_mem v G i1 w1 _ (ix2 b l) (ix2 (⟨b.val - 10, by omega⟩ : Fin 10) l) rfl
      (by intro a; fin_cases a <;> simp; omega), h1]
    congr 1; simp only; omega
  rw [View.read_writes_cons_unit_of_not_mem v G i1 w1 _ (ix2 b l) rfl 0 (Or.inl (by simpa using c1))]
  rw [View.read_writes_cons_unit_of_mem v G i0 w0 _ (ix2 b l) (ix2 (⟨b.val, by omega⟩ : Fin 10) l) rfl
      (by intro a; fin_cases a <;> simp), h0]

/-- The scales of ten blocks, as stored. -/
def scP (e : IVec S10x128 32) : FVec Ideal S1x10x128 .f32 := k0_pay44 (F := Ideal) e

theorem scP_ix (e : IVec S10x128 32) (r : Fin 10) (l : Fin 128) : scP e (ix3 0 r l) = Ideal.ofBits .f32 (e (ix2 r l)) := by
  unfold scP
  unfold_payloads
  pointwise

/-- The inverse-scale words of ten blocks, as stored. -/
def mW (e : IVec S10x128 32) : IVec S10x128 32 := shapeCast S10x128 (twV (mV e)) shapeCasts_S10x128_S10x128
/-- The scale words of ten blocks, as stored. -/
def sW (e : IVec S10x128 32) : IVec S10x128 32 := shapeCast S10x128 (twV (sV e)) shapeCasts_S10x128_S10x128
theorem mW_ix (e : IVec S10x128 32) (r : Fin 10) (l : Fin 128) : mW e (ix2 r l) = tw (mWd (e (ix2 r l))) := by
  unfold mW
  pointwise
  rfl
theorem sW_ix (e : IVec S10x128 32) (r : Fin 10) (l : Fin 128) : sW e (ix2 r l) = tw (sWd (e (ix2 r l))) := by
  unfold sW
  pointwise
  rfl

/-- The scales of three batches stored for the 128 columns from `c₀`. -/
theorem scales_read {N : Nat} (v : View sig κ sp ⟨3, ![3, 10, N]⟩ .f32) (G : v.ty.Contents (Elt Ideal)) {off2 off1 off0 : Fin 3 → Nat}
    (i2 : ∀ a, off2 a + S1x10x128.size a ≤ (⟨3, ![3, 10, N]⟩ : Shape).size a) (i1 : ∀ a, off1 a + S1x10x128.size a ≤ (⟨3, ![3, 10, N]⟩ : Shape).size a)
    (i0 : ∀ a, off0 a + S1x10x128.size a ≤ (⟨3, ![3, 10, N]⟩ : Shape).size a) (w2 w1 w0 : Vec Ideal S1x10x128 .f32) (c₀ : Nat) (W : Nat → Nat → EReal)
    (o2 : off2 = ![2, 0, c₀]) (o1 : off1 = ![1, 0, c₀]) (o0 : off0 = ![0, 0, c₀])
    (h2 : ∀ (r : Fin 10) (l : Fin 128), w2 (ix3 0 r l) = W (c₀ + l.val) (20 + r.val))
    (h1 : ∀ (r : Fin 10) (l : Fin 128), w1 (ix3 0 r l) = W (c₀ + l.val) (10 + r.val))
    (h0 : ∀ (r : Fin 10) (l : Fin 128), w0 (ix3 0 r l) = W (c₀ + l.val) r.val) (y : (⟨3, ![3, 10, N]⟩ : Shape).Idx) :
    v.read (Elt Ideal) (v.writes (Elt Ideal) G
      [(⟨Rect.unit off2 S1x10x128.size i2, w2⟩ : View.Piece (Elt Ideal) ⟨3, ![3, 10, N]⟩ .f32), ⟨Rect.unit off1 S1x10x128.size i1, w1⟩,
       ⟨Rect.unit off0 S1x10x128.size i0, w0⟩]) y
      = if c₀ ≤ (y 2).val ∧ (y 2).val < c₀ + 128 then W (y 2).val (10 * (y 0).val + (y 1).val) else v.read (Elt Ideal) G y := by
  have hy1 : (y 1).val < 10 := (y 1).isLt
  have hy0 : (y 0).val < 3 := (y 0).isLt
  split
  · rename_i hc
    by_cases c2 : (y 0).val = 2
    · rw [View.read_writes_cons_unit_of_mem v G i2 w2 _ y (ix3 (0 : Fin 1) (⟨(y 1).val, hy1⟩ : Fin 10) (⟨(y 2).val - c₀, by omega⟩ : Fin 128)) o2
        (by intro a; fin_cases a <;> simp <;> omega), h2]
      congr 1 <;> (simp only; omega)
    rw [View.read_writes_cons_unit_of_not_mem v G i2 w2 _ y o2 0 (Or.inl (by simp; omega))]
    by_cases c1 : (y 0).val = 1
    · rw [View.read_writes_cons_unit_of_mem v G i1 w1 _ y (ix3 (0 : Fin 1) (⟨(y 1).val, hy1⟩ : Fin 10) (⟨(y 2).val - c₀, by omega⟩ : Fin 128)) o1
        (by intro a; fin_cases a <;> simp <;> omega), h1]
      congr 1 <;> (simp only; omega)
    rw [View.read_writes_cons_unit_of_not_mem v G i1 w1 _ y o1 0 (Or.inl (by simp; omega))]
    rw [View.read_writes_cons_unit_of_mem v G i0 w0 _ y (ix3 (0 : Fin 1) (⟨(y 1).val, hy1⟩ : Fin 10) (⟨(y 2).val - c₀, by omega⟩ : Fin 128)) o0
        (by intro a; fin_cases a <;> simp <;> omega), h0]
    congr 1 <;> (simp only; omega)
  · rename_i hc
    rw [View.read_writes_cons_unit_of_not_mem v G i2 w2 _ y o2 2 (by simp [S1x10x128]; omega),
      View.read_writes_cons_unit_of_not_mem v G i1 w1 _ y o1 2 (by simp [S1x10x128]; omega),
      View.read_writes_cons_unit_of_not_mem v G i0 w0 _ y o0 2 (by simp [S1x10x128]; omega)]
    rfl

/-- A fact about what is written so far; before the first trip there is none. -/
def OkP : Nat → Prop → Prop
  | 0, _ => True
  | _ + 1, P => P

theorem OkP_iff (n : Nat) (P : Prop) (h : n = 0 → P) : OkP n P ↔ P := by
  cases n with
  | zero => exact ⟨fun _ => h rfl, fun _ => trivial⟩
  | succ n => exact Iff.rfl

end Cert.Proof.KernelIdeal
end
-- ==== Proof.Groups.lean ====
module
public import proofs.«01_k».proof.Proof.Maxima
@[expose] public section
/-! # One group of 128 columns extends what is already in place -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The codes of all columns before `128·n` are in place. -/
def OkC {N : Nat} (X : (⟨2, ![1920, N]⟩ : Shape).Idx → EReal) (H : Nat → Nat → BitVec 32) (n : Nat) (A : (⟨2, ![960, N]⟩ : Shape).Idx → BitVec 8) : Prop :=
  OkP n (∀ y, (y 1).val < 128 * n → A y = Cv (colA X (y 1).val) (H (y 1).val) (y 0).val)
/-- The values of all columns before `128·n` are in place. -/
def OkV {N : Nat} (X : (⟨2, ![1920, N]⟩ : Shape).Idx → EReal) (H : Nat → Nat → BitVec 32) (n : Nat) (A : (⟨2, ![1920, N]⟩ : Shape).Idx → EReal) : Prop :=
  OkP n (∀ y, (y 1).val < 128 * n → A y = Vv (colA X (y 1).val) (H (y 1).val) (y 0).val)
/-- The scales of all columns before `128·n` are in place. -/
def OkS {N : Nat} (X : (⟨2, ![1920, N]⟩ : Shape).Idx → EReal) (n : Nat) (A : (⟨3, ![3, 10, N]⟩ : Shape).Idx → EReal) : Prop :=
  OkP n (∀ y, (y 2).val < 128 * n → A y = Sv (colA X (y 2).val) (10 * (y 0).val + (y 1).val))

variable {sig : RefSig} {κ : Kind} {sp : Space}

/-- The words of the inverse scales. -/
abbrev wordsM (v : View sig κ sp S240x128 .f32) (f : v.ty.Contents (Elt Ideal)) : List (View.Piece (Elt Ideal) S30x128 .i32) :=
  [⟨Rect.unit (s := S30x128) ![20, 0] S10x128.size inb_S30x128_S10x128_20_0, mW (ladV (mxL v f 160 (by omega)))⟩,
   ⟨Rect.unit (s := S30x128) ![10, 0] S10x128.size inb_S30x128_S10x128_10_0, mW (ladV (mxL v f 80 (by omega)))⟩,
   ⟨Rect.unit (s := S30x128) ![0, 0] S10x128.size inb_S30x128_S10x128_0_0, mW (ladV (mxL v f 0 (by omega)))⟩]
/-- The words of the scales. -/
abbrev wordsS (v : View sig κ sp S240x128 .f32) (f : v.ty.Contents (Elt Ideal)) : List (View.Piece (Elt Ideal) S30x128 .i32) :=
  [⟨Rect.unit (s := S30x128) ![20, 0] S10x128.size inb_S30x128_S10x128_20_0, sW (ladV (mxL v f 160 (by omega)))⟩,
   ⟨Rect.unit (s := S30x128) ![10, 0] S10x128.size inb_S30x128_S10x128_10_0, sW (ladV (mxL v f 80 (by omega)))⟩,
   ⟨Rect.unit (s := S30x128) ![0, 0] S10x128.size inb_S30x128_S10x128_0_0, sW (ladV (mxL v f 0 (by omega)))⟩]

/-- The inverse-scale words of an array's blocks. -/
def dM {N : Nat} (X : (⟨2, ![1920, N]⟩ : Shape).Idx → EReal) (c b : Nat) : BitVec 32 := tw (mWd (Ew (colA X c) b))
/-- The scale words of an array's blocks. -/
def dS {N : Nat} (X : (⟨2, ![1920, N]⟩ : Shape).Idx → EReal) (c b : Nat) : BitVec 32 := tw (sWd (Ew (colA X c) b))

section
variable {N : Nat} (X : (⟨2, ![1920, N]⟩ : Shape).Idx → EReal) (H : Nat → Nat → BitVec 32) (n : Nat)

theorem okC_step (A A' : (⟨2, ![960, N]⟩ : Shape).Idx → BitVec 8) (e : OkC X H n A = True)
    (h : ∀ y, A' y = if (128 * n ≤ (y 1).val ∧ (y 1).val < 128 * n + 128) ∧ (y 0).val < 64 * 15 then
      byte (qw X (dM X) H (y 1).val (2 * (y 0).val)) (qw X (dM X) H (y 1).val (2 * (y 0).val + 1)) else A y) : OkC X H (n + 1) A' = True := by
  refine eq_true ?_
  intro y hy
  have hy0 : (y 0).val < 960 := (y 0).isLt
  rw [h]
  split
  · rfl
  · exact (OkP_iff n _ (by rintro rfl y hy; omega)).1 (of_eq_true e) y (by omega)

theorem okV_step (A A' : (⟨2, ![1920, N]⟩ : Shape).Idx → EReal) (e : OkV X H n A = True)
    (h : ∀ y, A' y = if (128 * n ≤ (y 1).val ∧ (y 1).val < 128 * n + 128) ∧ (y 0).val < 128 * 15 then
      vw X (dM X) (dS X) H (y 1).val (y 0).val else A y) : OkV X H (n + 1) A' = True := by
  refine eq_true ?_
  intro y hy
  have hy0 : (y 0).val < 1920 := (y 0).isLt
  rw [h]
  split
  · rfl
  · exact (OkP_iff n _ (by rintro rfl y hy; omega)).1 (of_eq_true e) y (by omega)

theorem okS_step (A A' : (⟨3, ![3, 10, N]⟩ : Shape).Idx → EReal) (e : OkS X n A = True)
    (h : ∀ y, A' y = if 128 * n ≤ (y 2).val ∧ (y 2).val < 128 * n + 128 then Sv (colA X (y 2).val) (10 * (y 0).val + (y 1).val) else A y) :
    OkS X (n + 1) A' = True := by
  refine eq_true ?_
  intro y hy
  rw [h]
  split
  · rfl
  · exact (OkP_iff n _ (by rintro rfl y hy; omega)).1 (of_eq_true e) y (by omega)

variable (v : View sig κ sp S240x128 .f32) (f : v.ty.Contents (Elt Ideal))
  (hf : ∀ y : S240x128.Idx, v.read (Elt Ideal) f y = pmax (fun r => colA X (128 * n + (y 1).val) (64 * ((y 0).val / 8) + r)) ((y 0).val % 8))
include hf
theorem wordsM_read (w : View sig κ sp S30x128 .i32) (G : w.ty.Contents (Elt Ideal)) (b : Fin 30) (l : Fin 128) :
    w.read (Elt Ideal) (w.writes (Elt Ideal) G (wordsM v f)) (ix2 b l) = dM X (128 * n + l.val) b.val := by
  refine words_read w G _ _ _ _ _ _ (fun l b => dM X (128 * n + l) b) (fun r l => ?_) (fun r l => ?_) (fun r l => ?_) b l
  · rw [mW_ix, lad_mxL X (128 * n) v f hf 2 160 rfl]; rfl
  · rw [mW_ix, lad_mxL X (128 * n) v f hf 1 80 rfl]; rfl
  · rw [mW_ix, lad_mxL X (128 * n) v f hf 0 0 rfl, Nat.mul_zero, Nat.zero_add]; rfl
theorem wordsS_read (w : View sig κ sp S30x128 .i32) (G : w.ty.Contents (Elt Ideal)) (b : Fin 30) (l : Fin 128) :
    w.read (Elt Ideal) (w.writes (Elt Ideal) G (wordsS v f)) (ix2 b l) = dS X (128 * n + l.val) b.val := by
  refine words_read w G _ _ _ _ _ _ (fun l b => dS X (128 * n + l) b) (fun r l => ?_) (fun r l => ?_) (fun r l => ?_) b l
  · rw [sW_ix, lad_mxL X (128 * n) v f hf 2 160 rfl]; rfl
  · rw [sW_ix, lad_mxL X (128 * n) v f hf 1 80 rfl]; rfl
  · rw [sW_ix, lad_mxL X (128 * n) v f hf 0 0 rfl, Nat.mul_zero, Nat.zero_add]; rfl
theorem scP_mxL (bi o : Nat) (ho : o = 80 * bi) (h : o ≤ 160) (r : Fin 10) (l : Fin 128) :
    scP (sV (ladV (mxL v f o h))) (ix3 0 r l) = Sv (colA X (128 * n + l.val)) (10 * bi + r.val) := by
  rw [scP_ix, sV_ix, lad_mxL X (128 * n) v f hf bi o ho]
  rfl
end

/-- One slot of the transposed values, as an array of token rows. -/
def slotA (s : Fin 2) (A : S2x512x1920.Idx → EReal) : S1920x512.Idx → EReal := fun y => A (ix3 s (y 1) (y 0))

end Cert.Proof.KernelIdeal
end
-- ==== Proof.Words.lean ====
module
public import proofs.«01_k».proof.Proof.Maxima
@[expose] public section
/-! # The hash's row, lane and group words -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The row word of row `64·(2p+h)+r`. -/
theorem row_word (m : Nat) (hm : m = 2 ∨ m = 7) (r p h q : Nat) :
    IntOp.addi (IntOp.addi (IntOp.muli (BitVec.ofNat 32 (r / 2)) (BitVec.ofNat 32 (2 * m))) (BitVec.ofNat 32 q))
      (if r % 2 = 0 then kE (BitVec.ofNat 32 m) (Scf.iv 0#32 1#32 p) (BitVec.ofNat 32 h) else kO (BitVec.ofNat 32 m) (Scf.iv 0#32 1#32 p) (BitVec.ofNat 32 h))
      = BitVec.ofNat 32 (m * (64 * (2 * p + h) + r) + q) := by
  have e0 : Scf.iv 0#32 1#32 p = BitVec.ofNat 32 p := by simp [Scf.iv]
  rw [e0]
  have eE : kE (BitVec.ofNat 32 m) (BitVec.ofNat 32 p) (BitVec.ofNat 32 h) = BitVec.ofNat 32 ((2 * p + h) * 64 * m) := by
    simp only [BitVec.ofNat_add, BitVec.ofNat_mul]; rfl
  have eO : kO (BitVec.ofNat 32 m) (BitVec.ofNat 32 p) (BitVec.ofNat 32 h) = BitVec.ofNat 32 (((2 * p + h) * 64 + 1) * m) := by
    simp only [BitVec.ofNat_add, BitVec.ofNat_mul]; rfl
  rw [eE, eO]
  have eA (a b : Nat) : IntOp.addi (BitVec.ofNat 32 a) (BitVec.ofNat 32 b) = BitVec.ofNat 32 (a + b) := by rw [BitVec.ofNat_add]; rfl
  have eM (a b : Nat) : IntOp.muli (BitVec.ofNat 32 a) (BitVec.ofNat 32 b) = BitVec.ofNat 32 (a * b) := by rw [BitVec.ofNat_mul]; rfl
  split <;> (rw [eM, eA, eA]; congr 1; rcases hm with rfl | rfl <;> omega)

theorem pay1_ix (v43 : BitVec 32) (a : Fin 32) (l : Fin 128) :
    k0_pay1 v43 (iota .tc S32x128 32 [0] iota_S32x128_d0_w32) (ix2 a l) = IntOp.addi (IntOp.muli (BitVec.ofNat 32 a.val) 4#32) v43 := by
  unfold_payloads
  pointwise
theorem pay6_ix (v39 : BitVec 32) (a : Fin 32) (l : Fin 128) :
    k0_pay6 v39 (ix2 a l) = IntOp.addi (IntOp.muli (BitVec.ofNat 32 a.val) 14#32) v39 := by
  unfold_payloads
  pointwise
theorem pay90_ix (v23 : BitVec 32) (a : Fin 32) (l : Fin 128) :
    k0_pay90 v23 (ix2 a l) = IntOp.xori (BitVec.ofNat 32 l.val) v23 := by
  unfold_payloads
  pointwise
theorem pay5_ix (v16 : BitVec 32) (a : Fin 32) (l : Fin 128) :
    k0_pay5 (F := Ideal) v16 (iota .tc S32x128 32 [1] iota_S32x128_d1_w32) (ix2 a l) = IntOp.xori (BitVec.ofNat 32 l.val) (Scalar.xori v16 (Scalar.shrui v16 16#32)) := by
  unfold_payloads
  pointwise

/-- The hash of row `64·(2p+h)+r` of the `k`-th group of columns of `dy`. -/
theorem dy_hash (v43 v53 v23 : BitVec 32) (k : Nat) (hk : k < 16) (h43 : v43 = BitVec.ofNat 32 (k / 8)) (h53 : Scalar.muli v53 128#32 = BitVec.ofNat 32 (128 * (k % 8)))
    (p h : Nat) (r : Fin 64) (l : Fin 128) :
    hsh (IntOp.addi (k0_pay1 v43 (iota .tc S32x128 32 [0] iota_S32x128_d0_w32) (ix2 ⟨r.val / 2, rhalf r⟩ l))
        (if r.val % 2 = 0 then kE 2#32 (Scf.iv 0#32 1#32 p) (BitVec.ofNat 32 h) else kO 2#32 (Scf.iv 0#32 1#32 p) (BitVec.ofNat 32 h)))
      (k0_pay90 v23 (ix2 ⟨r.val / 2, rhalf r⟩ l)) (Scalar.muli v53 128#32) = hv 2 v23 (128 * k + l.val) (64 * (2 * p + h) + r.val) := by
  rw [pay1_ix, pay90_ix, h43, h53]
  unfold hv
  rw [show (128 * k + l.val) / 1024 = k / 8 by omega, show (128 * k + l.val) % 128 = l.val by omega, show (128 * k + l.val) / 128 % 8 = k % 8 by omega]
  exact congrArg (fun w => hsh w _ _) (row_word 2 (.inl rfl) r.val p h (k / 8))

/-- The hash of row `64·(2p+h)+r` of the `k`-th group of columns of tile `T` of `x`. -/
theorem x_hash (v39 v51 v16 : BitVec 32) (T k : Nat) (hk : k < 4) (h39 : v39 = BitVec.ofNat 32 (T / 2)) (h51 : Scalar.muli v51 128#32 = BitVec.ofNat 32 (128 * (4 * (T % 2) + k)))
    (p h : Nat) (r : Fin 64) (l : Fin 128) :
    hsh (IntOp.addi (k0_pay6 v39 (ix2 ⟨r.val / 2, rhalf r⟩ l))
        (if r.val % 2 = 0 then kE 7#32 (Scf.iv 0#32 1#32 p) (BitVec.ofNat 32 h) else kO 7#32 (Scf.iv 0#32 1#32 p) (BitVec.ofNat 32 h)))
      (k0_pay5 (F := Ideal) v16 (iota .tc S32x128 32 [1] iota_S32x128_d1_w32) (ix2 ⟨r.val / 2, rhalf r⟩ l)) (Scalar.muli v51 128#32)
      = hv 7 (Scalar.xori v16 (Scalar.shrui v16 16#32)) (512 * T + (128 * k + l.val)) (64 * (2 * p + h) + r.val) := by
  rw [pay6_ix, pay5_ix, h39, h51]
  unfold hv
  rw [show (512 * T + (128 * k + l.val)) / 1024 = T / 2 by omega, show (512 * T + (128 * k + l.val)) % 128 = l.val by omega,
    show (512 * T + (128 * k + l.val)) / 128 % 8 = 4 * (T % 2) + k by omega]
  exact congrArg (fun w => hsh w _ _) (row_word 7 (.inr rfl) r.val p h (T / 2))

end Cert.Proof.KernelIdeal
end
-- ==== Proof.DyStep.lean ====
module
public import proofs.«01_k».proof.Proof.DyInner
public import proofs.«01_k».proof.Proof.Groups
public import proofs.«01_k».proof.Proof.Words
@[expose] public section
/-! # One trip of the `dy` loop: sixteen groups of 128 columns -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ
variable (E : Set ℕ)
variable (c : Dev nD) (i : grid0.Coords)
  (arg1 : Memref sig .tc .smem S2 .i32) (harg1 : arg1.IsWhole)
  (arg2 : Memref sig .tc .vmem S1920x512 .bf16) (harg2 : arg2.IsWhole)
  (arg3 : Memref sig .tc .vmem S1920x2048 .bf16) (harg3 : arg3.IsWhole)
  (arg4 : Memref sig .tc .vmem S512x2048 .f32) (harg4 : arg4.IsWhole)
  (arg5 : Memref sig .tc .vmem S960x512 .i8) (harg5 : arg5.IsWhole)
  (arg6 : Memref sig .tc .vmem S3x10x512 .f32) (harg6 : arg6.IsWhole)
  (arg7 : Memref sig .tc .vmem S960x2048 .i8) (harg7 : arg7.IsWhole)
  (arg8 : Memref sig .tc .vmem S3x10x2048 .f32) (harg8 : arg8.IsWhole)
  (arg9 : Memref sig .tc .vmem S2x512x1920 .bf16) (harg9 : arg9.IsWhole)
  (arg10 : Memref sig .tc .vmem S1920x2048 .bf16) (harg10 : arg10.IsWhole)
  (arg11 : Memref sig .tc .vmem S240x128 .f32) (harg11 : arg11.IsWhole)
  (arg12 : Memref sig .tc .vmem S30x128 .i32) (harg12 : arg12.IsWhole)
  (arg13 : Memref sig .tc .vmem S30x128 .i32) (harg13 : arg13.IsWhole)

/-- Before trip `n` of the `dy` loop the first `n` groups are in place. -/
abbrev dyInv (v23 : BitVec 32) (X3 : BufTy.Contents (Elt Ideal) arg3.view.ty) (n : Nat) : sProp 𝕄 :=
  iprop((arg3.view.loc (c : Thread nD τ) ↦[arg3.view.set]{fullShare} X3)
    ∗ (∃ f, (arg7.view.loc (c : Thread nD τ) ↦[arg7.view.set]{fullShare} f) ∗ ⌜OkC (arg3.view.read (Elt Ideal) X3) (hv 2 v23) n (arg7.view.read (Elt Ideal) f) = True⌝)
    ∗ (∃ f, (arg8.view.loc (c : Thread nD τ) ↦[arg8.view.set]{fullShare} f) ∗ ⌜OkS (arg3.view.read (Elt Ideal) X3) n (arg8.view.read (Elt Ideal) f) = True⌝)
    ∗ (∃ f, (arg10.view.loc (c : Thread nD τ) ↦[arg10.view.set]{fullShare} f) ∗ ⌜OkV (arg3.view.read (Elt Ideal) X3) (hv 2 v23) n (arg10.view.read (Elt Ideal) f) = True⌝)
    ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))

/-- What the maxima pass leaves. -/
abbrev dyF11 (k0_h1 : k0_cond1 i = 1#1) (X3 : BufTy.Contents (Elt Ideal) arg3.view.ty) (k : Fin k0_t1_loop.trips) (f11 : BufTy.Contents (Elt Ideal) arg11.view.ty) : BufTy.Contents (Elt Ideal) arg11.view.ty :=
  arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 0#32 1#32 k X3 (Scf.trips k0_t2_loop.lb k0_t2_loop.ub k0_t2_loop.st))

theorem dyF11_read (k0_h1 : k0_cond1 i = 1#1) (X3 : BufTy.Contents (Elt Ideal) arg3.view.ty) (k : Fin k0_t1_loop.trips) (f11 : BufTy.Contents (Elt Ideal) arg11.view.ty) (y : S240x128.Idx) :
    arg11.view.read (Elt Ideal) (dyF11 c i arg1 harg1 arg2 harg2 arg3 harg3 arg4 harg4 arg5 harg5 arg6 harg6 arg7 harg7 arg8 harg8 arg9 harg9 arg10 harg10 arg11 harg11 arg12 harg12 arg13 harg13 k0_h1 X3 k f11) y
      = pmax (fun r => colA (arg3.view.read (Elt Ideal) X3) (128 * k.val + (y 1).val) (64 * ((y 0).val / 8) + r)) ((y 0).val % 8) := by
  have h30 : Scf.trips k0_t2_loop.lb k0_t2_loop.ub k0_t2_loop.st = 30 := by decide +kernel
  have y0 : (y 0).val < 240 := (y 0).isLt
  unfold dyF11
  rw [h30]
  exact t2_read c i arg1 harg1 arg2 harg2 arg3 harg3 arg4 harg4 arg5 harg5 arg6 harg6 arg7 harg7 arg8 harg8 arg9 harg9 arg10 harg10 arg11 harg11 arg12 harg12 arg13 harg13 k0_h1 _ _ k X3 f11 30 (le_refl _) y (by omega)

set_option maxHeartbeats 4000000 in
theorem dyStep (k0_h1 : k0_cond1 i = 1#1) (v23 : BitVec 32) (X3 : BufTy.Contents (Elt Ideal) arg3.view.ty) (k : Fin k0_t1_loop.trips) :
    dyInv c arg3 arg7 arg8 arg10 arg11 arg12 arg13 v23 X3 k.val
      ⊢ wp frame (wpE (defs₀ (F := Ideal)) Variants.none (c : Thread nD τ) none) E
          (k0_t1_body (F := Ideal) i arg1 harg1 arg2 harg2 arg3 harg3 arg4 harg4 arg5 harg5 arg6 harg6 arg7 harg7 arg8 harg8 arg9 harg9 arg10 harg10 arg11 harg11 arg12 harg12 arg13 harg13 k0_h1 v23 k PUnit.unit)
          (fun _ => dyInv c arg3 arg7 arg8 arg10 arg11 arg12 arg13 v23 X3 (k.val + 1)) := by
    unfold k0_t1_body
    iintro ⟨H3, ⟨%f7, H7, %e7⟩, ⟨%f8, H8, %e8⟩, ⟨%f10, H10, %e10⟩, ⟨%f11, H11⟩, ⟨%f12, H12⟩, ⟨%f13, H13⟩⟩
    sl_exec
    sl_step
    have eM : dyStep.sl.H12_3 c i arg1 harg1 arg2 harg2 arg3 harg3 arg4 harg4 arg5 harg5 arg6 harg6 arg7 harg7 arg8 harg8 arg9 harg9 arg10 harg10 arg11 harg11 arg12 harg12 arg13 harg13 k0_h1 X3 k f11
        = wordsM arg11.view (dyF11 c i arg1 harg1 arg2 harg2 arg3 harg3 arg4 harg4 arg5 harg5 arg6 harg6 arg7 harg7 arg8 harg8 arg9 harg9 arg10 harg10 arg11 harg11 arg12 harg12 arg13 harg13 k0_h1 X3 k f11) := rfl
    have eS : dyStep.sl.H13_3 c i arg1 harg1 arg2 harg2 arg3 harg3 arg4 harg4 arg5 harg5 arg6 harg6 arg7 harg7 arg8 harg8 arg9 harg9 arg10 harg10 arg11 harg11 arg12 harg12 arg13 harg13 k0_h1 X3 k f11
        = wordsS arg11.view (dyF11 c i arg1 harg1 arg2 harg2 arg3 harg3 arg4 harg4 arg5 harg5 arg6 harg6 arg7 harg7 arg8 harg8 arg9 harg9 arg10 harg10 arg11 harg11 arg12 harg12 arg13 harg13 k0_h1 X3 k f11) := rfl
    have h43 : ∀ k : Fin k0_t1_loop.trips, dyStep.sl.v43 k = BitVec.ofNat 32 (k.val / 8) := by decide +kernel
    have h53 : ∀ k : Fin k0_t1_loop.trips, Scalar.muli (dyStep.sl.v53 k) 128#32 = BitVec.ofNat 32 (128 * (k.val % 8)) := by decide +kernel
    have e373 : dyStep.sl.v373 = iota .tc S32x128 32 [0] iota_S32x128_d0_w32 := rfl
    rw [eM, eS, e373]
    have h43 := h43 k
    have h53 := h53 k
    generalize dyStep.sl.v43 k = v43 at h43 ⊢
    generalize dyStep.sl.v53 k = v53 at h53 ⊢
    have s2 : k0_pay87 (F := Ideal) (dyStep.sl.r_15 c i arg1 harg1 arg2 harg2 arg3 harg3 arg4 harg4 arg5 harg5 arg6 harg6 arg7 harg7 arg8 harg8 arg9 harg9 arg10 harg10 arg11 harg11 arg12 harg12 arg13 harg13 k0_h1 X3 k f11) (dyStep.sl.r_16 c i arg1 harg1 arg2 harg2 arg3 harg3 arg4 harg4 arg5 harg5 arg6 harg6 arg7 harg7 arg8 harg8 arg9 harg9 arg10 harg10 arg11 harg11 arg12 harg12 arg13 harg13 k0_h1 X3 k f11) (dyStep.sl.r_17 c i arg1 harg1 arg2 harg2 arg3 harg3 arg4 harg4 arg5 harg5 arg6 harg6 arg7 harg7 arg8 harg8 arg9 harg9 arg10 harg10 arg11 harg11 arg12 harg12 arg13 harg13 k0_h1 X3 k f11) 16777216#32
        = scP (sV (ladV (mxL arg11.view (dyF11 c i arg1 harg1 arg2 harg2 arg3 harg3 arg4 harg4 arg5 harg5 arg6 harg6 arg7 harg7 arg8 harg8 arg9 harg9 arg10 harg10 arg11 harg11 arg12 harg12 arg13 harg13 k0_h1 X3 k f11) 160 (by omega)))) := rfl
    have s1 : k0_pay63 (F := Ideal) (dyStep.sl.r_8 c i arg1 harg1 arg2 harg2 arg3 harg3 arg4 harg4 arg5 harg5 arg6 harg6 arg7 harg7 arg8 harg8 arg9 harg9 arg10 harg10 arg11 harg11 arg12 harg12 arg13 harg13 k0_h1 X3 k f11) (dyStep.sl.r_9 c i arg1 harg1 arg2 harg2 arg3 harg3 arg4 harg4 arg5 harg5 arg6 harg6 arg7 harg7 arg8 harg8 arg9 harg9 arg10 harg10 arg11 harg11 arg12 harg12 arg13 harg13 k0_h1 X3 k f11) dyStep.sl.cst_92
        = scP (sV (ladV (mxL arg11.view (dyF11 c i arg1 harg1 arg2 harg2 arg3 harg3 arg4 harg4 arg5 harg5 arg6 harg6 arg7 harg7 arg8 harg8 arg9 harg9 arg10 harg10 arg11 harg11 arg12 harg12 arg13 harg13 k0_h1 X3 k f11) 80 (by omega)))) := rfl
    have s0 : k0_pay44 (F := Ideal) (dyStep.sl.r_6 c i arg1 harg1 arg2 harg2 arg3 harg3 arg4 harg4 arg5 harg5 arg6 harg6 arg7 harg7 arg8 harg8 arg9 harg9 arg10 harg10 arg11 harg11 arg12 harg12 arg13 harg13 k0_h1 X3 k f11)
        = scP (sV (ladV (mxL arg11.view (dyF11 c i arg1 harg1 arg2 harg2 arg3 harg3 arg4 harg4 arg5 harg5 arg6 harg6 arg7 harg7 arg8 harg8 arg9 harg9 arg10 harg10 arg11 harg11 arg12 harg12 arg13 harg13 k0_h1 X3 k f11) 0 (by omega)))) := rfl
    rw [s2, s1, s0]
    have hf := dyF11_read c i arg1 harg1 arg2 harg2 arg3 harg3 arg4 harg4 arg5 harg5 arg6 harg6 arg7 harg7 arg8 harg8 arg9 harg9 arg10 harg10 arg11 harg11 arg12 harg12 arg13 harg13 k0_h1 X3 k f11
    generalize dyF11 c i arg1 harg1 arg2 harg2 arg3 harg3 arg4 harg4 arg5 harg5 arg6 harg6 arg7 harg7 arg8 harg8 arg9 harg9 arg10 harg10 arg11 harg11 arg12 harg12 arg13 harg13 k0_h1 X3 k f11 = F11 at hf ⊢
    have hM := wordsM_read _ _ _ _ hf arg12.view arg12.view.junk
    have hS := wordsS_read _ _ _ _ hf arg13.view arg13.view.junk
    have t2 := scP_mxL _ _ _ _ hf 2 160 rfl (by omega)
    have t1 := scP_mxL _ _ _ _ hf 1 80 rfl (by omega)
    have t0 := scP_mxL _ _ _ _ hf 0 0 rfl (by omega)
    generalize arg12.view.writes (Elt Ideal) arg12.view.junk (wordsM arg11.view F11) = X12 at hM ⊢
    generalize arg13.view.writes (Elt Ideal) arg13.view.junk (wordsS arg11.view F11) = X13 at hS ⊢
    generalize scP (sV (ladV (mxL arg11.view F11 160 (by omega)))) = w2 at t2 ⊢
    generalize scP (sV (ladV (mxL arg11.view F11 80 (by omega)))) = w1 at t1 ⊢
    generalize scP (sV (ladV (mxL arg11.view F11 0 (by omega)))) = w0 at t0 ⊢
    have h15 : Scf.trips k0_t3_loop.lb k0_t3_loop.ub k0_t3_loop.st = 15 := by decide +kernel
    have hk16 : k.val < 16 := by
      have := k.isLt
      have : k0_t1_loop.trips = 16 := by decide +kernel
      omega
    have hH := fun (p : Fin k0_t3_loop.trips) (h : Fin 2) (r : Fin 64) (l : Fin 128) => dy_hash v43 v53 v23 k.val hk16 h43 h53 p.val h.val r l
    have oC := okC_step _ _ _ _ _ e7 (t3_codes c i arg1 harg1 arg2 harg2 arg3 harg3 arg4 harg4 arg5 harg5 arg6 harg6 arg7 harg7 arg8 harg8 arg9 harg9 arg10 harg10 arg11 harg11 arg12 harg12 arg13 harg13 k0_h1 k (dyStep.sl.v25 k) v43 v53 (k0_pay90 v23) (iota .tc S32x128 32 [0] iota_S32x128_d0_w32) X3 X12 X13 _ _ hM hH f7 15 (le_refl _))
    have oV := okV_step _ _ _ _ _ e10 (t3_vals c i arg1 harg1 arg2 harg2 arg3 harg3 arg4 harg4 arg5 harg5 arg6 harg6 arg7 harg7 arg8 harg8 arg9 harg9 arg10 harg10 arg11 harg11 arg12 harg12 arg13 harg13 k0_h1 k (dyStep.sl.v25 k) v43 v53 (k0_pay90 v23) (iota .tc S32x128 32 [0] iota_S32x128_d0_w32) X3 X12 X13 _ _ _ hM hS hH f10 15 (le_refl _))
    rw [h15]
    isplitl [H3]; iexact H3
    isplitl [H7]
    · iexists _
      isplitl [H7]; iexact H7
      ipureintro
      exact oC
    isplitl [H8]
    · iexists _
      isplitl [H8]; iexact H8
      ipureintro
      refine okS_step _ _ _ _ e8 (scales_read arg8.view f8 _ _ _ w2 w1 w0 (128 * k.val) (fun c b => Sv (colA (arg3.view.read (Elt Ideal) X3) c) b) (k0_off5_eq k) (k0_off4_eq k) (k0_off3_eq k) t2 t1 (fun r l => ?_))
      rw [t0, Nat.mul_zero, Nat.zero_add]
    isplitl [H10]
    · iexists _
      isplitl [H10]; iexact H10
      ipureintro
      exact oV
    isplitl [H11]; iexists _; iexact H11
    isplitl [H12]; iexists _; iexact H12
    iexists _; iexact H13

set_option warn.classDefReducibility false in
/-- The loop over the sixteen groups of `dy`'s columns. -/
@[sl_loop] def loopVal_k0_t1 (k0_h1 : k0_cond1 i = 1#1) (v23 : BitVec 32) (X3 : BufTy.Contents (Elt Ideal) arg3.view.ty) :
    LoopInvTy_k0_t1 (F := Ideal) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 k0_h1 v23 where
  inv n _ := dyInv c arg3 arg7 arg8 arg10 arg11 arg12 arg13 v23 X3 n
  step k _ := dyStep E c i arg1 harg1 arg2 harg2 arg3 harg3 arg4 harg4 arg5 harg5 arg6 harg6 arg7 harg7 arg8 harg8 arg9 harg9 arg10 harg10 arg11 harg11 arg12 harg12 arg13 harg13 k0_h1 v23 X3 k

end Cert.Proof.KernelIdeal
end
-- ==== Proof.XInner.lean ====
module
public import proofs.«01_k».proof.Proof.Writes
@[expose] public section
/-! # The inner loops of the `x` pass: what they leave -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable (c : Dev nD) (i : grid0.Coords)
  (arg1 : Memref sig .tc .smem S2 .i32) (harg1 : arg1.IsWhole)
  (arg2 : Memref sig .tc .vmem S1920x512 .bf16) (harg2 : arg2.IsWhole)
  (arg3 : Memref sig .tc .vmem S1920x2048 .bf16) (harg3 : arg3.IsWhole)
  (arg4 : Memref sig .tc .vmem S512x2048 .f32) (harg4 : arg4.IsWhole)
  (arg5 : Memref sig .tc .vmem S960x512 .i8) (harg5 : arg5.IsWhole)
  (arg6 : Memref sig .tc .vmem S3x10x512 .f32) (harg6 : arg6.IsWhole)
  (arg7 : Memref sig .tc .vmem S960x2048 .i8) (harg7 : arg7.IsWhole)
  (arg8 : Memref sig .tc .vmem S3x10x2048 .f32) (harg8 : arg8.IsWhole)
  (arg9 : Memref sig .tc .vmem S2x512x1920 .bf16) (harg9 : arg9.IsWhole)
  (arg10 : Memref sig .tc .vmem S1920x2048 .bf16) (harg10 : arg10.IsWhole)
  (arg11 : Memref sig .tc .vmem S240x128 .f32) (harg11 : arg11.IsWhole)
  (arg12 : Memref sig .tc .vmem S30x128 .i32) (harg12 : arg12.IsWhole)
  (arg13 : Memref sig .tc .vmem S30x128 .i32) (harg13 : arg13.IsWhole)

/-- The slot, rows and columns of the values a trip stores. -/
theorem k0_off19_eq : ∀ (i : grid0.Coords) (k0_t4 : Fin k0_t4_loop.trips) (k0_t6 : Fin k0_t6_loop.trips),
    k0_off19 i k0_t4 k0_t6 = ![(i 0).val % 2, 128 * k0_t4.val, 128 * k0_t6.val] := by decide +kernel

/-- After `n` trips of the maxima pass the first `8·n` rows hold the partial maxima of the first `n` blocks. -/
theorem t5_read (v19 w0 w1 : BitVec 32) (k : Fin k0_t4_loop.trips) (X2 : BufTy.Contents (Elt Ideal) arg2.view.ty)
    (G : BufTy.Contents (Elt Ideal) arg11.view.ty) : ∀ n : Nat, n ≤ 30 → ∀ (y : S240x128.Idx), (y 0).val < 8 * n →
    arg11.view.read (Elt Ideal) (arg11.view.writes (Elt Ideal) G (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 v19 w0 w1 k X2 n)) y
      = pmax (fun r => colA (arg2.view.read (Elt Ideal) X2) (128 * k.val + (y 1).val) (64 * ((y 0).val / 8) + r)) ((y 0).val % 8) := by
  intro n
  induction n with
  | zero => intro _ y hy; omega
  | succ n ih =>
    intro hn y hy
    have hk : n < k0_t5_loop.trips := by
      have : k0_t5_loop.trips = 30 := by decide +kernel
      omega
    have e := pb_k0_t5_succ (F := Ideal) Variants.none c none i arg1 harg1 arg2 harg2 arg3 harg3 arg4 harg4 arg5 harg5 arg6 harg6 arg7 harg7 arg8 harg8 arg9 harg9 arg10 harg10 arg11 harg11 arg12 harg12 arg13 harg13 v19 w0 w1 k X2 ⟨n, hk⟩
    simp only at e
    rw [e]
    unfold tripL_k0_t5 trip_k0_t5
    dsimp only
    rw [List.cons_append, List.nil_append]
    by_cases h : (y 0).val < 8 * n
    · rw [View.read_writes_cons_unit_of_not_mem _ _ _ _ _ _ (k0_off12_eq ⟨n, hk⟩) 0 (Or.inl (by simpa using h))]
      exact ih (by omega) y h
    · have y1 := (y 1).isLt
      rw [View.read_writes_cons_unit_of_mem _ _ _ _ _ _ (ix2 (⟨(y 0).val - 8 * n, by omega⟩ : Fin 8) (⟨(y 1).val, y1⟩ : Fin 128)) (k0_off12_eq ⟨n, hk⟩)
        (by intro a; fin_cases a <;> simp; omega)]
      rw [readAt_chunk arg2.view X2 _ n (128 * k.val) (k0_off11_eq k ⟨n, hk⟩), pay113_ix]
      simp only
      rw [show (y 0).val / 8 = n by omega, show (y 0).val % 8 = (y 0).val - 8 * n by omega]

section
variable (v16 : BitVec 32) (k0_t4 : Fin k0_t4_loop.trips) (v22 v39 v51 : BitVec 32) (v368 : IVec S32x128 32)
  (X2 : BufTy.Contents (Elt Ideal) arg2.view.ty) (X12 : BufTy.Contents (Elt Ideal) arg12.view.ty) (X13 : BufTy.Contents (Elt Ideal) arg13.view.ty)
  (M S H : Nat → Nat → BitVec 32)
  (hM : ∀ (b : Fin 30) (l : Fin 128), arg12.view.read (Elt Ideal) X12 (ix2 b l) = M (128 * k0_t4.val + l.val) b.val)
  (hS : ∀ (b : Fin 30) (l : Fin 128), arg13.view.read (Elt Ideal) X13 (ix2 b l) = S (128 * k0_t4.val + l.val) b.val)
  (hH : ∀ (p : Fin k0_t6_loop.trips) (h : Fin 2) (r : Fin 64) (l : Fin 128),
    hsh (IntOp.addi (k0_pay6 v39 (ix2 ⟨r.val / 2, rhalf r⟩ l))
        (if r.val % 2 = 0 then kE 7#32 (Scf.iv 0#32 1#32 p) (BitVec.ofNat 32 h.val) else kO 7#32 (Scf.iv 0#32 1#32 p) (BitVec.ofNat 32 h.val)))
      (k0_pay5 (F := Ideal) v16 v368 (ix2 ⟨r.val / 2, rhalf r⟩ l)) (Scalar.muli v51 128#32) = H (128 * k0_t4.val + l.val) (64 * (2 * p.val + h.val) + r.val))

include hM hH in
/-- One block's quantised values are the wanted ones. -/
theorem x_half (p : Fin k0_t6_loop.trips) (h : Fin 2) (h2 : BitVec 32) (he : h2 = BitVec.ofNat 32 h.val)
    {off : Fin 2 → Nat} (inb : ∀ a, off a + S64x128.size a ≤ S1920x512.size a) (ho : off = ![64 * (2 * p.val + h.val), 128 * k0_t4.val])
    {offm : Fin 2 → Nat} (inbm : ∀ a, offm a + S1x128.size a ≤ S30x128.size a) (hom : offm = ![2 * p.val + h.val, 0]) (r : Fin 64) (l : Fin 128) :
    qV (arg2.view.readAt (Elt Ideal) (Rect.unit (s := S1920x512) off S64x128.size inb).toLoadRect X2)
      (arg12.view.readAt (Elt Ideal) (Rect.unit (s := S30x128) offm S1x128.size inbm).toLoadRect X12)
      (k0_pay6 v39) (k0_pay5 (F := Ideal) v16 v368) (kE 7#32 (Scf.iv 0#32 1#32 p) h2) (kO 7#32 (Scf.iv 0#32 1#32 p) h2) (Scalar.muli v51 128#32) (ix2 r l)
      = qw (arg2.view.read (Elt Ideal) X2) M H (128 * k0_t4.val + l.val) (64 * (2 * p.val + h.val) + r.val) := by
  subst he
  have hp : p.val < 15 := by have := p.isLt; have : k0_t6_loop.trips = 15 := by decide +kernel
                             omega
  rw [qV_ix, readAt_chunk arg2.view X2 inb _ _ ho, chunk_ix, readAt_row arg12.view X12 inbm ⟨2 * p.val + h.val, by omega⟩ hom, hM, hH p h r l]
  unfold qw
  rw [show (64 * (2 * p.val + h.val) + r.val) / 64 = 2 * p.val + h.val by omega, show (64 * (2 * p.val + h.val) + r.val) % 2 = r.val % 2 by omega]

set_option maxHeartbeats 1000000
/-- The quantised values of block `2p+h`, from what the trip loads. -/
def xQ (p : Fin k0_t6_loop.trips) (h2 : BitVec 32) (inb : ∀ a, k0_off16 k0_t4 p h2 a + S64x128.size a ≤ S1920x512.size a)
    (inbm : ∀ a, k0_off17 p h2 a + S1x128.size a ≤ S30x128.size a) : FVec Ideal S64x128 .bf16 :=
  qV (arg2.view.readAt (Elt Ideal) (Rect.unit (s := S1920x512) (k0_off16 k0_t4 p h2) S64x128.size inb).toLoadRect X2)
      (arg12.view.readAt (Elt Ideal) (Rect.unit (s := S30x128) (k0_off17 p h2) S1x128.size inbm).toLoadRect X12)
      (k0_pay6 v39) (k0_pay5 (F := Ideal) v16 v368) (kE 7#32 (Scf.iv 0#32 1#32 p) h2) (kO 7#32 (Scf.iv 0#32 1#32 p) h2) (Scalar.muli v51 128#32)

/-- The code pieces of one trip. -/
theorem t6_trip1 (k : Fin k0_t6_loop.trips) :
    ∃ i1 i0 j1 j0 m1 m0, (trip_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 v16 k0_t4 v22 v39 v51 v368 X2 X12 X13 k).1
      = [⟨Rect.unit (s := S960x512) (k0_off18 k0_t4 k 1#32) S32x128.size i1, codesV (xQ arg2 arg12 v16 k0_t4 v39 v51 v368 X2 X12 k 1#32 j1 m1)⟩,
         ⟨Rect.unit (s := S960x512) (k0_off18 k0_t4 k 0#32) S32x128.size i0, codesV (xQ arg2 arg12 v16 k0_t4 v39 v51 v368 X2 X12 k 0#32 j0 m0)⟩] := by
  refine ⟨?_, ?_, ?_, ?_, ?_, ?_, ?e⟩
  case e =>
    unfold trip_k0_t6
    dsimp only
    rfl
/-- The value piece of one trip. -/
theorem t6_trip2 (k : Fin k0_t6_loop.trips) :
    ∃ i1 j1 j0 m1 m0, (trip_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 v16 k0_t4 v22 v39 v51 v368 X2 X12 X13 k).2.1
      = [⟨Rect.unit (s := S2x512x1920) (k0_off19 i k0_t4 k) S1x128x128.size i1,
          k0_pay8 (F := Ideal) (mulf (xQ arg2 arg12 v16 k0_t4 v39 v51 v368 X2 X12 k 0#32 j0 m0) (decV (arg13.view.readAt (Elt Ideal) (Rect.unit (s := S30x128) (k0_off17 k 0#32) S1x128.size m0).toLoadRect X13)))
            (decV (arg13.view.readAt (Elt Ideal) (Rect.unit (s := S30x128) (k0_off17 k 1#32) S1x128.size m1).toLoadRect X13))
            (xQ arg2 arg12 v16 k0_t4 v39 v51 v368 X2 X12 k 1#32 j1 m1)⟩] := by
  refine ⟨?_, ?_, ?_, ?_, ?_, ?e⟩
  case e =>
    unfold trip_k0_t6
    dsimp only
    rfl

set_option maxHeartbeats 400000
include hM hH in
theorem xQ_ix (n : Nat) (hk : n < k0_t6_loop.trips) (h : Fin 2) (h2 : BitVec 32) (he : h2 = BitVec.ofNat 32 h.val) (d : Nat) (hd : d = 128 * n + 64 * h.val) (j m) (r : Fin 64) (l : Fin 128) :
    xQ arg2 arg12 v16 k0_t4 v39 v51 v368 X2 X12 ⟨n, hk⟩ h2 j m (ix2 r l)
      = qw (arg2.view.read (Elt Ideal) X2) M H (128 * k0_t4.val + l.val) (d + r.val) := by
  subst he hd
  have e := x_half arg2 arg12 v16 k0_t4 v39 v51 v368 X2 X12 M H hM hH ⟨n, hk⟩ h _ rfl j
    ((k0_off16_eq k0_t4 ⟨n, hk⟩ h).trans (by congr 1; simp only; omega)) m (k0_off17_eq ⟨n, hk⟩ h) r l
  rw [show 64 * (2 * (⟨n, hk⟩ : Fin k0_t6_loop.trips).val + h.val) + r.val = 128 * n + 64 * h.val + r.val by simp only; omega] at e
  exact e

include hS in
theorem xS_ix (n : Nat) (hk : n < k0_t6_loop.trips) (h : Fin 2) (h2 : BitVec 32) (he : h2 = BitVec.ofNat 32 h.val) (d : Nat) (hd : d = 128 * n + 64 * h.val)
    (m : ∀ a, k0_off17 ⟨n, hk⟩ h2 a + S1x128.size a ≤ S30x128.size a) (r : Fin 64) (l : Fin 128) :
    decV (arg13.view.readAt (Elt Ideal) (Rect.unit (s := S30x128) (k0_off17 ⟨n, hk⟩ h2) S1x128.size m).toLoadRect X13) (ix2 r l)
      = dec (S (128 * k0_t4.val + l.val) ((d + r.val) / 64)) ((d + r.val) % 2) := by
  subst he hd
  have h15 : n < 15 := by have : k0_t6_loop.trips = 15 := by decide +kernel
                          omega
  rw [decV_ix, readAt_row arg13.view X13 m ⟨2 * n + h.val, by omega⟩ (k0_off17_eq ⟨n, hk⟩ h), hS,
    show (128 * n + 64 * h.val + r.val) / 64 = 2 * n + h.val by omega, show (128 * n + 64 * h.val + r.val) % 2 = r.val % 2 by omega]

include hM hH in
/-- After `n` pairs the codes of the first `64·n` rows of this group of columns are written. -/
theorem t6_codes (G : BufTy.Contents (Elt Ideal) arg5.view.ty) : ∀ n : Nat, n ≤ 15 → ∀ (y : S960x512.Idx),
    arg5.view.read (Elt Ideal) (arg5.view.writes (Elt Ideal) G (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 v16 k0_t4 v22 v39 v51 v368 X2 X12 X13 n).1) y
      = if (128 * k0_t4.val ≤ (y 1).val ∧ (y 1).val < 128 * k0_t4.val + 128) ∧ (y 0).val < 64 * n then
          byte (qw (arg2.view.read (Elt Ideal) X2) M H (y 1).val (2 * (y 0).val)) (qw (arg2.view.read (Elt Ideal) X2) M H (y 1).val (2 * (y 0).val + 1))
        else arg5.view.read (Elt Ideal) G y := by
  intro n
  induction n with
  | zero => intro _ y; rw [if_neg (by omega)]; rfl
  | succ n ih =>
    intro hn y
    have hk : n < k0_t6_loop.trips := by
      have : k0_t6_loop.trips = 15 := by decide +kernel
      omega
    have ih' := ih (by omega) y
    have e := congrArg Prod.fst (pb_k0_t6_succ (F := Ideal) Variants.none c none i arg1 harg1 arg2 harg2 arg3 harg3 arg4 harg4 arg5 harg5 arg6 harg6 arg7 harg7 arg8 harg8 arg9 harg9 arg10 harg10 arg11 harg11 arg12 harg12 arg13 harg13 v16 k0_t4 v22 v39 v51 v368 X2 X12 X13 ⟨n, hk⟩)
    obtain ⟨i1, i0, j1, j0, m1, m0, e1⟩ := t6_trip1 c i arg1 harg1 arg2 harg2 arg3 harg3 arg4 harg4 arg5 harg5 arg6 harg6 arg7 harg7 arg8 harg8 arg9 harg9 arg10 harg10 arg11 harg11 arg12 harg12 arg13 harg13 v16 k0_t4 v22 v39 v51 v368 X2 X12 X13 ⟨n, hk⟩
    have hq1 := xQ_ix arg2 arg12 v16 k0_t4 v39 v51 v368 X2 X12 M H hM hH n hk 1 1#32 rfl (128 * n + 64) rfl j1 m1
    have hq0 := xQ_ix arg2 arg12 v16 k0_t4 v39 v51 v368 X2 X12 M H hM hH n hk 0 0#32 rfl (128 * n) rfl j0 m0
    simp only [e1, List.cons_append, List.nil_append] at e
    rw [e]
    generalize xQ arg2 arg12 v16 k0_t4 v39 v51 v368 X2 X12 ⟨n, hk⟩ 1#32 j1 m1 = q1 at hq1 ⊢
    generalize xQ arg2 arg12 v16 k0_t4 v39 v51 v368 X2 X12 ⟨n, hk⟩ 0#32 j0 m0 = q0 at hq0 ⊢
    generalize (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 v16 k0_t4 v22 v39 v51 v368 X2 X12 X13 n).1 = L at ih' ⊢
    have ho1 : k0_off18 k0_t4 ⟨n, hk⟩ 1#32 = ![64 * n + 32, 128 * k0_t4.val] := k0_off18_eq k0_t4 ⟨n, hk⟩ 1
    have ho0 : k0_off18 k0_t4 ⟨n, hk⟩ 0#32 = ![64 * n, 128 * k0_t4.val] := k0_off18_eq k0_t4 ⟨n, hk⟩ 0
    rw [pair_codes arg5.view G L i1 i0 q1 q0 n (128 * k0_t4.val) ho1 ho0 (qw (arg2.view.read (Elt Ideal) X2) M H) hq1 hq0 y, ih']
    by_cases hc : 128 * k0_t4.val ≤ (y 1).val ∧ (y 1).val < 128 * k0_t4.val + 128
    · by_cases h1 : (y 0).val < 64 * n
      · rw [if_neg (by omega), if_pos ⟨hc, h1⟩, if_pos ⟨hc, by omega⟩]
      · by_cases h2 : (y 0).val < 64 * n + 64
        · rw [if_pos ⟨hc, by omega, h2⟩, if_pos ⟨hc, by omega⟩]
        · rw [if_neg (by omega), if_neg (by omega), if_neg (by omega)]
    · rw [if_neg (by omega), if_neg (by omega), if_neg (by omega)]

include hM hS hH in
/-- After `n` pairs the values of the first `128·n` rows of this group of columns are written. -/
theorem t6_vals (G : BufTy.Contents (Elt Ideal) arg9.view.ty) : ∀ n : Nat, n ≤ 15 → ∀ (y : S2x512x1920.Idx),
    arg9.view.read (Elt Ideal) (arg9.view.writes (Elt Ideal) G (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 v16 k0_t4 v22 v39 v51 v368 X2 X12 X13 n).2) y
      = if (y 0).val = (i 0).val % 2 ∧ (128 * k0_t4.val ≤ (y 1).val ∧ (y 1).val < 128 * k0_t4.val + 128) ∧ (y 2).val < 128 * n then
          vw (arg2.view.read (Elt Ideal) X2) M S H (y 1).val (y 2).val
        else arg9.view.read (Elt Ideal) G y := by
  intro n
  induction n with
  | zero => intro _ y; rw [if_neg (by omega)]; rfl
  | succ n ih =>
    intro hn y
    have hk : n < k0_t6_loop.trips := by
      have : k0_t6_loop.trips = 15 := by decide +kernel
      omega
    have ih' := ih (by omega) y
    have e := congrArg Prod.snd (pb_k0_t6_succ (F := Ideal) Variants.none c none i arg1 harg1 arg2 harg2 arg3 harg3 arg4 harg4 arg5 harg5 arg6 harg6 arg7 harg7 arg8 harg8 arg9 harg9 arg10 harg10 arg11 harg11 arg12 harg12 arg13 harg13 v16 k0_t4 v22 v39 v51 v368 X2 X12 X13 ⟨n, hk⟩)
    obtain ⟨i1, j1, j0, m1, m0, e1⟩ := t6_trip2 c i arg1 harg1 arg2 harg2 arg3 harg3 arg4 harg4 arg5 harg5 arg6 harg6 arg7 harg7 arg8 harg8 arg9 harg9 arg10 harg10 arg11 harg11 arg12 harg12 arg13 harg13 v16 k0_t4 v22 v39 v51 v368 X2 X12 X13 ⟨n, hk⟩
    have hq1 := xQ_ix arg2 arg12 v16 k0_t4 v39 v51 v368 X2 X12 M H hM hH n hk 1 1#32 rfl (128 * n + 64) rfl j1 m1
    have hq0 := xQ_ix arg2 arg12 v16 k0_t4 v39 v51 v368 X2 X12 M H hM hH n hk 0 0#32 rfl (128 * n) rfl j0 m0
    have hs1 := xS_ix arg13 k0_t4 X13 S hS n hk 1 1#32 rfl (128 * n + 64) rfl m1
    have hs0 := xS_ix arg13 k0_t4 X13 S hS n hk 0 0#32 rfl (128 * n) rfl m0
    simp only [e1, List.cons_append, List.nil_append] at e
    rw [e]
    generalize xQ arg2 arg12 v16 k0_t4 v39 v51 v368 X2 X12 ⟨n, hk⟩ 1#32 j1 m1 = q1 at hq1 ⊢
    generalize xQ arg2 arg12 v16 k0_t4 v39 v51 v368 X2 X12 ⟨n, hk⟩ 0#32 j0 m0 = q0 at hq0 ⊢
    generalize decV (arg13.view.readAt (Elt Ideal) (Rect.unit (s := S30x128) (k0_off17 ⟨n, hk⟩ 1#32) S1x128.size m1).toLoadRect X13) = s1 at hs1 ⊢
    generalize decV (arg13.view.readAt (Elt Ideal) (Rect.unit (s := S30x128) (k0_off17 ⟨n, hk⟩ 0#32) S1x128.size m0).toLoadRect X13) = s0 at hs0 ⊢
    generalize (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 v16 k0_t4 v22 v39 v51 v368 X2 X12 X13 n).2 = L at ih' ⊢
    have hW : ∀ (r l : Fin 128), k0_pay8 (F := Ideal) (mulf q0 s0) s1 q1 (ix3 0 l r) = vw (arg2.view.read (Elt Ideal) X2) M S H (128 * k0_t4.val + l.val) (128 * n + r.val) := by
      intro r l
      refine pay8_ix (mulf q0 s0) s1 q1 s1 r l (fun r => vw (arg2.view.read (Elt Ideal) X2) M S H (128 * k0_t4.val + l.val) (128 * n + r)) (fun r => ?_) (fun r => ?_)
      · show q0 (ix2 r l) * s0 (ix2 r l) = _
        rw [hq0, hs0]; rfl
      · rw [hq1, hs1, ← Nat.add_assoc]; rfl
    generalize k0_pay8 (F := Ideal) (mulf q0 s0) s1 q1 = W at hW ⊢
    rw [pair_valsT arg9.view G L i1 W ((i 0).val % 2) n (128 * k0_t4.val) (k0_off19_eq i k0_t4 ⟨n, hk⟩) (vw (arg2.view.read (Elt Ideal) X2) M S H) hW y, ih']
    by_cases hs : (y 0).val = (i 0).val % 2
    · by_cases hc : 128 * k0_t4.val ≤ (y 1).val ∧ (y 1).val < 128 * k0_t4.val + 128
      · by_cases h1 : (y 2).val < 128 * n
        · rw [if_neg (by omega), if_pos ⟨hs, hc, h1⟩, if_pos ⟨hs, hc, by omega⟩]
        · by_cases h2 : (y 2).val < 128 * n + 128
          · rw [if_pos ⟨hs, hc, by omega, h2⟩, if_pos ⟨hs, hc, by omega⟩]
          · rw [if_neg (by omega), if_neg (by omega), if_neg (by omega)]
      · rw [if_neg (by omega), if_neg (by omega), if_neg (by omega)]
    · rw [if_neg (by omega), if_neg (by omega), if_neg (by omega)]
end

end Cert.Proof.KernelIdeal
end
-- ==== Proof.XStep.lean ====
module
public import proofs.«01_k».proof.Proof.XInner
public import proofs.«01_k».proof.Proof.Groups
public import proofs.«01_k».proof.Proof.Words
@[expose] public section
/-! # One trip of the `x` loop: four groups of 128 columns -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ
variable (E : Set ℕ)
variable (c : Dev nD) (i : grid0.Coords)
  (arg1 : Memref sig .tc .smem S2 .i32) (harg1 : arg1.IsWhole)
  (arg2 : Memref sig .tc .vmem S1920x512 .bf16) (harg2 : arg2.IsWhole)
  (arg3 : Memref sig .tc .vmem S1920x2048 .bf16) (harg3 : arg3.IsWhole)
  (arg4 : Memref sig .tc .vmem S512x2048 .f32) (harg4 : arg4.IsWhole)
  (arg5 : Memref sig .tc .vmem S960x512 .i8) (harg5 : arg5.IsWhole)
  (arg6 : Memref sig .tc .vmem S3x10x512 .f32) (harg6 : arg6.IsWhole)
  (arg7 : Memref sig .tc .vmem S960x2048 .i8) (harg7 : arg7.IsWhole)
  (arg8 : Memref sig .tc .vmem S3x10x2048 .f32) (harg8 : arg8.IsWhole)
  (arg9 : Memref sig .tc .vmem S2x512x1920 .bf16) (harg9 : arg9.IsWhole)
  (arg10 : Memref sig .tc .vmem S1920x2048 .bf16) (harg10 : arg10.IsWhole)
  (arg11 : Memref sig .tc .vmem S240x128 .f32) (harg11 : arg11.IsWhole)
  (arg12 : Memref sig .tc .vmem S30x128 .i32) (harg12 : arg12.IsWhole)
  (arg13 : Memref sig .tc .vmem S30x128 .i32) (harg13 : arg13.IsWhole)

/-- The slot the values of a grid point go to. -/
def slot (i : grid0.Coords) : Fin 2 := ⟨(i 0).val % 2, Nat.mod_lt _ (by decide)⟩

/-- The hash of row `t` of local column `c` of the tile held in `v19`. -/
def xH (v16 v19 : BitVec 32) (c t : Nat) : BitVec 32 := hv 7 (Scalar.xori v16 (Scalar.shrui v16 16#32)) (512 * v19.toNat + c) t

/-- Before trip `n` of the `x` loop the first `n` groups are in place. -/
abbrev xInv (v16 v19 : BitVec 32) (X2 : BufTy.Contents (Elt Ideal) arg2.view.ty) (n : Nat) : sProp 𝕄 :=
  iprop((arg2.view.loc (c : Thread nD τ) ↦[arg2.view.set]{fullShare} X2)
    ∗ (∃ f, (arg5.view.loc (c : Thread nD τ) ↦[arg5.view.set]{fullShare} f) ∗ ⌜OkC (arg2.view.read (Elt Ideal) X2) (xH v16 v19) n (arg5.view.read (Elt Ideal) f) = True⌝)
    ∗ (∃ f, (arg6.view.loc (c : Thread nD τ) ↦[arg6.view.set]{fullShare} f) ∗ ⌜OkS (arg2.view.read (Elt Ideal) X2) n (arg6.view.read (Elt Ideal) f) = True⌝)
    ∗ (∃ f, (arg9.view.loc (c : Thread nD τ) ↦[arg9.view.set]{fullShare} f) ∗ ⌜OkV (arg2.view.read (Elt Ideal) X2) (xH v16 v19) n (slotA (slot i) (arg9.view.read (Elt Ideal) f)) = True⌝)
    ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))

/-- What the maxima pass leaves. -/
abbrev xF11 (v19 : BitVec 32) (X2 : BufTy.Contents (Elt Ideal) arg2.view.ty) (k : Fin k0_t4_loop.trips) (f11 : BufTy.Contents (Elt Ideal) arg11.view.ty) : BufTy.Contents (Elt Ideal) arg11.view.ty :=
  arg11.view.writes (Elt Ideal) f11 (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 v19 0#32 1#32 k X2 (Scf.trips k0_t5_loop.lb k0_t5_loop.ub k0_t5_loop.st))

theorem xF11_read (v19 : BitVec 32) (X2 : BufTy.Contents (Elt Ideal) arg2.view.ty) (k : Fin k0_t4_loop.trips) (f11 : BufTy.Contents (Elt Ideal) arg11.view.ty) (y : S240x128.Idx) :
    arg11.view.read (Elt Ideal) (xF11 c i arg1 harg1 arg2 harg2 arg3 harg3 arg4 harg4 arg5 harg5 arg6 harg6 arg7 harg7 arg8 harg8 arg9 harg9 arg10 harg10 arg11 harg11 arg12 harg12 arg13 harg13 v19 X2 k f11) y
      = pmax (fun r => colA (arg2.view.read (Elt Ideal) X2) (128 * k.val + (y 1).val) (64 * ((y 0).val / 8) + r)) ((y 0).val % 8) := by
  have h30 : Scf.trips k0_t5_loop.lb k0_t5_loop.ub k0_t5_loop.st = 30 := by decide +kernel
  have y0 : (y 0).val < 240 := (y 0).isLt
  unfold xF11
  rw [h30]
  exact t5_read c i arg1 harg1 arg2 harg2 arg3 harg3 arg4 harg4 arg5 harg5 arg6 harg6 arg7 harg7 arg8 harg8 arg9 harg9 arg10 harg10 arg11 harg11 arg12 harg12 arg13 harg13 v19 _ _ k X2 f11 30 (le_refl _) y (by omega)

set_option maxHeartbeats 4000000 in
theorem xStep (v16 v19 : BitVec 32) (h19 : v19.toNat < 14) (X2 : BufTy.Contents (Elt Ideal) arg2.view.ty) (k : Fin k0_t4_loop.trips) :
    xInv c i arg2 arg5 arg6 arg9 arg11 arg12 arg13 v16 v19 X2 k.val
      ⊢ wp frame (wpE (defs₀ (F := Ideal)) Variants.none (c : Thread nD τ) none) E
          (k0_t4_body (F := Ideal) i arg1 harg1 arg2 harg2 arg3 harg3 arg4 harg4 arg5 harg5 arg6 harg6 arg7 harg7 arg8 harg8 arg9 harg9 arg10 harg10 arg11 harg11 arg12 harg12 arg13 harg13 v16 v19 k PUnit.unit)
          (fun _ => xInv c i arg2 arg5 arg6 arg9 arg11 arg12 arg13 v16 v19 X2 (k.val + 1)) := by
    unfold k0_t4_body
    iintro ⟨H2, ⟨%f5, H5, %e5⟩, ⟨%f6, H6, %e6⟩, ⟨%f9, H9, %e9⟩, ⟨%f11, H11⟩, ⟨%f12, H12⟩, ⟨%f13, H13⟩⟩
    sl_exec
    sl_step
    have eM : xStep.sl.H12_3 c i arg1 harg1 arg2 harg2 arg3 harg3 arg4 harg4 arg5 harg5 arg6 harg6 arg7 harg7 arg8 harg8 arg9 harg9 arg10 harg10 arg11 harg11 arg12 harg12 arg13 harg13 v19 X2 k f11 = wordsM arg11.view (xF11 c i arg1 harg1 arg2 harg2 arg3 harg3 arg4 harg4 arg5 harg5 arg6 harg6 arg7 harg7 arg8 harg8 arg9 harg9 arg10 harg10 arg11 harg11 arg12 harg12 arg13 harg13 v19 X2 k f11) := rfl
    have eS : xStep.sl.H13_3 c i arg1 harg1 arg2 harg2 arg3 harg3 arg4 harg4 arg5 harg5 arg6 harg6 arg7 harg7 arg8 harg8 arg9 harg9 arg10 harg10 arg11 harg11 arg12 harg12 arg13 harg13 v19 X2 k f11 = wordsS arg11.view (xF11 c i arg1 harg1 arg2 harg2 arg3 harg3 arg4 harg4 arg5 harg5 arg6 harg6 arg7 harg7 arg8 harg8 arg9 harg9 arg10 harg10 arg11 harg11 arg12 harg12 arg13 harg13 v19 X2 k f11) := rfl
    have h39 : ∀ T : Fin 14, xStep.sl.v39 (BitVec.ofNat 32 T.val) = BitVec.ofNat 32 (T.val / 2) := by decide +kernel
    have h51 : ∀ (T : Fin 14) (k : Fin k0_t4_loop.trips), Scalar.muli (xStep.sl.v51 (BitVec.ofNat 32 T.val) k) 128#32 = BitVec.ofNat 32 (128 * (4 * (T.val % 2) + k.val)) := by decide +kernel
    have e368 : xStep.sl.v368 = iota .tc S32x128 32 [1] iota_S32x128_d1_w32 := rfl
    rw [eM, eS, e368]
    have h39 := h39 ⟨v19.toNat, h19⟩
    have h51 := h51 ⟨v19.toNat, h19⟩ k
    simp only [BitVec.ofNat_toNat, BitVec.setWidth_eq] at h39 h51
    generalize xStep.sl.v39 v19 = v39 at h39 ⊢
    generalize xStep.sl.v51 v19 k = v51 at h51 ⊢
    have s2 : k0_pay174 (F := Ideal) (xStep.sl.r_15 c i arg1 harg1 arg2 harg2 arg3 harg3 arg4 harg4 arg5 harg5 arg6 harg6 arg7 harg7 arg8 harg8 arg9 harg9 arg10 harg10 arg11 harg11 arg12 harg12 arg13 harg13 v19 X2 k f11) (xStep.sl.r_16 c i arg1 harg1 arg2 harg2 arg3 harg3 arg4 harg4 arg5 harg5 arg6 harg6 arg7 harg7 arg8 harg8 arg9 harg9 arg10 harg10 arg11 harg11 arg12 harg12 arg13 harg13 v19 X2 k f11) (xStep.sl.r_17 c i arg1 harg1 arg2 harg2 arg3 harg3 arg4 harg4 arg5 harg5 arg6 harg6 arg7 harg7 arg8 harg8 arg9 harg9 arg10 harg10 arg11 harg11 arg12 harg12 arg13 harg13 v19 X2 k f11) k0_pay170
        = scP (sV (ladV (mxL arg11.view (xF11 c i arg1 harg1 arg2 harg2 arg3 harg3 arg4 harg4 arg5 harg5 arg6 harg6 arg7 harg7 arg8 harg8 arg9 harg9 arg10 harg10 arg11 harg11 arg12 harg12 arg13 harg13 v19 X2 k f11) 160 (by omega)))) := rfl
    have s1 : k0_pay150 (F := Ideal) (xStep.sl.r_7 c i arg1 harg1 arg2 harg2 arg3 harg3 arg4 harg4 arg5 harg5 arg6 harg6 arg7 harg7 arg8 harg8 arg9 harg9 arg10 harg10 arg11 harg11 arg12 harg12 arg13 harg13 v19 X2 k f11) (xStep.sl.r_8 c i arg1 harg1 arg2 harg2 arg3 harg3 arg4 harg4 arg5 harg5 arg6 harg6 arg7 harg7 arg8 harg8 arg9 harg9 arg10 harg10 arg11 harg11 arg12 harg12 arg13 harg13 v19 X2 k f11) (xStep.sl.r_9 c i arg1 harg1 arg2 harg2 arg3 harg3 arg4 harg4 arg5 harg5 arg6 harg6 arg7 harg7 arg8 harg8 arg9 harg9 arg10 harg10 arg11 harg11 arg12 harg12 arg13 harg13 v19 X2 k f11) k0_pay145
        = scP (sV (ladV (mxL arg11.view (xF11 c i arg1 harg1 arg2 harg2 arg3 harg3 arg4 harg4 arg5 harg5 arg6 harg6 arg7 harg7 arg8 harg8 arg9 harg9 arg10 harg10 arg11 harg11 arg12 harg12 arg13 harg13 v19 X2 k f11) 80 (by omega)))) := rfl
    have s0 : k0_pay129 (F := Ideal) (xStep.sl.r_4 c i arg1 harg1 arg2 harg2 arg3 harg3 arg4 harg4 arg5 harg5 arg6 harg6 arg7 harg7 arg8 harg8 arg9 harg9 arg10 harg10 arg11 harg11 arg12 harg12 arg13 harg13 v19 X2 k f11) (xStep.sl.r_5 c i arg1 harg1 arg2 harg2 arg3 harg3 arg4 harg4 arg5 harg5 arg6 harg6 arg7 harg7 arg8 harg8 arg9 harg9 arg10 harg10 arg11 harg11 arg12 harg12 arg13 harg13 v19 X2 k f11) k0_pay127
        = scP (sV (ladV (mxL arg11.view (xF11 c i arg1 harg1 arg2 harg2 arg3 harg3 arg4 harg4 arg5 harg5 arg6 harg6 arg7 harg7 arg8 harg8 arg9 harg9 arg10 harg10 arg11 harg11 arg12 harg12 arg13 harg13 v19 X2 k f11) 0 (by omega)))) := rfl
    rw [s2, s1, s0]
    have hf := xF11_read c i arg1 harg1 arg2 harg2 arg3 harg3 arg4 harg4 arg5 harg5 arg6 harg6 arg7 harg7 arg8 harg8 arg9 harg9 arg10 harg10 arg11 harg11 arg12 harg12 arg13 harg13 v19 X2 k f11
    generalize xF11 c i arg1 harg1 arg2 harg2 arg3 harg3 arg4 harg4 arg5 harg5 arg6 harg6 arg7 harg7 arg8 harg8 arg9 harg9 arg10 harg10 arg11 harg11 arg12 harg12 arg13 harg13 v19 X2 k f11 = F11 at hf ⊢
    have hM := wordsM_read _ _ _ _ hf arg12.view arg12.view.junk
    have hS := wordsS_read _ _ _ _ hf arg13.view arg13.view.junk
    have t2 := scP_mxL _ _ _ _ hf 2 160 rfl (by omega)
    have t1 := scP_mxL _ _ _ _ hf 1 80 rfl (by omega)
    have t0 := scP_mxL _ _ _ _ hf 0 0 rfl (by omega)
    generalize arg12.view.writes (Elt Ideal) arg12.view.junk (wordsM arg11.view F11) = X12 at hM ⊢
    generalize arg13.view.writes (Elt Ideal) arg13.view.junk (wordsS arg11.view F11) = X13 at hS ⊢
    generalize scP (sV (ladV (mxL arg11.view F11 160 (by omega)))) = w2 at t2 ⊢
    generalize scP (sV (ladV (mxL arg11.view F11 80 (by omega)))) = w1 at t1 ⊢
    generalize scP (sV (ladV (mxL arg11.view F11 0 (by omega)))) = w0 at t0 ⊢
    have h15 : Scf.trips k0_t6_loop.lb k0_t6_loop.ub k0_t6_loop.st = 15 := by decide +kernel
    have hk4 : k.val < 4 := by
      have := k.isLt
      have : k0_t4_loop.trips = 4 := by decide +kernel
      omega
    have hH := fun (p : Fin k0_t6_loop.trips) (h : Fin 2) (r : Fin 64) (l : Fin 128) => x_hash v39 v51 v16 v19.toNat k.val hk4 h39 h51 p.val h.val r l
    have hC := t6_codes c i arg1 harg1 arg2 harg2 arg3 harg3 arg4 harg4 arg5 harg5 arg6 harg6 arg7 harg7 arg8 harg8 arg9 harg9 arg10 harg10 arg11 harg11 arg12 harg12 arg13 harg13 v16 k (xStep.sl.v21 k) v39 v51 (iota .tc S32x128 32 [1] iota_S32x128_d1_w32) X2 X12 X13 _ (xH v16 v19) hM hH f5 15 (le_refl _)
    have hV := t6_vals c i arg1 harg1 arg2 harg2 arg3 harg3 arg4 harg4 arg5 harg5 arg6 harg6 arg7 harg7 arg8 harg8 arg9 harg9 arg10 harg10 arg11 harg11 arg12 harg12 arg13 harg13 v16 k (xStep.sl.v21 k) v39 v51 (iota .tc S32x128 32 [1] iota_S32x128_d1_w32) X2 X12 X13 _ _ (xH v16 v19) hM hS hH f9 15 (le_refl _)
    have oC := okC_step _ _ _ _ _ e5 hC
    have oV := okV_step _ _ _ _ (slotA (slot i) (arg9.view.read (Elt Ideal) _)) e9 (fun y => by
      refine (hV (ix3 (slot i) (y 1) (y 0))).trans ?_
      by_cases hc : (128 * k.val ≤ (y 1).val ∧ (y 1).val < 128 * k.val + 128) ∧ (y 0).val < 128 * 15
      · rw [if_pos hc]; exact if_pos ⟨rfl, hc.1, hc.2⟩
      · rw [if_neg hc]; exact if_neg (fun h => hc ⟨h.2.1, h.2.2⟩))
    rw [h15]
    isplitl [H2]; iexact H2
    isplitl [H5]
    · iexists _
      isplitl [H5]; iexact H5
      ipureintro
      exact oC
    isplitl [H6]
    · iexists _
      isplitl [H6]; iexact H6
      ipureintro
      refine okS_step _ _ _ _ e6 (scales_read arg6.view f6 _ _ _ w2 w1 w0 (128 * k.val) (fun c b => Sv (colA (arg2.view.read (Elt Ideal) X2) c) b) (k0_off15_eq k) (k0_off14_eq k) (k0_off13_eq k) t2 t1 (fun r l => ?_))
      rw [t0, Nat.mul_zero, Nat.zero_add]
    isplitl [H9]
    · iexists _
      isplitl [H9]; iexact H9
      ipureintro
      exact oV
    isplitl [H11]; iexists _; iexact H11
    isplitl [H12]; iexists _; iexact H12
    iexists _; iexact H13

set_option warn.classDefReducibility false in
/-- The loop over the four groups of a tile's columns. -/
@[sl_loop] def loopVal_k0_t4 (v16 v19 : BitVec 32) (h19 : v19.toNat < 14) (X2 : BufTy.Contents (Elt Ideal) arg2.view.ty) :
    LoopInvTy_k0_t4 (F := Ideal) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v16 v19 where
  inv n _ := xInv c i arg2 arg5 arg6 arg9 arg11 arg12 arg13 v16 v19 X2 n
  step k _ := xStep E c i arg1 harg1 arg2 harg2 arg3 harg3 arg4 harg4 arg5 harg5 arg6 harg6 arg7 harg7 arg8 harg8 arg9 harg9 arg10 harg10 arg11 harg11 arg12 harg12 arg13 harg13 v16 v19 h19 X2 k

end Cert.Proof.KernelIdeal
end
-- ==== Proof.PointRun.lean ====
module
public import proofs.«01_k».proof.Proof.DyStep
public import proofs.«01_k».proof.Proof.XStep
public import Idealize.ShloMosaic.Lib.Tactic
public import Idealize.ShloMosaic.Lib.WordCmp
@[expose] public section
/-! # One grid point: what the body leaves in its windows and its scratch -/
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ
variable (E : Set ℕ)
variable (c : Dev nD) (i : grid0.Coords)
  (arg1 : Memref sig .tc .smem S2 .i32) (harg1 : arg1.IsWhole)
  (arg2 : Memref sig .tc .vmem S1920x512 .bf16) (harg2 : arg2.IsWhole)
  (arg3 : Memref sig .tc .vmem S1920x2048 .bf16) (harg3 : arg3.IsWhole)
  (arg4 : Memref sig .tc .vmem S512x2048 .f32) (harg4 : arg4.IsWhole)
  (arg5 : Memref sig .tc .vmem S960x512 .i8) (harg5 : arg5.IsWhole)
  (arg6 : Memref sig .tc .vmem S3x10x512 .f32) (harg6 : arg6.IsWhole)
  (arg7 : Memref sig .tc .vmem S960x2048 .i8) (harg7 : arg7.IsWhole)
  (arg8 : Memref sig .tc .vmem S3x10x2048 .f32) (harg8 : arg8.IsWhole)
  (arg9 : Memref sig .tc .vmem S2x512x1920 .bf16) (harg9 : arg9.IsWhole)
  (arg10 : Memref sig .tc .vmem S1920x2048 .bf16) (harg10 : arg10.IsWhole)
  (arg11 : Memref sig .tc .vmem S240x128 .f32) (harg11 : arg11.IsWhole)
  (arg12 : Memref sig .tc .vmem S30x128 .i32) (harg12 : arg12.IsWhole)
  (arg13 : Memref sig .tc .vmem S30x128 .i32) (harg13 : arg13.IsWhole)

/-- The codes of a whole array. -/
def specC {N : Nat} (X : (⟨2, ![1920, N]⟩ : Shape).Idx → EReal) (H : Nat → Nat → BitVec 32) : (⟨2, ![960, N]⟩ : Shape).Idx → BitVec 8 :=
  fun y => Cv (colA X (y 1).val) (H (y 1).val) (y 0).val
/-- The values of a whole array after quantisation. -/
def specV {N : Nat} (X : (⟨2, ![1920, N]⟩ : Shape).Idx → EReal) (H : Nat → Nat → BitVec 32) : (⟨2, ![1920, N]⟩ : Shape).Idx → EReal :=
  fun y => Vv (colA X (y 1).val) (H (y 1).val) (y 0).val
/-- The scales of a whole array. -/
def specS {N : Nat} (X : (⟨2, ![1920, N]⟩ : Shape).Idx → EReal) : (⟨3, ![3, 10, N]⟩ : Shape).Idx → EReal :=
  fun y => Sv (colA X (y 2).val) (10 * (y 0).val + (y 1).val)
/-- The product of two arrays of values over the tokens. -/
def specD (A : S1920x512.Idx → EReal) (B : S1920x2048.Idx → EReal) : S512x2048.Idx → EReal :=
  fun y => ∑ k : Fin 1920, A (ix2 k (y 0)) * B (ix2 k (y 1))

/-- A seed mixed with its own upper half. -/
def mix (w : BitVec 32) : BitVec 32 := Scalar.xori w (Scalar.shrui w 16#32)

/-- The tile of `x` a grid point works on, as a word. -/
def tileW (i : grid0.Coords) : BitVec 32 := Scalar.minsi (BitVec.ofNat 32 (i 0).val) 13#32

theorem tileW_lt : ∀ i : grid0.Coords, (tileW i).toNat < 14 := by decide +kernel

theorem okC_all {N : Nat} {X : (⟨2, ![1920, N]⟩ : Shape).Idx → EReal} {H : Nat → Nat → BitVec 32} {n : Nat} {A : (⟨2, ![960, N]⟩ : Shape).Idx → BitVec 8}
    (e : OkC X H (n + 1) A = True) (hn : N ≤ 128 * (n + 1)) : A = specC X H :=
  funext fun y => of_eq_true e y (lt_of_lt_of_le (y 1).isLt hn)
theorem okV_all {N : Nat} {X : (⟨2, ![1920, N]⟩ : Shape).Idx → EReal} {H : Nat → Nat → BitVec 32} {n : Nat} {A : (⟨2, ![1920, N]⟩ : Shape).Idx → EReal}
    (e : OkV X H (n + 1) A = True) (hn : N ≤ 128 * (n + 1)) : A = specV X H :=
  funext fun y => of_eq_true e y (lt_of_lt_of_le (y 1).isLt hn)
theorem okS_all {N : Nat} {X : (⟨2, ![1920, N]⟩ : Shape).Idx → EReal} {n : Nat} {A : (⟨3, ![3, 10, N]⟩ : Shape).Idx → EReal}
    (e : OkS X (n + 1) A = True) (hn : N ≤ 128 * (n + 1)) : A = specS X :=
  funext fun y => of_eq_true e y (lt_of_lt_of_le (y 2).isLt hn)

/-- A seed word loaded from scalar memory. -/
theorem seed_read {sp : Space} (v : View sig .tc sp S2 .i32) (f : v.ty.Contents (Elt Ideal)) (k : Fin 2) (inb : ∀ a, (![k.val] : Fin 1 → Nat) a + S1.size a ≤ S2.size a) (h) :
    v.readAt (Elt Ideal) (Rect.unit (s := S2) ![k.val] S1.size inb).toLoadRect f (Shape.Idx.first h) = v.read (Elt Ideal) f (ix1 k) := by
  rw [View.readAt_apply]
  congr 1
  funext a
  fin_cases a
  apply Fin.ext
  simp [LoadRect.idx_apply, Shape.Idx.first]

/-- The slot a grid point multiplies. -/
def pslot (i : grid0.Coords) : Fin 2 := ⟨((i 0).val + 1) % 2, Nat.mod_lt _ (by decide)⟩

theorem k0_off10_eq : ∀ i : grid0.Coords, k0_off10 i = ![((i 0).val + 1) % 2, 0, 0] := by decide +kernel

theorem pay4_ix (L : Vec Ideal S1x512x1920 .bf16) (R : Vec Ideal S1920x512 .bf16) (r q : Fin 512) :
    k0_pay4 (F := Ideal) L R (ix2 r q) = ∑ k : Fin 1920, L (ix3 0 r k) * R (ix2 k q) := by
  unfold_payloads
  pointwise

section
variable (v9 : View sig .tc .vmem S2x512x1920 .bf16) (v10 : View sig .tc .vmem S1920x2048 .bf16) (v4 : View sig .tc .vmem S512x2048 .f32)
  (f9 : v9.ty.Contents (Elt Ideal)) (f10 : v10.ty.Contents (Elt Ideal)) (G : v4.ty.Contents (Elt Ideal))

/-- One 512-column chunk of the product, from what is loaded. -/
def dChunk (o : Nat) (inb9 : ∀ a, k0_off10 i a + S1x512x1920.size a ≤ S2x512x1920.size a) (inb : ∀ a, (![0, o] : Fin 2 → Nat) a + S1920x512.size a ≤ S1920x2048.size a) : FVec Ideal S512x512 .f32 :=
  k0_pay4 (F := Ideal) (v9.readAt (Elt Ideal) (Rect.unit (s := S2x512x1920) (k0_off10 i) S1x512x1920.size inb9).toLoadRect f9)
    (v10.readAt (Elt Ideal) (Rect.unit (s := S1920x2048) ![0, o] S1920x512.size inb).toLoadRect f10)

theorem dChunk_ix (o : Nat) (ho : o ≤ 1536) (inb9 inb) (r q : Fin 512) :
    dChunk i v9 v10 f9 f10 o inb9 inb (ix2 r q)
      = specD (slotA (pslot i) (v9.read (Elt Ideal) f9)) (v10.read (Elt Ideal) f10) (ix2 r (⟨o + q.val, by omega⟩ : Fin 2048)) := by
  unfold dChunk specD
  rw [pay4_ix]
  refine Finset.sum_congr rfl fun k _ => ?_
  congr 1
  · rw [View.readAt_apply]
    unfold slotA
    congr 1
    have e := k0_off10_eq i
    funext a
    fin_cases a <;> (apply Fin.ext; simp [LoadRect.idx_apply, e, pslot])
  · rw [View.readAt_apply]
    congr 1
    funext a
    fin_cases a <;> (apply Fin.ext; simp [LoadRect.idx_apply])

/-- Four chunks stored side by side. -/
theorem chunks_read (D : S512x2048.Idx → EReal) (i3 i2 i1 i0) (w3 w2 w1 w0 : Vec Ideal S512x512 .f32)
    (h3 : ∀ r q : Fin 512, w3 (ix2 r q) = D (ix2 r (⟨1536 + q.val, by omega⟩ : Fin 2048))) (h2 : ∀ r q : Fin 512, w2 (ix2 r q) = D (ix2 r (⟨1024 + q.val, by omega⟩ : Fin 2048)))
    (h1 : ∀ r q : Fin 512, w1 (ix2 r q) = D (ix2 r (⟨512 + q.val, by omega⟩ : Fin 2048))) (h0 : ∀ r q : Fin 512, w0 (ix2 r q) = D (ix2 r (⟨0 + q.val, by omega⟩ : Fin 2048))) :
    v4.read (Elt Ideal) (v4.writes (Elt Ideal) G
      [(⟨Rect.unit (s := S512x2048) ![0, 1536] S512x512.size i3, w3⟩ : View.Piece (Elt Ideal) S512x2048 .f32), ⟨Rect.unit (s := S512x2048) ![0, 1024] S512x512.size i2, w2⟩,
       ⟨Rect.unit (s := S512x2048) ![0, 512] S512x512.size i1, w1⟩, ⟨Rect.unit (s := S512x2048) ![0, 0] S512x512.size i0, w0⟩]) = D := by
  funext y
  have y0 : (y 0).val < 512 := (y 0).isLt
  have y1 : (y 1).val < 2048 := (y 1).isLt
  have hD (o : Nat) (ho : o ≤ (y 1).val) (h) : D (ix2 (⟨(y 0).val, y0⟩ : Fin 512) (⟨o + ((y 1).val - o), h⟩ : Fin 2048)) = D y := by
    congr 1; funext a; fin_cases a <;> (apply Fin.ext; simp); omega
  by_cases c3 : 1536 ≤ (y 1).val
  · rw [View.read_writes_cons_unit_of_mem v4 G i3 w3 _ y (ix2 (⟨(y 0).val, y0⟩ : Fin 512) (⟨(y 1).val - 1536, by omega⟩ : Fin 512)) rfl
      (by intro a; fin_cases a <;> simp; omega), h3]
    exact hD 1536 c3 _
  rw [View.read_writes_cons_unit_of_not_mem v4 G i3 w3 _ y rfl 1 (Or.inl (by simpa using c3))]
  by_cases c2 : 1024 ≤ (y 1).val
  · rw [View.read_writes_cons_unit_of_mem v4 G i2 w2 _ y (ix2 (⟨(y 0).val, y0⟩ : Fin 512) (⟨(y 1).val - 1024, by omega⟩ : Fin 512)) rfl
      (by intro a; fin_cases a <;> simp; omega), h2]
    exact hD 1024 c2 _
  rw [View.read_writes_cons_unit_of_not_mem v4 G i2 w2 _ y rfl 1 (Or.inl (by simpa using c2))]
  by_cases c1 : 512 ≤ (y 1).val
  · rw [View.read_writes_cons_unit_of_mem v4 G i1 w1 _ y (ix2 (⟨(y 0).val, y0⟩ : Fin 512) (⟨(y 1).val - 512, by omega⟩ : Fin 512)) rfl
      (by intro a; fin_cases a <;> simp; omega), h1]
    exact hD 512 c1 _
  rw [View.read_writes_cons_unit_of_not_mem v4 G i1 w1 _ y rfl 1 (Or.inl (by simpa using c1))]
  rw [View.read_writes_cons_unit_of_mem v4 G i0 w0 _ y (ix2 (⟨(y 0).val, y0⟩ : Fin 512) (⟨(y 1).val - 0, by omega⟩ : Fin 512)) rfl
      (by intro a; fin_cases a <;> simp), h0]
  exact hD 0 (Nat.zero_le _) _
end

set_option maxHeartbeats 2000000 in
/-- The first point: `dy` and the first tile of `x` are quantised. -/
theorem runA (hc0 : k0_cond1 i = 1#1) (hc1 : ¬ k0_cond2 i = 1#1) (x0 : Vec Ideal S2 .i32) (x1 : Vec Ideal S1920x512 .bf16) (x2 : Vec Ideal S1920x2048 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg5 fullShare (specC x1 (xH (x0 (ix1 0)) (tileW i))) ∗ owns (c : Thread nD τ) arg6 fullShare (specS x1)
            ∗ owns (c : Thread nD τ) arg7 fullShare (specC x2 (hv 2 (mix (x0 (ix1 1))))) ∗ owns (c : Thread nD τ) arg8 fullShare (specS x2)
            ∗ (∃ d, owns (c : Thread nD τ) arg9 fullShare d ∗ ⌜slotA (slot i) d = specV x1 (xH (x0 (ix1 0)) (tileW i))⌝)
            ∗ owns (c : Thread nD τ) arg10 fullShare (specV x2 (hv 2 (mix (x0 (ix1 1)))))
            ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none (c : Thread nD τ) none) E (cc0_hbfp4_wgrad (F := Ideal) i arg1 harg1 arg2 harg2 arg3 harg3 arg4 harg4 arg5 harg5 arg6 harg6 arg7 harg7 arg8 harg8 arg9 harg9 arg10 harg10 arg11 harg11 arg12 harg12 arg13 harg13) K := by
    simp only [cc0_hbfp4_wgrad_eq_skeleton]; unfold cc0_hbfp4_wgrad_skel
    unfold owns
    have h19 := tileW_lt i
    unfold tileW at h19
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    sl_exec (disch := first | sl_exact hc0 | sl_exact hc1)
    sl_step
    have e16 : Scf.trips k0_t1_loop.lb k0_t1_loop.ub k0_t1_loop.st = 15 + 1 := by decide +kernel
    have e4 : Scf.trips k0_t4_loop.lb k0_t4_loop.ub k0_t4_loop.st = 3 + 1 := by decide +kernel
    have eT : runA.sl.v19 i = tileW i := rfl
    have r1 : runA.sl.r_1 c arg1 f0 = x0 (ix1 0) := by
      rw [← hf0]
      exact seed_read arg1.view f0 0 _ _
    have r0 : runA.sl.v23 c arg1 f0 = mix (x0 (ix1 1)) := by
      rw [← hf0]
      exact congrArg mix (seed_read arg1.view f0 1 _ (by decide))
    rw [e16, r0, hf2] at hL2 hL6
    rw [e16, hf2] at hL4
    rw [e4, r1, eT, hf1] at hL12 hL16
    rw [e4, hf1] at hL14
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H5]
    · iexists _; isplitr; · ipureintro; exact okC_all hL12 (by decide)
      iexact H5
    isplitl [H6]
    · iexists _; isplitr; · ipureintro; exact okS_all hL14 (by decide)
      iexact H6
    isplitl [H7]
    · iexists _; isplitr; · ipureintro; exact okC_all hL2 (by decide)
      iexact H7
    isplitl [H8]
    · iexists _; isplitr; · ipureintro; exact okS_all hL4 (by decide)
      iexact H8
    isplitl [HS0]
    · iexists _
      isplitl [HS0]
      · iexists _; isplitr; swap; · iexact HS0
        ipureintro; rfl
      ipureintro; exact okV_all hL16 (by decide)
    isplitl [HS1]
    · iexists _; isplitr; · ipureintro; exact okV_all hL6 (by decide)
      iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

set_option maxHeartbeats 2000000 in
/-- A later point: the tile quantised before is multiplied, and the point's own tile is quantised. -/
theorem runB (hc0 : ¬ k0_cond1 i = 1#1) (hc1 : k0_cond2 i = 1#1) (x0 : Vec Ideal S2 .i32) (x1 : Vec Ideal S1920x512 .bf16) (A : S1920x512.Idx → EReal) (B : S1920x2048.Idx → EReal) (K : PUnit → sProp 𝕄) :
    iprop(owns (c : Thread nD τ) arg1 fullShare x0 ∗ owns (c : Thread nD τ) arg2 fullShare x1 ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg9 fullShare d ∗ ⌜slotA (pslot i) d = A⌝) ∗ owns (c : Thread nD τ) arg10 fullShare B ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg4 fullShare (specD A B)
            ∗ owns (c : Thread nD τ) arg5 fullShare (specC x1 (xH (x0 (ix1 0)) (tileW i))) ∗ owns (c : Thread nD τ) arg6 fullShare (specS x1)
            ∗ (∃ d, owns (c : Thread nD τ) arg9 fullShare d ∗ ⌜slotA (slot i) d = specV x1 (xH (x0 (ix1 0)) (tileW i))⌝)
            ∗ owns (c : Thread nD τ) arg10 fullShare B
            ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none (c : Thread nD τ) none) E (cc0_hbfp4_wgrad (F := Ideal) i arg1 harg1 arg2 harg2 arg3 harg3 arg4 harg4 arg5 harg5 arg6 harg6 arg7 harg7 arg8 harg8 arg9 harg9 arg10 harg10 arg11 harg11 arg12 harg12 arg13 harg13) K := by
    simp only [cc0_hbfp4_wgrad_eq_skeleton]; unfold cc0_hbfp4_wgrad_skel
    unfold owns
    have h19 := tileW_lt i
    unfold tileW at h19
    iintro ⟨⟨%f0, %hf0, H0⟩, ⟨%f1, %hf1, H1⟩, ⟨%d4, %f4, -, H4⟩, ⟨%d5, %f5, -, H5⟩, ⟨%d6, %f6, -, H6⟩, ⟨%ds0, ⟨%fs0, %hs0, HS0⟩, %hA⟩, ⟨%fs1, %hB, HS1⟩, ⟨%ds2, %fs2, -, HS2⟩, ⟨%ds3, %fs3, -, HS3⟩, ⟨%ds4, %fs4, -, HS4⟩, Hk⟩
    sl_exec (disch := first | sl_exact hc0 | sl_exact hc1)
    sl_step
    have e4 : Scf.trips k0_t4_loop.lb k0_t4_loop.ub k0_t4_loop.st = 3 + 1 := by decide +kernel
    have eT : runB.sl.v19 i = tileW i := rfl
    have r1 : runB.sl.r c arg1 f0 = x0 (ix1 0) := by
      rw [← hf0]
      exact seed_read arg1.view f0 0 _ _
    have eD : runB.sl.H4_4 c i arg9 arg10 hc1 fs0 fs1 =
        [(⟨Rect.unit (s := S512x2048) ![0, 1536] S512x512.size inb_S512x2048_S512x512_0_1536, dChunk i arg9.view arg10.view fs0 fs1 1536 (k0_off10_inb i hc1) inb_S1920x2048_S1920x512_0_1536⟩ : View.Piece (Elt Ideal) S512x2048 .f32),
         ⟨Rect.unit (s := S512x2048) ![0, 1024] S512x512.size inb_S512x2048_S512x512_0_1024, dChunk i arg9.view arg10.view fs0 fs1 1024 (k0_off10_inb i hc1) inb_S1920x2048_S1920x512_0_1024⟩,
         ⟨Rect.unit (s := S512x2048) ![0, 512] S512x512.size inb_S512x2048_S512x512_0_512, dChunk i arg9.view arg10.view fs0 fs1 512 (k0_off10_inb i hc1) inb_S1920x2048_S1920x512_0_512⟩,
         ⟨Rect.unit (s := S512x2048) ![0, 0] S512x512.size inb_S512x2048_S512x512_0_0, dChunk i arg9.view arg10.view fs0 fs1 0 (k0_off10_inb i hc1) inb_S1920x2048_S1920x512_0_0⟩] := rfl
    rw [eD]
    have hD := chunks_read arg4.view arg4.view.junk (specD (slotA (pslot i) (arg9.view.read (Elt Ideal) fs0)) (arg10.view.read (Elt Ideal) fs1)) inb_S512x2048_S512x512_0_1536 inb_S512x2048_S512x512_0_1024 inb_S512x2048_S512x512_0_512 inb_S512x2048_S512x512_0_0 _ _ _ _
      (dChunk_ix i arg9.view arg10.view fs0 fs1 1536 (by omega) (k0_off10_inb i hc1) inb_S1920x2048_S1920x512_0_1536) (dChunk_ix i arg9.view arg10.view fs0 fs1 1024 (by omega) (k0_off10_inb i hc1) inb_S1920x2048_S1920x512_0_1024)
      (dChunk_ix i arg9.view arg10.view fs0 fs1 512 (by omega) (k0_off10_inb i hc1) inb_S1920x2048_S1920x512_0_512) (dChunk_ix i arg9.view arg10.view fs0 fs1 0 (by omega) (k0_off10_inb i hc1) inb_S1920x2048_S1920x512_0_0)
    rw [hs0, hA, hB] at hD
    rw [e4, r1, eT, hf1] at hL2 hL6
    rw [e4, hf1] at hL4
    iapply Hk
    isplitl [H0]
    · iexists _; isplitr; · ipureintro; exact hf0
      iexact H0
    isplitl [H1]
    · iexists _; isplitr; · ipureintro; exact hf1
      iexact H1
    isplitl [H4]
    · iexists _; isplitr; · ipureintro; exact hD
      iexact H4
    isplitl [H5]
    · iexists _; isplitr; · ipureintro; exact okC_all hL2 (by decide)
      iexact H5
    isplitl [H6]
    · iexists _; isplitr; · ipureintro; exact okS_all hL4 (by decide)
      iexact H6
    isplitl [HS0]
    · iexists _
      isplitl [HS0]
      · iexists _; isplitr; swap; · iexact HS0
        ipureintro; rfl
      ipureintro; exact okV_all hL6 (by decide)
    isplitl [HS1]
    · iexists _; isplitr; · ipureintro; exact hB
      iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Proof.KernelIdeal
end
-- ==== Proof.PipeRun.lean ====
/-
  What a run of `KernelIdeal` leaves in its result arrays: the pipeline's proof data with the contents named, and the launch.
-/
module

public import proofs.«01_k».proof.Proof.KernelIdealFrame
public import proofs.«01_k».proof.Proof.PointRun
public import Idealize.ShloMosaic.Lib.Pipeline.DatRel
public import Idealize.ShloMosaic.Lib.Pipeline.ArrRel
public import Idealize.ShloMosaic.Lib.Pipeline.Value

@[expose] public section

set_option maxRecDepth 16384

noncomputable section

namespace Cert.Proof.KernelIdealRun

open Cert.KernelIdeal Cert.KernelIdeal.Gen
open Cert.Proof.KernelIdeal hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-! ## The arrays the region reads, and its tiles -/

/-- `x` as the region finds it: one row per token. -/
def gX (c : Dev nD) : S1920x7168.Idx → EReal := V m c main_v0
/-- `dy` as the region finds it. -/
def gY (c : Dev nD) : S1920x2048.Idx → EReal := V m c main_v1
/-- The seeds as the region finds them. -/
def gS (c : Dev nD) : S2.Idx → BitVec 32 := V m c main_v2

theorem tile_lt (n : Nat) (r : Fin 512) : 512 * min n 13 + r.val < 7168 := by omega

/-- The tile of `x` that point `n` quantises. -/
def xTile (c : Dev nD) (n : Nat) : S1920x512.Idx → EReal := fun y => gX m c (ix2 (y 0) (⟨512 * min n 13 + (y 1).val, tile_lt n (y 1)⟩ : Fin 7168))
/-- The words that round `x`, for all its columns; -/
def xHash (c : Dev nD) : Nat → Nat → BitVec 32 := hv 7 (mix (gS m c (ix1 0)))
/-- for the columns of a tile; -/
def xHn (c : Dev nD) (n : Nat) : Nat → Nat → BitVec 32 := fun q t => xHash m c (512 * min n 13 + q) t
/-- and those that round `dy`. -/
def yHash (c : Dev nD) : Nat → Nat → BitVec 32 := hv 2 (mix (gS m c (ix1 1)))
/-- The values of point `n`'s tile. -/
def xVal (c : Dev nD) (n : Nat) : S1920x512.Idx → EReal := specV (xTile m c n) (xHn m c n)
/-- The values of `dy`. -/
def yVal (c : Dev nD) : S1920x2048.Idx → EReal := specV (gY m c) (yHash m c)
/-- A slot by the point's parity. -/
def slotN (n : Nat) : Fin 2 := ⟨n % 2, Nat.mod_lt _ (by decide)⟩

theorem coord_val (t : Fin cfg0.N) : (grid0.coords t 0).val = t.val := by
  have ht : t.val < 15 := Nat.lt_of_lt_of_eq t.isLt N_0
  have e0 : (grid0.coords t 0).val = t.val / 1 % 15 := Pipeline.Grid.coords_val t 0 (by decide) rfl
  omega

theorem slot_eq (t : Fin cfg0.N) : slot (grid0.coords t) = slotN t.val := by
  apply Fin.ext; simp only [slot, slotN, coord_val]
theorem pslot_eq (t : Fin cfg0.N) : pslot (grid0.coords t) = slotN (t.val + 1) := by
  apply Fin.ext; simp only [pslot, slotN, coord_val]
theorem tileW_toNat : ∀ i : grid0.Coords, (tileW i).toNat = min (i 0).val 13 := by decide +kernel
theorem xH_eq (c : Dev nD) (t : Fin cfg0.N) : xH (gS m c (ix1 0)) (tileW (grid0.coords t)) = xHn m c t.val := by
  funext q k
  unfold xH xHn xHash mix
  rw [tileW_toNat, coord_val]

theorem index0 : ∀ (t : Fin grid0.N) (a : Fin 1), win0_0.index t a = 0 := by decide +kernel
theorem index1 : ∀ t : Fin grid0.N, win0_1.index t 0 = 0 ∧ win0_1.index t 1 = min t.val 13 := by decide +kernel
theorem index2 : ∀ t : Fin grid0.N, win0_2.index t 0 = 0 ∧ win0_2.index t 1 = 0 := by decide +kernel

theorem iblk0_eq (c : Dev nD) (t : Fin cfg0.N) : (iblk m c 0 t : S2.Idx → BitVec 32) = gS m c := by
  funext j
  unfold iblk
  rw [View.read_apply]
  show V m c main_v2 _ = V m c main_v2 _
  congr 1
  funext a
  apply Fin.ext
  match a with
  | ⟨0, _⟩ => show win0_0.index t 0 * 2 + 1 * (j 0).val = (j 0).val; rw [index0]; omega

theorem iblk1_eq (c : Dev nD) (t : Fin cfg0.N) : (iblk m c 1 t : S1920x512.Idx → EReal) = xTile m c t.val := by
  funext j
  unfold iblk
  rw [View.read_apply]
  show V m c main_v0 _ = V m c main_v0 _
  congr 1
  funext a
  apply Fin.ext
  match a with
  | ⟨0, _⟩ => show win0_1.index t 0 * 1920 + 1 * (j 0).val = (j 0).val; rw [(index1 t).1]; omega
  | ⟨1, _⟩ => show win0_1.index t 1 * 512 + 1 * (j 1).val = 512 * min t.val 13 + (j 1).val; rw [(index1 t).2]; omega

theorem iblk2_eq (c : Dev nD) (t : Fin cfg0.N) : (iblk m c 2 t : S1920x2048.Idx → EReal) = gY m c := by
  funext j
  unfold iblk
  rw [View.read_apply]
  show V m c main_v1 _ = V m c main_v1 _
  congr 1
  funext a
  apply Fin.ext
  match a with
  | ⟨0, _⟩ => show win0_2.index t 0 * 1920 + 1 * (j 0).val = (j 0).val; rw [(index2 t).1]; omega
  | ⟨1, _⟩ => show win0_2.index t 1 * 2048 + 1 * (j 1).val = (j 1).val; rw [(index2 t).2]; omega

/-! ## The proof data -/

/-- The windows whose contents are a predicate: a point either leaves them alone or has nothing to say of them. -/
def held0 : Fin 8 → Bool := fun w => w.val == 3 || w.val == 6 || w.val == 7

/-- What those windows hold after point `t`: the product with the tile before (nothing is said at the first point), the
    codes of `dy`, the scales of `dy`. -/
def holds0 (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun X => 1 ≤ t.val → X = specD (xVal m c (t.val - 1)) (yVal m c)
  | ⟨4, _⟩ => fun _ => True
  | ⟨5, _⟩ => fun _ => True
  | ⟨6, _⟩ => fun X => X = specC (gY m c) (yHash m c)
  | ⟨7, _⟩ => fun X => X = specS (gY m c)

/-- What the scratch holds before point `n`: at first anything; later one slot the values of the tile before, and the
    values of `dy`. -/
def PhiV (c : Dev nD) : ℕ → sProp 𝕄
  | 0 => Pipeline.ΦA spec0 c
  | n + 1 => iprop(((∃ d, owns (c : Thread nD τ) scM0_0 fullShare d ∗ ⌜slotA (slotN n) d = xVal m c n⌝)
      ∗ owns (c : Thread nD τ) scM0_1 fullShare (yVal m c)
      ∗ (∃ d, owns (c : Thread nD τ) scM0_2 fullShare d) ∗ (∃ d, owns (c : Thread nD τ) scM0_3 fullShare d) ∗ (∃ d, owns (c : Thread nD τ) scM0_4 fullShare d)) ∗ (∃ r, prngReg c r))

/-- The proof data of the pipeline on core `c`. -/
def datV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, _⟩ => specC (xTile m c t.val) (xHn m c t.val)
    | ⟨5, _⟩ => specS (xTile m c t.val)
    | ⟨6, h⟩ => Pipeline.Dat.unnamed (cfg := cfg0) ⟨6, h⟩ t
    | ⟨7, h⟩ => Pipeline.Dat.unnamed (cfg := cfg0) ⟨7, h⟩ t
  Φ t := PhiV m c t.val
  q _ := fullShare
  owed _ := 0

theorem A_eqV (c : Dev nD) (w : Fin cfg0.W) : (datV m 0 c).A w = V m c (Pipeline.arrRef spec0 w) := by
  dsimp only [datV]
theorem afterV_0 (c : Dev nD) (t : Fin cfg0.N) : (datV m 0 c).after 0 t = iblk m c 0 t := by dsimp only [datV]
theorem afterV_1 (c : Dev nD) (t : Fin cfg0.N) : (datV m 0 c).after 1 t = iblk m c 1 t := by dsimp only [datV]
theorem afterV_2 (c : Dev nD) (t : Fin cfg0.N) : (datV m 0 c).after 2 t = iblk m c 2 t := by dsimp only [datV]
theorem afterV_4 (c : Dev nD) (t : Fin cfg0.N) : (datV m 0 c).after 4 t = (specC (xTile m c t.val) (xHn m c t.val) : S960x512.Idx → BitVec 8) := by dsimp only [datV]
theorem afterV_5 (c : Dev nD) (t : Fin cfg0.N) : (datV m 0 c).after 5 t = (specS (xTile m c t.val) : S3x10x512.Idx → EReal) := by dsimp only [datV]
theorem beforeV_0 (c : Dev nD) (t : Fin cfg0.N) (d) : (datV m 0 c).before 0 t d = gS m c :=
  (before0_0_of m (datV m 0 c) (A_eqV m c 0) (afterV_0 m c) t d).trans (iblk0_eq m c t)
theorem beforeV_1 (c : Dev nD) (t : Fin cfg0.N) (d) : (datV m 0 c).before 1 t d = xTile m c t.val :=
  (before0_1_of m (datV m 0 c) (A_eqV m c 1) (afterV_1 m c) t d).trans (iblk1_eq m c t)
theorem beforeV_2 (c : Dev nD) (t : Fin cfg0.N) (d) : (datV m 0 c).before 2 t d = gY m c :=
  (before0_2_of m (datV m 0 c) (A_eqV m c 2) (afterV_2 m c) t d).trans (iblk2_eq m c t)

/-- The data with the held windows read by their predicates. -/
abbrev rdV (c : Dev nD) : Pipeline.RDat τ (Elt Ideal) Unit ℕ (UR sig nD τ) ℕ cfg0 c := (datV m 0 c).toRRel held0 (holds0 m c)

theorem noflush6 : ∀ t : Fin grid0.N, t.val < 14 → win0_6.flush t = false := by decide +kernel
theorem noflush7 : ∀ t : Fin grid0.N, t.val < 14 → win0_7.flush t = false := by decide +kernel

/-- After the first point the windows of `dy` hold what the first point left. -/
theorem finds6 (c : Dev nD) (t : Fin cfg0.N) (ht : t.val ≠ 0) (X : S960x2048.Idx → BitVec 8) (h : (rdV m c).Finds 6 t X) : X = specC (gY m c) (yHash m c) := by
  have hN : t.val < 15 := lt_of_lt_of_eq t.isLt (show cfg0.N = 15 from N_0)
  rw [(rdV m c).finds_of_pos ((cfg0.win 6).fetch_out rfl t) ht] at h
  rcases h with h | h
  · exact absurd (h.symm.trans (noflush6 ⟨t.val - 1, lt_of_le_of_lt (Nat.sub_le _ _) t.isLt⟩ (by show t.val - 1 < 14; omega))) (by decide)
  · exact (datV m 0 c).toRRel_leaves (w := 6) rfl h
theorem finds7 (c : Dev nD) (t : Fin cfg0.N) (ht : t.val ≠ 0) (X : S3x10x2048.Idx → EReal) (h : (rdV m c).Finds 7 t X) : X = specS (gY m c) := by
  have hN : t.val < 15 := lt_of_lt_of_eq t.isLt (show cfg0.N = 15 from N_0)
  rw [(rdV m c).finds_of_pos ((cfg0.win 7).fetch_out rfl t) ht] at h
  rcases h with h | h
  · exact absurd (h.symm.trans (noflush7 ⟨t.val - 1, lt_of_le_of_lt (Nat.sub_le _ _) t.isLt⟩ (by show t.val - 1 < 14; omega))) (by decide)
  · exact (datV m 0 c).toRRel_leaves (w := 7) rfl h

/-! ## The body obligation -/

/-- What the body is called with at point `t`, -/
def bodyPreV (c : Dev nD) (t : Fin cfg0.N) : sProp 𝕄 :=
  iprop((datV m 0 c).Φ t.castSucc ∗ (datV m 0 c).owesAt () t.castSucc
    ∗ (∃ d, owns (c : Thread nD τ) (ms0_0 t) fullShare ((datV m 0 c).before 0 t d))
    ∗ (∃ d, owns (c : Thread nD τ) (ms0_1 t) fullShare ((datV m 0 c).before 1 t d))
    ∗ (∃ d, owns (c : Thread nD τ) (ms0_2 t) fullShare ((datV m 0 c).before 2 t d))
    ∗ (∃ Y, ⌜(rdV m c).Finds 3 t Y⌝ ∗ owns (c : Thread nD τ) (ms0_3 t) fullShare Y)
    ∗ (∃ d, owns (c : Thread nD τ) (ms0_4 t) fullShare ((datV m 0 c).before 4 t d))
    ∗ (∃ d, owns (c : Thread nD τ) (ms0_5 t) fullShare ((datV m 0 c).before 5 t d))
    ∗ (∃ Y, ⌜(rdV m c).Finds 6 t Y⌝ ∗ owns (c : Thread nD τ) (ms0_6 t) fullShare Y)
    ∗ (∃ Y, ⌜(rdV m c).Finds 7 t Y⌝ ∗ owns (c : Thread nD τ) (ms0_7 t) fullShare Y))

/-- and what it returns. -/
def bodyPostV (c : Dev nD) (t : Fin cfg0.N) : sProp 𝕄 :=
  iprop((datV m 0 c).Φ t.succ ∗ (datV m 0 c).owesAt () t.succ
    ∗ owns (c : Thread nD τ) (ms0_0 t) fullShare ((datV m 0 c).after 0 t)
    ∗ owns (c : Thread nD τ) (ms0_1 t) fullShare ((datV m 0 c).after 1 t)
    ∗ owns (c : Thread nD τ) (ms0_2 t) fullShare ((datV m 0 c).after 2 t)
    ∗ (∃ X, ⌜holds0 m c 3 t X⌝ ∗ owns (c : Thread nD τ) (ms0_3 t) fullShare X)
    ∗ owns (c : Thread nD τ) (ms0_4 t) fullShare ((datV m 0 c).after 4 t)
    ∗ owns (c : Thread nD τ) (ms0_5 t) fullShare ((datV m 0 c).after 5 t)
    ∗ (∃ X, ⌜holds0 m c 6 t X⌝ ∗ owns (c : Thread nD τ) (ms0_6 t) fullShare X)
    ∗ (∃ X, ⌜holds0 m c 7 t X⌝ ∗ owns (c : Thread nD τ) (ms0_7 t) fullShare X))

set_option maxHeartbeats 2400000 in
/-- The body at any point. -/
theorem sound_bodyV (c : Dev nD) (t : Fin cfg0.N) :
    bodyPreV m c t ⊢ wp frame (wpE (defs₀ (F := Ideal)) Variants.none c none) Set.univ (bodyAt0 t) (fun _ => bodyPostV m c t) := by
  have hN : t.val < 15 := lt_of_lt_of_eq t.isLt (show cfg0.N = 15 from N_0)
  unfold bodyPreV bodyPostV bodyAt0
  simp only [beforeV_0, beforeV_1, beforeV_2]
  rw [afterV_0, afterV_1, afterV_2, afterV_4, afterV_5, iblk0_eq, iblk1_eq, iblk2_eq]
  rw [show (datV m 0 c).owesAt () t.succ = (datV m 0 c).owesAt () t.castSucc from rfl]
  rw [show (datV m 0 c).Φ t.succ = PhiV m c (t.val + 1) from rfl, show (datV m 0 c).Φ t.castSucc = PhiV m c t.val from rfl]
  rw [show PhiV m c (t.val + 1) = iprop(((∃ d, owns (c : Thread nD τ) scM0_0 fullShare d ∗ ⌜slotA (slotN t.val) d = xVal m c t.val⌝)
      ∗ owns (c : Thread nD τ) scM0_1 fullShare (yVal m c)
      ∗ (∃ d, owns (c : Thread nD τ) scM0_2 fullShare d) ∗ (∃ d, owns (c : Thread nD τ) scM0_3 fullShare d) ∗ (∃ d, owns (c : Thread nD τ) scM0_4 fullShare d)) ∗ (∃ r, prngReg c r)) from rfl]
  rcases Nat.eq_zero_or_pos t.val with h0 | hp
  · rw [show PhiV m c t.val = Pipeline.ΦA spec0 c from by rw [h0]; rfl, PhiA0_eq]
    iintro ⟨⟨⟨HS0, HS1, HS2, HS3, HS4⟩, Hg⟩, Ho, ⟨%d0, H0⟩, ⟨%d1, H1⟩, ⟨%d2, H2⟩, ⟨%d3, %hd3, H3⟩, ⟨%d4, H4⟩, ⟨%d5, H5⟩, ⟨%d6, %hd6, H6⟩, ⟨%d7, %hd7, H7⟩⟩
    iapply (runA Set.univ c (grid0.coords t) _ _ _ _ _ _ _ _ _ _ _ _ _ _ _ _ _ _ _ _ _ _ _ _ _ _ ((hcond0_0 t).mpr (by rw [h0])) (fun h => absurd ((hcond0_1 t).mp h) (by omega)) (gS m c) (xTile m c t.val) (gY m c) _)
    isplitl [H0]; · iexact H0
    isplitl [H1]; · iexact H1
    isplitl [H2]; · iexact H2
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    rw [xH_eq, slot_eq]
    iintro ⟨H0, H1, H2, H4, H5, H6, H7, ⟨%e0, HS0, %he0⟩, HS1, HS2, HS3, HS4⟩
    isplitl [HS0 HS1 HS2 HS3 HS4 Hg]
    · isplitl [HS0 HS1 HS2 HS3 HS4]
      · isplitl [HS0]
        · iexists e0
          isplitl [HS0]; · iexact HS0
          ipureintro; exact he0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]
    · iexists d3; isplitr; swap; · iexact H3
      ipureintro; exact fun h => absurd h (by omega)
    isplitl [H4]; · iexact H4
    isplitl [H5]; · iexact H5
    isplitl [H6]
    · iexists _; isplitr; swap; · iexact H6
      ipureintro; rfl
    iexists _; isplitr; swap; · iexact H7
    ipureintro; rfl
  · obtain ⟨n, hn⟩ : ∃ n, t.val = n + 1 := ⟨t.val - 1, by omega⟩
    rw [show PhiV m c t.val = iprop(((∃ d, owns (c : Thread nD τ) scM0_0 fullShare d ∗ ⌜slotA (slotN n) d = xVal m c n⌝)
      ∗ owns (c : Thread nD τ) scM0_1 fullShare (yVal m c)
      ∗ (∃ d, owns (c : Thread nD τ) scM0_2 fullShare d) ∗ (∃ d, owns (c : Thread nD τ) scM0_3 fullShare d) ∗ (∃ d, owns (c : Thread nD τ) scM0_4 fullShare d)) ∗ (∃ r, prngReg c r)) from by rw [hn]; rfl]
    have eP : pslot (grid0.coords t) = slotN n := by
      rw [pslot_eq, hn]; apply Fin.ext; show (n + 1 + 1) % 2 = n % 2; omega
    iintro ⟨⟨⟨HS0, HS1, HS2, HS3, HS4⟩, Hg⟩, Ho, ⟨%d0, H0⟩, ⟨%d1, H1⟩, ⟨%d2, H2⟩, ⟨%d3, %hd3, H3⟩, ⟨%d4, H4⟩, ⟨%d5, H5⟩, ⟨%d6, %hd6, H6⟩, ⟨%d7, %hd7, H7⟩⟩
    iapply (runB Set.univ c (grid0.coords t) _ _ _ _ _ _ _ _ _ _ _ _ _ _ _ _ _ _ _ _ _ _ _ _ _ _ (fun h => absurd ((hcond0_0 t).mp h) (by omega)) ((hcond0_1 t).mpr hp) (gS m c) (xTile m c t.val) (xVal m c n) (yVal m c) _)
    rw [xH_eq, slot_eq, eP]
    isplitl [H0]; · iexact H0
    isplitl [H1]; · iexact H1
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    iintro ⟨H0, H1, H3, H4, H5, ⟨%e0, HS0, %he0⟩, HS1, HS2, HS3, HS4⟩
    isplitl [HS0 HS1 HS2 HS3 HS4 Hg]
    · isplitl [HS0 HS1 HS2 HS3 HS4]
      · isplitl [HS0]
        · iexists e0
          isplitl [HS0]; · iexact HS0
          ipureintro; exact he0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]
    · iexists _; isplitr; swap; · iexact H3
      ipureintro; intro _; rw [hn, Nat.add_sub_cancel]
    isplitl [H4]; · iexact H4
    isplitl [H5]; · iexact H5
    isplitl [H6]
    · iexists d6; isplitr; swap; · iexact H6
      ipureintro; exact finds6 m c t (by omega) d6 hd6
    iexists d7; isplitr; swap; · iexact H7
    ipureintro; exact finds7 m c t (by omega) d7 hd7

/-- The body obligation, the held windows by their predicates. -/
theorem body_obligationV (c : Dev nD) : BodyObligationRel (datV m 0 c) (defs₀ (F := Ideal)) Variants.none () Set.univ held0 (holds0 m c) := fun t => by
  rw [bigSep_W0, bigSep_W0, defs₀_row]
  exact triple_restated (sound_bodyV m c t) rfl .rfl fun _ => .rfl

/-! ## The run -/

theorem PhiV_out (c : Dev nD) : PhiV m c 15 ⊢ (Pipeline.ΦA spec0 c : sProp 𝕄) := by
  rw [PhiA0_eq]
  rw [show PhiV m c 15 = iprop(((∃ d, owns (c : Thread nD τ) scM0_0 fullShare d ∗ ⌜slotA (slotN 14) d = xVal m c 14⌝)
      ∗ owns (c : Thread nD τ) scM0_1 fullShare (yVal m c)
      ∗ (∃ d, owns (c : Thread nD τ) scM0_2 fullShare d) ∗ (∃ d, owns (c : Thread nD τ) scM0_3 fullShare d) ∗ (∃ d, owns (c : Thread nD τ) scM0_4 fullShare d)) ∗ (∃ r, prngReg c r)) from rfl]
  iintro ⟨⟨⟨%e0, HS0, %he0⟩, HS1, HS2, HS3, HS4⟩, Hg⟩
  isplitl [HS0 HS1 HS2 HS3 HS4]
  · isplitl [HS0]; · iexists _; iexact HS0
    isplitl [HS1]; · iexists _; iexact HS1
    isplitl [HS2]; · iexact HS2
    isplitl [HS3]; · iexact HS3
    iexact HS4
  iexact Hg

theorem Phi_last (c : Dev nD) : (datV m 0 c).Φ (Fin.last cfg0.N) = PhiV m c 15 := by
  show PhiV m c cfg0.N = _
  rw [show cfg0.N = 15 from N_0]

set_option backward.isDefEq.respectTransparency.types false in
/-- The launch, at the data with the held windows read by their predicates. -/
theorem run_mainV : θ_run defs (onTc (τ := τ) (main (F := Ideal))) (s₀ m ρ) (Pipeline.RDat.FramePost (cfgs 0) (fun c => rdV m c) (V m)) :=
  Pipeline.RDat.θ_run_frame_track cfgs (0 : Fin 1) launch0 defs₀ Variants.none (fun c => rdV m c) m ρ main
    (hbody := fun c => (body_obligationV m c).toRRel) (hshare := fun c => (datV m 0 c).share_full fun _ => rfl)
    (howed := fun _ _ => rfl) (V := V m) (hmain := hmain m Variants.none) (hA := A_eqV m) (hin := fun c => .rfl)
    (hout := fun c => by rw [show (rdV m c).Φ (Fin.last cfg0.N) = PhiV m c 15 from Phi_last m c]; exact PhiV_out m c)

end Cert.Proof.KernelIdealRun

end
-- ==== Proof.Arrays.lean ====
/-
  The result arrays of `KernelIdeal` after a run, each as one function of the arrays the region reads.
-/
module

public import proofs.«01_k».proof.Proof.PipeRun
public import Idealize.ShloMosaic.Lib.Pipeline.DatRel
public import Idealize.ShloMosaic.Lib.Pipeline.ArrRel
public import Idealize.ShloMosaic.Lib.Pipeline.Value

@[expose] public section

set_option maxRecDepth 16384

noncomputable section

namespace Cert.Proof.KernelIdealRun

open Cert.KernelIdeal Cert.KernelIdeal.Gen
open Cert.Proof.KernelIdeal hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-! ## A tile's results are the array's, at the tile's columns -/

theorem colA_tile (c : Dev nD) (n : Nat) (q : Nat) (hq : q < 512) : colA (xTile m c n) q = colA (gX m c) (512 * min n 13 + q) := by
  funext t
  have hc : 512 * min n 13 + q < 7168 := by omega
  by_cases ht : t < 1920
  · rw [colA_of _ _ _ ht hq, colA_of _ _ _ ht hc]; rfl
  · rw [colA, colA, dif_neg (fun h => ht h.1), dif_neg (fun h => ht h.1)]

/-- The result `dw`: the product of the quantised values over the tokens. -/
def gD (c : Dev nD) : S7168x2048.Idx → EReal :=
  fun y => ∑ k : Fin 1920, specV (gX m c) (xHash m c) (ix2 k (y 0)) * yVal m c (ix2 k (y 1))

theorem xVal_eq (c : Dev nD) (n : Nat) (k : Fin 1920) (q : Fin 512) (p : Fin 7168) (hp : p.val = 512 * min n 13 + q.val) :
    xVal m c n (ix2 k q) = specV (gX m c) (xHash m c) (ix2 k p) := by
  show Vv (colA (xTile m c n) q.val) (xHn m c n q.val) k.val = Vv (colA (gX m c) p.val) (xHash m c p.val) k.val
  rw [colA_tile m c n q.val q.isLt, hp]; rfl
theorem gD_tile (c : Dev nD) (n : Nat) (y : S512x2048.Idx) (z : S7168x2048.Idx) (h0 : (z 0).val = 512 * min n 13 + (y 0).val) (h1 : (z 1).val = (y 1).val) :
    specD (xVal m c n) (yVal m c) y = gD m c z := by
  unfold specD gD
  refine Finset.sum_congr rfl fun k _ => ?_
  rw [xVal_eq m c n k (y 0) (z 0) h0]
  congr 2
  funext a
  match a with
  | ⟨0, _⟩ => rfl
  | ⟨1, _⟩ => exact Fin.ext h1.symm
theorem specC_tile (c : Dev nD) (n : Nat) (k : Fin 960) (q : Fin 512) (p : Fin 7168) (hp : p.val = 512 * min n 13 + q.val) :
    specC (xTile m c n) (xHn m c n) (ix2 k q) = specC (gX m c) (xHash m c) (ix2 k p) := by
  show Cv (colA (xTile m c n) q.val) (xHn m c n q.val) k.val = Cv (colA (gX m c) p.val) (xHash m c p.val) k.val
  rw [colA_tile m c n q.val q.isLt, hp]; rfl
theorem specS_tile (c : Dev nD) (n : Nat) (g : Fin 3) (b : Fin 10) (q : Fin 512) (p : Fin 7168) (hp : p.val = 512 * min n 13 + q.val) :
    specS (xTile m c n) (ix3 g b q) = specS (gX m c) (ix3 g b p) := by
  show Sv (colA (xTile m c n) q.val) (10 * g.val + b.val) = Sv (colA (gX m c) p.val) (10 * g.val + b.val)
  rw [colA_tile m c n q.val q.isLt, hp]

/-! ## The windows' blocks and their write-backs -/

theorem index3 : ∀ t : Fin grid0.N, win0_3.index t 0 = t.val - 1 ∧ win0_3.index t 1 = 0 := by decide +kernel
theorem index4 : ∀ t : Fin grid0.N, win0_4.index t 0 = 0 ∧ win0_4.index t 1 = min t.val 13 := by decide +kernel
theorem index5 : ∀ t : Fin grid0.N, win0_5.index t 0 = 0 ∧ win0_5.index t 1 = 0 ∧ win0_5.index t 2 = min t.val 13 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 ∧ win0_7.index t 2 = 0 := by decide +kernel
theorem flush3 : ∀ t : Fin grid0.N, win0_3.flush t = true ↔ 1 ≤ t.val := by decide +kernel
theorem flush4 : ∀ t : Fin grid0.N, win0_4.flush t = true ↔ t.val ≠ 13 := by decide +kernel
theorem flush5 : ∀ t : Fin grid0.N, win0_5.flush t = true ↔ t.val ≠ 13 := by decide +kernel
theorem flush6 : ∀ t : Fin grid0.N, win0_6.flush t = true ↔ t.val = 14 := by decide +kernel
theorem flush7 : ∀ t : Fin grid0.N, win0_7.flush t = true ↔ t.val = 14 := by decide +kernel

/-- The point that writes the tile `n` of a column-tiled result. -/
def colPt (n : Nat) (h : n < 14) : Fin cfg0.N := ⟨if n = 13 then 14 else n, by rw [show cfg0.N = 15 from N_0]; split <;> omega⟩

section
variable (c : Dev nD) (after : (w' : Fin cfg0.W) → Fin cfg0.N → (cfg0.win w').block.Idx → Elt Ideal (cfg0.win w').elt)
  (hL : ∀ (w : Fin cfg0.W) (u : Fin cfg0.N), (cfg0.win w).flush u = true → (rdV m c).Leaves w u (after w u))
include hL

theorem leaves3 (u : Fin cfg0.N) (h : 1 ≤ u.val) : after 3 u = (specD (xVal m c (u.val - 1)) (yVal m c) : S512x2048.Idx → EReal) :=
  (datV m 0 c).toRRel_leaves (w := 3) rfl (hL 3 u ((flush3 u).mpr h)) h
theorem leaves4 (u : Fin cfg0.N) (h : u.val ≠ 13) : after 4 u = (specC (xTile m c u.val) (xHn m c u.val) : S960x512.Idx → BitVec 8) := by
  obtain ⟨Y, _, hX⟩ := hL 4 u ((flush4 u).mpr h)
  rw [(datV m 0 c).toRRel_after_of_eq_false (w := 4) rfl] at hX
  exact (Eq.trans hX (afterV_4 m c u) :)
theorem leaves5 (u : Fin cfg0.N) (h : u.val ≠ 13) : after 5 u = (specS (xTile m c u.val) : S3x10x512.Idx → EReal) := by
  obtain ⟨Y, _, hX⟩ := hL 5 u ((flush5 u).mpr h)
  rw [(datV m 0 c).toRRel_after_of_eq_false (w := 5) rfl] at hX
  exact (Eq.trans hX (afterV_5 m c u) :)
theorem leaves6 (u : Fin cfg0.N) (h : u.val = 14) : after 6 u = (specC (gY m c) (yHash m c) : S960x2048.Idx → BitVec 8) :=
  (datV m 0 c).toRRel_leaves (w := 6) rfl (hL 6 u ((flush6 u).mpr h))
theorem leaves7 (u : Fin cfg0.N) (h : u.val = 14) : after 7 u = (specS (gY m c) : S3x10x2048.Idx → EReal) :=
  (datV m 0 c).toRRel_leaves (w := 7) rfl (hL 7 u ((flush7 u).mpr h))

/-! ## The arrays after the run -/

theorem final3 : ((rdV m c).withAfter after).arrAt 3 cfg0.N = gD m c := by
  refine Dat.arrAt_eq_of_cover ((rdV m c).withAfter after) 3 (gD m c) (fun t hf => ?_) (fun i => ?_)
  · have h1 := (flush3 t).mp hf
    have hN : t.val < 15 := lt_of_lt_of_eq t.isLt (show cfg0.N = 15 from N_0)
    funext j
    rw [View.read_apply]
    show after 3 t _ = gD m c _
    rw [leaves3 m c after hL t h1]
    refine gD_tile m c (t.val - 1) _ _ ?_ ?_
    · show win0_3.index t 0 * 512 + 1 * (j 0).val = 512 * min (t.val - 1) 13 + (j 0).val
      rw [(index3 t).1]; omega
    · show win0_3.index t 1 * 2048 + 1 * (j 1).val = (j 1).val
      rw [(index3 t).2]; omega
  · have i0 : (i 0 : Nat) < 7168 := (i 0).isLt
    have i1 : (i 1 : Nat) < 2048 := (i 1).isLt
    refine ⟨⟨(i 0).val / 512 + 1, by rw [show cfg0.N = 15 from N_0]; omega⟩, (flush3 _).mpr (Nat.le_add_left _ _), ?_⟩
    generalize ht : (⟨(i 0).val / 512 + 1, by rw [show cfg0.N = 15 from N_0]; omega⟩ : Fin cfg0.N) = t
    have hv : t.val = (i 0).val / 512 + 1 := by rw [← ht]
    show i ∈ ((View.whole main_v3_0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [(index3 t).1]; omega
    | ⟨1, _⟩ => show win0_3.index t 1 * 2048 ≤ (i 1 : Nat) ∧ (i 1 : Nat) < win0_3.index t 1 * 2048 + 2048
                rw [(index3 t).2]; omega

theorem final4 : ((rdV m c).withAfter after).arrAt 4 cfg0.N = (specC (gX m c) (xHash m c) : S960x7168.Idx → BitVec 8) := by
  refine Dat.arrAt_eq_of_cover ((rdV m c).withAfter after) 4 (specC (gX m c) (xHash m c) : S960x7168.Idx → BitVec 8) (fun t hf => ?_) (fun i => ?_)
  · have h1 := (flush4 t).mp hf
    have hN : t.val < 15 := lt_of_lt_of_eq t.isLt (show cfg0.N = 15 from N_0)
    funext j
    rw [View.read_apply]
    show after 4 t _ = specC (gX m c) (xHash m c) _
    rw [leaves4 m c after hL t h1]
    show Cv (colA (xTile m c t.val) (j 1).val) (xHn m c t.val (j 1).val) (j 0).val
      = Cv (colA (gX m c) (win0_4.index t 1 * 512 + 1 * (j 1).val)) (xHash m c (win0_4.index t 1 * 512 + 1 * (j 1).val)) (win0_4.index t 0 * 960 + 1 * (j 0).val)
    rw [colA_tile m c t.val _ (j 1).isLt, (index4 t).1, (index4 t).2]
    unfold xHn
    rw [show min t.val 13 * 512 + 1 * (j 1).val = 512 * min t.val 13 + (j 1).val from by omega, show 0 * 960 + 1 * (j 0).val = (j 0).val from by omega]
  · have i0 : (i 0 : Nat) < 960 := (i 0).isLt
    have i1 : (i 1 : Nat) < 7168 := (i 1).isLt
    have hq : (i 1).val / 512 < 14 := by omega
    have hv : (colPt ((i 1).val / 512) hq).val = if (i 1).val / 512 = 13 then 14 else (i 1).val / 512 := rfl
    refine ⟨colPt ((i 1).val / 512) hq, (flush4 _).mpr (by rw [hv]; split <;> omega), ?_⟩
    generalize colPt ((i 1).val / 512) hq = t at hv ⊢
    have hm : min t.val 13 = (i 1).val / 512 := by rw [hv]; split <;> omega
    show i ∈ ((View.whole main_v3_1).slice (win0_4.rect t)).set
    rw [View.set_slice_whole, Rect.mem_set_unit]
    intro a
    match a with
    | ⟨0, _⟩ => show win0_4.index t 0 * 960 ≤ (i 0 : Nat) ∧ (i 0 : Nat) < win0_4.index t 0 * 960 + 960
                rw [(index4 t).1]; omega
    | ⟨1, _⟩ => show win0_4.index t 1 * 512 ≤ (i 1 : Nat) ∧ (i 1 : Nat) < win0_4.index t 1 * 512 + 512
                rw [(index4 t).2, hm]; omega

theorem final5 : ((rdV m c).withAfter after).arrAt 5 cfg0.N = (specS (gX m c) : S3x10x7168.Idx → EReal) := by
  refine Dat.arrAt_eq_of_cover ((rdV m c).withAfter after) 5 (specS (gX m c) : S3x10x7168.Idx → EReal) (fun t hf => ?_) (fun i => ?_)
  · have h1 := (flush5 t).mp hf
    have hN : t.val < 15 := lt_of_lt_of_eq t.isLt (show cfg0.N = 15 from N_0)
    funext j
    rw [View.read_apply]
    show after 5 t _ = specS (gX m c) _
    rw [leaves5 m c after hL t h1]
    show Sv (colA (xTile m c t.val) (j 2).val) (10 * (j 0).val + (j 1).val)
      = Sv (colA (gX m c) (win0_5.index t 2 * 512 + 1 * (j 2).val)) (10 * (win0_5.index t 0 * 3 + 1 * (j 0).val) + (win0_5.index t 1 * 10 + 1 * (j 1).val))
    rw [colA_tile m c t.val _ (j 2).isLt, (index5 t).1, (index5 t).2.1, (index5 t).2.2]
    rw [show min t.val 13 * 512 + 1 * (j 2).val = 512 * min t.val 13 + (j 2).val from by omega,
      show 10 * (0 * 3 + 1 * (j 0).val) + (0 * 10 + 1 * (j 1).val) = 10 * (j 0).val + (j 1).val from by omega]
  · have i0 : (i 0 : Nat) < 3 := (i 0).isLt
    have i1 : (i 1 : Nat) < 10 := (i 1).isLt
    have i2 : (i 2 : Nat) < 7168 := (i 2).isLt
    have hq : (i 2).val / 512 < 14 := by omega
    have hv : (colPt ((i 2).val / 512) hq).val = if (i 2).val / 512 = 13 then 14 else (i 2).val / 512 := rfl
    refine ⟨colPt ((i 2).val / 512) hq, (flush5 _).mpr (by rw [hv]; split <;> omega), ?_⟩
    generalize colPt ((i 2).val / 512) hq = t at hv ⊢
    have hm : min t.val 13 = (i 2).val / 512 := by rw [hv]; split <;> omega
    show i ∈ ((View.whole main_v3_2).slice (win0_5.rect t)).set
    rw [View.set_slice_whole, Rect.mem_set_unit]
    intro a
    match a with
    | ⟨0, _⟩ => show win0_5.index t 0 * 3 ≤ (i 0 : Nat) ∧ (i 0 : Nat) < win0_5.index t 0 * 3 + 3
                rw [(index5 t).1]; omega
    | ⟨1, _⟩ => show win0_5.index t 1 * 10 ≤ (i 1 : Nat) ∧ (i 1 : Nat) < win0_5.index t 1 * 10 + 10
                rw [(index5 t).2.1]; omega
    | ⟨2, _⟩ => show win0_5.index t 2 * 512 ≤ (i 2 : Nat) ∧ (i 2 : Nat) < win0_5.index t 2 * 512 + 512
                rw [(index5 t).2.2, hm]; omega

theorem final6 : ((rdV m c).withAfter after).arrAt 6 cfg0.N = (specC (gY m c) (yHash m c) : S960x2048.Idx → BitVec 8) := by
  refine Dat.arrAt_eq_of_cover ((rdV m c).withAfter after) 6 (specC (gY m c) (yHash m c) : S960x2048.Idx → BitVec 8) (fun t hf => ?_) (fun i => ?_)
  · have h1 := (flush6 t).mp hf
    funext j
    rw [View.read_apply]
    show after 6 t _ = specC (gY m c) (yHash m c) _
    rw [leaves6 m c after hL t h1]
    show Cv (colA (gY m c) (j 1).val) (yHash m c (j 1).val) (j 0).val
      = Cv (colA (gY m c) (win0_6.index t 1 * 2048 + 1 * (j 1).val)) (yHash m c (win0_6.index t 1 * 2048 + 1 * (j 1).val)) (win0_6.index t 0 * 960 + 1 * (j 0).val)
    rw [(index6 t).1, (index6 t).2, show 0 * 2048 + 1 * (j 1).val = (j 1).val from by omega, show 0 * 960 + 1 * (j 0).val = (j 0).val from by omega]
  · have i0 : (i 0 : Nat) < 960 := (i 0).isLt
    have i1 : (i 1 : Nat) < 2048 := (i 1).isLt
    refine ⟨t0_14, (flush6 _).mpr rfl, ?_⟩
    show i ∈ ((View.whole main_v3_3).slice (win0_6.rect t0_14)).set
    rw [View.set_slice_whole, Rect.mem_set_unit]
    intro a
    match a with
    | ⟨0, _⟩ => show win0_6.index t0_14 0 * 960 ≤ (i 0 : Nat) ∧ (i 0 : Nat) < win0_6.index t0_14 0 * 960 + 960
                rw [(index6 t0_14).1]; omega
    | ⟨1, _⟩ => show win0_6.index t0_14 1 * 2048 ≤ (i 1 : Nat) ∧ (i 1 : Nat) < win0_6.index t0_14 1 * 2048 + 2048
                rw [(index6 t0_14).2]; omega

theorem final7 : ((rdV m c).withAfter after).arrAt 7 cfg0.N = (specS (gY m c) : S3x10x2048.Idx → EReal) := by
  refine Dat.arrAt_eq_of_cover ((rdV m c).withAfter after) 7 (specS (gY m c) : S3x10x2048.Idx → EReal) (fun t hf => ?_) (fun i => ?_)
  · have h1 := (flush7 t).mp hf
    funext j
    rw [View.read_apply]
    show after 7 t _ = specS (gY m c) _
    rw [leaves7 m c after hL t h1]
    show Sv (colA (gY m c) (j 2).val) (10 * (j 0).val + (j 1).val)
      = Sv (colA (gY m c) (win0_7.index t 2 * 2048 + 1 * (j 2).val)) (10 * (win0_7.index t 0 * 3 + 1 * (j 0).val) + (win0_7.index t 1 * 10 + 1 * (j 1).val))
    rw [(index7 t).1, (index7 t).2.1, (index7 t).2.2, show 0 * 2048 + 1 * (j 2).val = (j 2).val from by omega,
      show 10 * (0 * 3 + 1 * (j 0).val) + (0 * 10 + 1 * (j 1).val) = 10 * (j 0).val + (j 1).val from by omega]
  · have i0 : (i 0 : Nat) < 3 := (i 0).isLt
    have i1 : (i 1 : Nat) < 10 := (i 1).isLt
    have i2 : (i 2 : Nat) < 2048 := (i 2).isLt
    refine ⟨t0_14, (flush7 _).mpr rfl, ?_⟩
    show i ∈ ((View.whole main_v3_4).slice (win0_7.rect t0_14)).set
    rw [View.set_slice_whole, Rect.mem_set_unit]
    intro a
    match a with
    | ⟨0, _⟩ => show win0_7.index t0_14 0 * 3 ≤ (i 0 : Nat) ∧ (i 0 : Nat) < win0_7.index t0_14 0 * 3 + 3
                rw [(index7 t0_14).1]; omega
    | ⟨1, _⟩ => show win0_7.index t0_14 1 * 10 ≤ (i 1 : Nat) ∧ (i 1 : Nat) < win0_7.index t0_14 1 * 10 + 10
                rw [(index7 t0_14).2.1]; omega
    | ⟨2, _⟩ => show win0_7.index t0_14 2 * 2048 ≤ (i 2 : Nat) ∧ (i 2 : Nat) < win0_7.index t0_14 2 * 2048 + 2048
                rw [(index7 t0_14).2.2]; omega
end

/-! ## The run, read at the results -/

/-- Every run ends with the five results at their values and the arguments as they were. -/
theorem run : θ_run defs (onTc (τ := τ) (main (F := Ideal))) ⟨m, fun _ => 0, ρ⟩ (fun r => ∀ c : Dev nD,
      r.2.mem ((c.tc : Thread nD τ).loc main_v3_0) = gD m c
      ∧ r.2.mem ((c.tc : Thread nD τ).loc main_v3_1) = (specC (gX m c) (xHash m c) : S960x7168.Idx → BitVec 8)
      ∧ r.2.mem ((c.tc : Thread nD τ).loc main_v3_2) = (specS (gX m c) : S3x10x7168.Idx → EReal)
      ∧ r.2.mem ((c.tc : Thread nD τ).loc main_v3_3) = (specC (gY m c) (yHash m c) : S960x2048.Idx → BitVec 8)
      ∧ r.2.mem ((c.tc : Thread nD τ).loc main_v3_4) = (specS (gY m c) : S3x10x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨after, hL, hA⟩ := h.1.exists_exact c
    exact ⟨(hA 3).trans (final3 m c after hL), (hA 4).trans (final4 m c after hL), (hA 5).trans (final5 m c after hL),
      (hA 6).trans (final6 m c after hL), (hA 7).trans (final7 m c after hL), (h.2 c).1, (h.2 c).2.1, (h.2 c).2.2⟩)
    (θ_run_and (run_mainV m ρ) (unchanged m ρ))

/-- The arrays the region reads are the arguments, `x` and `dy` with their two token axes read as one. -/
theorem gX_eq (c : Dev nD) : gX m c = shapeCast S1920x7168 (m ((c.tc : Thread nD τ).loc main_arg0)) shapeCasts_S3x640x7168_S1920x7168 := rfl
theorem gY_eq (c : Dev nD) : gY m c = shapeCast S1920x2048 (m ((c.tc : Thread nD τ).loc main_arg1)) shapeCasts_S3x640x2048_S1920x2048 := rfl
theorem gS_eq (c : Dev nD) : gS m c = m ((c.tc : Thread nD τ).loc main_arg2) := rfl

end Cert.Proof.KernelIdealRun

end
-- ==== Proof.ScaleMath.lean ====
/-
  The scale words as powers of two, and the reference's scale by logarithm and power.
-/
module

public import proofs.«01_k».proof.Proof.Spec
public import Idealize.ShloMosaic.Lib.IdealHost

@[expose] public section

set_option maxRecDepth 16384

noncomputable section

namespace Cert.Proof.KernelIdeal

open Idealize.ShloMosaic

/-! ## Words of powers of two -/

/-- The word with exponent bits `E` and nothing else. -/
def pw (E : Nat) : BitVec 32 := BitVec.ofNat 32 (E * 2 ^ 23)

theorem pw_parts : ∀ E : Fin 255, (pw E.val).extractLsb' 31 1 = 0#1 ∧ ((pw E.val).extractLsb' 23 8).toNat = E.val
    ∧ ((pw E.val).extractLsb' 0 23).toNat = 0 := by decide +kernel

theorem tw_parts : ∀ E : Fin 255, ∀ p : Fin 2, ((tw (pw E.val)).extractLsb' (16 * p.val) 16).extractLsb' 15 1 = 0#1
    ∧ (((tw (pw E.val)).extractLsb' (16 * p.val) 16).extractLsb' 7 8).toNat = E.val
    ∧ (((tw (pw E.val)).extractLsb' (16 * p.val) 16).extractLsb' 0 7).toNat = 0 := by decide +kernel

theorem ofBits_pw (E : Nat) (h1 : 1 ≤ E) (h2 : E ≤ 254) : Ideal.ofBits .f32 (pw E) = (((2 : ℝ) ^ ((E : ℤ) - 127) : ℝ) : EReal) := by
  obtain ⟨a, b, d⟩ := pw_parts ⟨E, by omega⟩
  show Ideal.ieee 8 23 (pw E) = _
  unfold Ideal.ieee
  simp only at a b d
  simp only [show 8 + 23 = 31 from rfl, a, b, d]
  rw [if_neg (by omega), if_neg (by omega)]
  congr 1
  have : ((0#1 : BitVec 1) == 1#1) = false := by decide
  rw [this]
  simp only [Bool.false_eq_true, if_false, one_mul, add_zero]
  push_cast
  rw [show ((8388608 : ℝ)) = (2 : ℝ) ^ (23 : ℤ) by norm_num, ← zpow_add₀ (by norm_num)]
  congr 1
  ring

theorem dec_pw (E : Nat) (h1 : 1 ≤ E) (h2 : E ≤ 254) (p : Nat) (hp : p < 2) :
    dec (tw (pw E)) p = (((2 : ℝ) ^ ((E : ℤ) - 127) : ℝ) : EReal) := by
  obtain ⟨a, b, d⟩ := tw_parts ⟨E, by omega⟩ ⟨p, hp⟩
  unfold dec
  show Ideal.ieee 8 7 _ = _
  unfold Ideal.ieee
  simp only at a b d
  simp only [show 8 + 7 = 15 from rfl, a, b, d]
  rw [if_neg (by omega), if_neg (by omega)]
  congr 1
  have : ((0#1 : BitVec 1) == 1#1) = false := by decide
  rw [this]
  simp only [Bool.false_eq_true, if_false, one_mul, add_zero]
  push_cast
  rw [show ((128 : ℝ)) = (2 : ℝ) ^ (7 : ℤ) by norm_num, ← zpow_add₀ (by norm_num)]
  congr 1
  ring

theorem sWd_pw : ∀ E : Fin 255, 3 ≤ E.val → sWd (pw E.val) = pw (E.val - 2) := by decide +kernel
theorem mWd_pw : ∀ E : Fin 255, 3 ≤ E.val → mWd (pw E.val) = pw (256 - E.val) := by decide +kernel
theorem sWd_zero : sWd 0#32 = pw 127 := by decide +kernel
theorem mWd_zero : mWd 0#32 = pw 127 := by decide +kernel

/-! ## The ladder -/

theorem sel1 {α : Type} (b : Bool) (x y : α) : (if BitVec.ofBool b = 1#1 then x else y) = if b then x else y := by
  cases b <;> rfl

theorem rungRs_eq (p q : BitVec 32) (r : EReal) : rungRs p q r = if Ideal.ofBits .f32 p ≤ r then r * Ideal.ofBits .f32 q else r := by
  show (if BitVec.ofBool (decide (Ideal.ofBits .f32 p ≤ r)) = 1#1 then r * Ideal.ofBits .f32 q else r) = _
  rw [sel1]; simp only [decide_eq_true_eq]
theorem rungEs_eq (p k : BitVec 32) (r : EReal) (e : BitVec 32) : rungEs p k r e = if Ideal.ofBits .f32 p ≤ r then e + k else e := by
  show (if BitVec.ofBool (decide (Ideal.ofBits .f32 p ≤ r)) = 1#1 then e + k else e) = _
  rw [sel1]; simp only [decide_eq_true_eq]
theorem lad0Rs_eq (a : EReal) : lad0Rs a = if a < Ideal.ofBits .f32 0x3F800000#32 then a * Ideal.ofBits .f32 0x7F000000#32 else a := by
  show (if BitVec.ofBool (decide (a < Ideal.ofBits .f32 0x3F800000#32)) = 1#1 then a * Ideal.ofBits .f32 0x7F000000#32 else a) = _
  rw [sel1]; simp only [decide_eq_true_eq]
theorem lad0Es_eq (a : EReal) : lad0Es a = if a < Ideal.ofBits .f32 0x3F800000#32 then 0#32 else 1065353216#32 := by
  show (if BitVec.ofBool (decide (a < Ideal.ofBits .f32 0x3F800000#32)) = 1#1 then 0#32 else 1065353216#32) = _
  rw [sel1]; simp only [decide_eq_true_eq]

theorem pw_add (a b : Nat) : pw a + pw b = pw (a + b) := by
  unfold pw
  rw [← BitVec.ofNat_add, add_mul]

/-- The ladder's state: the word counts `B`, the remainder lies in the binade `j`, and `B + j` is the exponent. -/
def St (E s : Nat) (r : EReal) (e : BitVec 32) : Prop :=
  ∃ (B j : Nat) (x : ℝ), r = (x : EReal) ∧ e = pw B ∧ (2 : ℝ) ^ j ≤ x ∧ x < (2 : ℝ) ^ (j + 1) ∧ B + j = E ∧ j < s

theorem rung_step (E s : Nat) (h1 : 1 ≤ s) (h2 : s ≤ 64) (r : EReal) (e : BitVec 32) (h : St E (2 * s) r e) :
    St E s (rungRs (pw (127 + s)) (pw (127 - s)) r) (rungEs (pw (127 + s)) (pw s) r e) := by
  obtain ⟨B, j, x, rfl, rfl, hl, hu, hE, hj⟩ := h
  rw [rungRs_eq, rungEs_eq, ofBits_pw _ (by omega) (by omega), ofBits_pw _ (by omega) (by omega)]
  have e1 : (((127 + s : ℕ) : ℤ) - 127) = (s : ℤ) := by push_cast; ring
  have e2 : (((127 - s : ℕ) : ℤ) - 127) = -(s : ℤ) := by omega
  rw [e1, e2, zpow_natCast, zpow_neg, zpow_natCast]
  by_cases hs : s ≤ j
  · have hx : (2 : ℝ) ^ s ≤ x := le_trans (pow_le_pow_right₀ (by norm_num) hs) hl
    rw [if_pos (by exact_mod_cast hx), if_pos (by exact_mod_cast hx)]
    refine ⟨B + s, j - s, x * ((2 : ℝ) ^ s)⁻¹, ?_, (pw_add _ _), ?_, ?_, by omega, by omega⟩
    · rw [EReal.coe_mul]
    · rw [le_mul_inv_iff₀ (by positivity), ← pow_add, Nat.sub_add_cancel hs]; exact hl
    · rw [mul_inv_lt_iff₀ (by positivity), ← pow_add, show j - s + 1 + s = j + 1 by omega]; exact hu
  · have hx : ¬ (2 : ℝ) ^ s ≤ x := not_le.mpr (lt_of_lt_of_le hu (pow_le_pow_right₀ (by norm_num) (by omega)))
    rw [if_neg (by exact_mod_cast hx), if_neg (by exact_mod_cast hx)]
    exact ⟨B, j, x, rfl, rfl, hl, hu, hE, by omega⟩

/-- Number `x` lies in the binade with exponent bits `E`. -/
def Bin (E : Nat) (x : ℝ) : Prop := (2 : ℝ) ^ ((E : ℤ) - 127) ≤ x ∧ x < (2 : ℝ) ^ ((E : ℤ) - 126)

theorem lad_start (E : Nat) (h1 : 1 ≤ E) (h2 : E ≤ 254) (x : ℝ) (h : Bin E x) : St E 128 (lad0Rs x) (lad0Es x) := by
  obtain ⟨hl, hu⟩ := h
  rw [lad0Rs_eq, lad0Es_eq, show (0x3F800000#32 : BitVec 32) = pw 127 by decide, show (0x7F000000#32 : BitVec 32) = pw 254 by decide,
    ofBits_pw 127 (by omega) (by omega), ofBits_pw 254 (by omega) (by omega)]
  norm_num
  by_cases hE : E < 127
  · have hx : x < 1 := lt_of_lt_of_le hu (by rw [← zpow_zero (2 : ℝ)]; exact zpow_le_zpow_right₀ (by norm_num) (by omega))
    rw [if_pos (by exact_mod_cast hx), if_pos (by exact_mod_cast hx)]
    refine ⟨0, E, x * (2 : ℝ) ^ 127, ?_, by decide, ?_, ?_, by omega, by omega⟩
    · rw [EReal.coe_mul]; norm_num
    · calc (2 : ℝ) ^ E = (2 : ℝ) ^ ((E : ℤ) - 127) * 2 ^ 127 := by
            rw [← zpow_natCast, ← zpow_natCast, ← zpow_add₀ (by norm_num)]; congr 1; push_cast; ring
        _ ≤ _ := mul_le_mul_of_nonneg_right hl (by positivity)
    · calc x * (2 : ℝ) ^ 127 < (2 : ℝ) ^ ((E : ℤ) - 126) * 2 ^ 127 := mul_lt_mul_of_pos_right hu (by positivity)
        _ = _ := by rw [← zpow_natCast, ← zpow_natCast, ← zpow_add₀ (by norm_num)]; congr 1; push_cast; ring
  · have hx : ¬ x < 1 := not_lt.mpr (le_trans (by rw [← zpow_zero (2 : ℝ)]; exact zpow_le_zpow_right₀ (by norm_num) (by omega)) hl)
    rw [if_neg (by exact_mod_cast hx), if_neg (by exact_mod_cast hx)]
    refine ⟨127, E - 127, x, rfl, by decide, ?_, ?_, by omega, by omega⟩
    · rw [← zpow_natCast]; convert hl using 2; omega
    · rw [← zpow_natCast]; convert hu using 2; omega

/-- The ladder gives the exponent bits. -/
theorem lad_eq (E : Nat) (h1 : 1 ≤ E) (h2 : E ≤ 254) (x : ℝ) (h : Bin E x) : lad x = pw E := by
  have h7 := lad_start E h1 h2 x h
  have h6 := rung_step E 64 (by omega) (by omega) _ _ h7
  have h5 := rung_step E 32 (by omega) (by omega) _ _ h6
  have h4 := rung_step E 16 (by omega) (by omega) _ _ h5
  have h3 := rung_step E 8 (by omega) (by omega) _ _ h4
  have h2 := rung_step E 4 (by omega) (by omega) _ _ h3
  have h1 := rung_step E 2 (by omega) (by omega) _ _ h2
  obtain ⟨B, j, x', -, he, -, -, hE, hj⟩ := rung_step E 1 (by omega) (by omega) _ _ h1
  have hB : B = E := by omega
  rw [← hB]
  exact he

theorem rung_zero (s : Nat) (h1 : 1 ≤ s) (h2 : s ≤ 64) (q k e : BitVec 32) :
    rungRs (pw (127 + s)) q 0 = 0 ∧ rungEs (pw (127 + s)) k 0 e = e := by
  have : ¬ Ideal.ofBits .f32 (pw (127 + s)) ≤ 0 := by
    rw [ofBits_pw _ (by omega) (by omega), not_le]
    have : (0 : ℝ) < (2 : ℝ) ^ (((127 + s : ℕ) : ℤ) - 127) := by positivity
    exact_mod_cast this
  rw [rungRs_eq, rungEs_eq, if_neg this, if_neg this]
  exact ⟨rfl, rfl⟩

theorem lad_zero : lad 0 = 0#32 := by
  have hR : lad0Rs 0 = 0 := by rw [lad0Rs_eq]; simp
  have hE : lad0Es 0 = 0#32 := by
    rw [lad0Es_eq, if_pos]
    rw [show (0x3F800000#32 : BitVec 32) = pw 127 by decide, ofBits_pw 127 (by omega) (by omega)]
    norm_num
  unfold lad
  simp only [hR, hE]
  have zR (s : Nat) (h1 : 1 ≤ s) (h2 : s ≤ 64) (p : BitVec 32) (hp : p = pw (127 + s)) (q : BitVec 32) : rungRs p q 0 = 0 := by
    subst hp; exact (rung_zero s h1 h2 q 0 0).1
  have zE (s : Nat) (h1 : 1 ≤ s) (h2 : s ≤ 64) (p : BitVec 32) (hp : p = pw (127 + s)) (k e : BitVec 32) : rungEs p k 0 e = e := by
    subst hp; exact (rung_zero s h1 h2 0 k e).2
  simp only [zR 64 (by omega) (by omega) 0x5F800000#32 (by decide), zE 64 (by omega) (by omega) 0x5F800000#32 (by decide),
    zR 32 (by omega) (by omega) 0x4F800000#32 (by decide), zE 32 (by omega) (by omega) 0x4F800000#32 (by decide),
    zR 16 (by omega) (by omega) 0x47800000#32 (by decide), zE 16 (by omega) (by omega) 0x47800000#32 (by decide),
    zR 8 (by omega) (by omega) 0x43800000#32 (by decide), zE 8 (by omega) (by omega) 0x43800000#32 (by decide),
    zR 4 (by omega) (by omega) 0x41800000#32 (by decide), zE 4 (by omega) (by omega) 0x41800000#32 (by decide),
    zR 2 (by omega) (by omega) 0x40800000#32 (by decide), zE 2 (by omega) (by omega) 0x40800000#32 (by decide),
    zE 1 (by omega) (by omega) 0x40000000#32 (by decide)]

/-! ## The reference's scale -/

/-- One more than the exponent of a magnitude, by logarithms. -/
def rE (a : EReal) : EReal :=
  Ideal.liftRound Int.floor (Ideal.div (Ideal.log a) (Ideal.log (Ideal.ofBits .f32 0x40000000#32))) + Ideal.ofBits .f32 0x3F800000#32
/-- The reference's scale of a block with largest magnitude `a`. -/
def rS (a : EReal) : EReal :=
  if a = 0 then 1 else Ideal.pow (Ideal.ofBits .f32 0x40000000#32) (rE a - Ideal.ofBits .f32 0x40400000#32)
/-- The reference's multiplier of such a block. -/
def rM (a : EReal) : EReal :=
  if a = 0 then 1 else Ideal.pow (Ideal.ofBits .f32 0x40000000#32) (Ideal.ofBits .f32 0x40400000#32 - rE a)

/-- The magnitudes the precondition admits. -/
def InR (a : EReal) : Prop := a = 0 ∨ (Ideal.ofBits .f32 0x01800000#32 ≤ a ∧ a ≤ Ideal.ofBits .f32 0x7F7FFFFF#32)

theorem ofBits_three : Ideal.ofBits .f32 0x40400000#32 = ((3 : ℝ) : EReal) := by
  show Ideal.ieee 8 23 (0x40400000#32) = _
  unfold Ideal.ieee
  norm_num [BitVec.extractLsb', Nat.shiftRight_eq_div_pow]
theorem ofBits_two : Ideal.ofBits .f32 0x40000000#32 = ((2 : ℝ) : EReal) := by
  rw [show (0x40000000#32 : BitVec 32) = pw 128 by decide, ofBits_pw 128 (by omega) (by omega)]; norm_num
theorem ofBits_max_lt : Ideal.ofBits .f32 0x7F7FFFFF#32 < (((2 : ℝ) ^ (128 : ℤ) : ℝ) : EReal) := by
  show Ideal.ieee 8 23 (0x7F7FFFFF#32) < _
  unfold Ideal.ieee
  norm_num [BitVec.extractLsb', Nat.shiftRight_eq_div_pow]

theorem Bin_of_InR {a : EReal} (h : InR a) : a = 0 ∨ ∃ (E : Nat) (x : ℝ), a = (x : EReal) ∧ 3 ≤ E ∧ E ≤ 254 ∧ Bin E x := by
  rcases h with h | ⟨hl, hu⟩
  · exact Or.inl h
  refine Or.inr ?_
  rw [show (0x01800000#32 : BitVec 32) = pw 3 by decide, ofBits_pw 3 (by omega) (by omega)] at hl
  have hu' := lt_of_le_of_lt hu ofBits_max_lt
  induction a using EReal.rec with
  | bot => exact absurd hl (by simp)
  | top => exact absurd hu' (by simp)
  | coe x =>
    have hl : (2 : ℝ) ^ (((3 : ℕ) : ℤ) - 127) ≤ x := by exact_mod_cast hl
    have hu : x < (2 : ℝ) ^ (128 : ℤ) := by exact_mod_cast hu'
    have hx : 0 < x := lt_of_lt_of_le (by positivity) hl
    obtain ⟨n, h1, h2⟩ := exists_mem_Ico_zpow hx (show (1 : ℝ) < 2 by norm_num)
    have g1 : ((3 : ℕ) : ℤ) - 127 ≤ n := by
      by_contra hc
      have : x < (2 : ℝ) ^ (((3 : ℕ) : ℤ) - 127) := lt_of_lt_of_le h2 (zpow_le_zpow_right₀ (by norm_num) (by push_cast; omega))
      linarith
    have g2 : n ≤ 127 := by
      by_contra hc
      have : (2 : ℝ) ^ (128 : ℤ) ≤ x := le_trans (zpow_le_zpow_right₀ (by norm_num) (by omega)) h1
      linarith
    have hE : (((n + 127).toNat : ℕ) : ℤ) = n + 127 := by omega
    refine ⟨(n + 127).toNat, x, rfl, by omega, by omega, ?_, ?_⟩
    · rw [hE, show n + 127 - 127 = n by ring]; exact h1
    · rw [hE, show n + 127 - 126 = n + 1 by ring]; exact h2

theorem rE_eq (E : Nat) (x : ℝ) (h : Bin E x) : rE x = ((((E : ℤ) - 126 : ℤ) : ℝ) : EReal) := by
  obtain ⟨hl, hu⟩ := h
  have hx : 0 < x := lt_of_lt_of_le (by positivity) hl
  have h2 : (0 : ℝ) < Real.log 2 := Real.log_pos (by norm_num)
  unfold rE
  rw [ofBits_two, Ideal.log_coe, Ideal.log_coe, if_neg (not_le.mpr hx), if_neg (by norm_num), Ideal.div_coe h2.ne', ← EReal.coe_mul,
    Ideal.liftRound_coe, Ideal.ofBits_one_f32, ← EReal.coe_one, ← EReal.coe_add]
  congr 1
  have : ⌊Real.log x * (1 / Real.log 2)⌋ = (E : ℤ) - 127 := by
    rw [Int.floor_eq_iff, mul_one_div]
    constructor
    · rw [le_div_iff₀ h2, ← Real.log_zpow]
      exact Real.log_le_log (by positivity) hl
    · rw [div_lt_iff₀ h2, show (((E : ℤ) - 127 : ℤ) : ℝ) + 1 = (((E : ℤ) - 126 : ℤ) : ℝ) by push_cast; ring, ← Real.log_zpow]
      exact Real.log_lt_log hx hu
  rw [this]
  push_cast
  ring

theorem rS_eq (E : Nat) (x : ℝ) (h : Bin E x) : rS x = (((2 : ℝ) ^ ((E : ℤ) - 129) : ℝ) : EReal) := by
  have hx : 0 < x := lt_of_lt_of_le (by positivity) h.1
  unfold rS
  rw [if_neg (by exact_mod_cast hx.ne'), rE_eq E x h, ofBits_two, ofBits_three, ← EReal.coe_sub, Ideal.pow_coe_coe]
  congr 1
  rw [← Real.rpow_intCast, Real.rpow_eq_pow]
  congr 1
  push_cast
  ring
theorem rM_eq (E : Nat) (x : ℝ) (h : Bin E x) : rM x = (((2 : ℝ) ^ (129 - (E : ℤ)) : ℝ) : EReal) := by
  have hx : 0 < x := lt_of_lt_of_le (by positivity) h.1
  unfold rM
  rw [if_neg (by exact_mod_cast hx.ne'), rE_eq E x h, ofBits_two, ofBits_three, ← EReal.coe_sub, Ideal.pow_coe_coe]
  congr 1
  rw [← Real.rpow_intCast, Real.rpow_eq_pow]
  congr 1
  push_cast
  ring

/-! ## The kernel's words spell the reference's numbers -/

theorem scale_word {a : EReal} (h : InR a) : Ideal.ofBits .f32 (sWd (lad a)) = rS a := by
  rcases Bin_of_InR h with rfl | ⟨E, x, rfl, h3, h4, hb⟩
  · rw [lad_zero, sWd_zero, ofBits_pw 127 (by omega) (by omega), rS, if_pos rfl]; norm_num
  · rw [lad_eq E (by omega) h4 x hb, sWd_pw ⟨E, by omega⟩ h3, ofBits_pw _ (by simp only; omega) (by simp only; omega), rS_eq E x hb]
    congr 2
    simp only
    omega
theorem scale_half {a : EReal} (h : InR a) (p : Nat) (hp : p < 2) : dec (tw (sWd (lad a))) p = rS a := by
  rcases Bin_of_InR h with rfl | ⟨E, x, rfl, h3, h4, hb⟩
  · rw [lad_zero, sWd_zero, dec_pw 127 (by omega) (by omega) p hp, rS, if_pos rfl]; norm_num
  · rw [lad_eq E (by omega) h4 x hb, sWd_pw ⟨E, by omega⟩ h3, dec_pw _ (by simp only; omega) (by simp only; omega) p hp, rS_eq E x hb]
    congr 2
    simp only
    omega
theorem mult_half {a : EReal} (h : InR a) (p : Nat) (hp : p < 2) : dec (tw (mWd (lad a))) p = rM a := by
  rcases Bin_of_InR h with rfl | ⟨E, x, rfl, h3, h4, hb⟩
  · rw [lad_zero, mWd_zero, dec_pw 127 (by omega) (by omega) p hp, rM, if_pos rfl]; norm_num
  · rw [lad_eq E (by omega) h4 x hb, mWd_pw ⟨E, by omega⟩ h3, dec_pw _ (by simp only; omega) (by simp only; omega) p hp, rM_eq E x hb]
    congr 2
    simp only
    omega

end Cert.Proof.KernelIdeal
end
-- ==== Proof.HashMath.lean ====
/-
  The kernel's hash of a row and a column is the reference's.
-/
module

public import proofs.«01_k».proof.Proof.Spec

@[expose] public section

set_option maxRecDepth 16384

noncomputable section

namespace Cert.Proof.KernelIdeal

open Idealize.ShloMosaic

/-- The reference's hash of a mixed position. -/
def rhash (h : BitVec 32) : BitVec 32 :=
  let h1 := (h ^^^ (h >>> 16)) * 2146121005#32
  let h2 := (h1 ^^^ (h1 >>> 15)) * 2221713035#32
  (h2 ^^^ (h2 >>> 16)) >>> 8

/-- The kernel's hash with plain shifts. -/
theorem hsh_eq (R lane g : BitVec 32) : hsh R lane g =
    (let h0 := ((R <<< 10 ^^^ R >>> 6) ^^^ lane) ^^^ g
     let h1 := h0 * 2146121005#32
     let h2 := (h1 ^^^ (h1 >>> 15)) * 2221713035#32
     (h2 >>> 8) ^^^ (h2 >>> 24)) := rfl

theorem last_mix (h : BitVec 32) : (h >>> 8) ^^^ (h >>> 24) = (h ^^^ (h >>> 16)) >>> 8 := by
  rw [BitVec.ushiftRight_xor_distrib, ← BitVec.shiftRight_add]

/-- A position splits into its high bits, its group of 128 columns and its lane. -/
theorem split_word (R g l : Nat) (hl : l < 128) (hg : g < 8) :
    BitVec.ofNat 32 (R * 1024 + 128 * g + l) = (BitVec.ofNat 32 R <<< 10 ^^^ BitVec.ofNat 32 (128 * g)) ^^^ BitVec.ofNat 32 l := by
  apply BitVec.eq_of_getLsbD_eq
  intro i hi
  have A : (R * 1024 + 128 * g + l).testBit i = if i < 7 then l.testBit i else (if i - 7 < 3 then g.testBit (i - 7) else R.testBit (i - 7 - 3)) := by
    rw [show R * 1024 + 128 * g + l = 2 ^ 7 * (2 ^ 3 * R + g) + l by ring, Nat.testBit_two_pow_mul_add _ (show l < 2 ^ 7 from hl),
      Nat.testBit_two_pow_mul_add _ (show g < 2 ^ 3 from hg)]
  have B : (128 * g).testBit i = (decide (i ≥ 7) && g.testBit (i - 7)) := by
    rw [show 128 * g = 2 ^ 7 * g by ring, Nat.testBit_two_pow_mul]
  have L : 7 ≤ i → l.testBit i = false := fun h => Nat.testBit_lt_two_pow (lt_of_lt_of_le (show l < 2 ^ 7 from hl) (Nat.pow_le_pow_right (by norm_num) h))
  have G : 3 ≤ i - 7 → g.testBit (i - 7) = false := fun h => Nat.testBit_lt_two_pow (lt_of_lt_of_le (show g < 2 ^ 3 from hg) (Nat.pow_le_pow_right (by norm_num) h))
  rw [BitVec.getLsbD_xor, BitVec.getLsbD_xor, BitVec.getLsbD_ofNat, BitVec.getLsbD_ofNat, BitVec.getLsbD_ofNat, BitVec.getLsbD_shiftLeft, BitVec.getLsbD_ofNat, A, B]
  by_cases h7 : i < 7
  · rw [if_pos h7]
    simp [hi, show i < 10 by omega, show ¬ 7 ≤ i by omega]
  · rw [if_neg h7, L (by omega)]
    by_cases h10 : i - 7 < 3
    · rw [if_pos h10]
      simp [hi, show i < 10 by omega, show 7 ≤ i by omega]
    · rw [if_neg h10, G (by omega), show i - 7 - 3 = i - 10 by omega]
      simp [hi, show ¬ i < 10 by omega, show i - 10 < 32 by omega]

/-- The high half of a position is the high bits of its row word. -/
theorem split_high (R g l : Nat) (hl : l < 128) (hg : g < 8) (hR : R < 2 ^ 22) :
    BitVec.ofNat 32 (R * 1024 + 128 * g + l) >>> 16 = BitVec.ofNat 32 R >>> 6 := by
  apply BitVec.eq_of_toNat_eq
  simp only [BitVec.toNat_ushiftRight, BitVec.toNat_ofNat, Nat.shiftRight_eq_div_pow]
  rw [Nat.mod_eq_of_lt (by omega), Nat.mod_eq_of_lt (by omega)]
  omega

/-- The hash of row `t`, column `c`: the kernel's words and the reference's position. -/
theorem hash_eq (rm c t : Nat) (hc : c < 1024 * rm) (ht : t < 1920) (hrm : rm ≤ 7) (seed : BitVec 32) :
    hv rm (IntOp.xori seed (IntOp.shrui .vector seed 16#32)) c t = rhash (BitVec.ofNat 32 (t * (1024 * rm) + c) ^^^ seed) := by
  have ec : t * (1024 * rm) + c = (rm * t + c / 1024) * 1024 + 128 * ((c / 128) % 8) + c % 128 := by
    have h1 : c = 1024 * (c / 1024) + 128 * ((c / 128) % 8) + c % 128 := by omega
    have h2 : t * (1024 * rm) = (rm * t) * 1024 := by ring
    rw [h2, add_mul]
    omega
  have hR : rm * t + c / 1024 < 2 ^ 22 := by
    have : rm * t ≤ 7 * 1920 := Nat.mul_le_mul hrm (by omega)
    omega
  have hh := split_high (rm * t + c / 1024) ((c / 128) % 8) (c % 128) (Nat.mod_lt _ (by norm_num)) (Nat.mod_lt _ (by norm_num)) hR
  have hw := split_word (rm * t + c / 1024) ((c / 128) % 8) (c % 128) (Nat.mod_lt _ (by norm_num)) (Nat.mod_lt _ (by norm_num))
  unfold hv
  rw [hsh_eq]
  unfold rhash
  rw [ec]
  simp only [last_mix, BitVec.ushiftRight_xor_distrib, hh]
  rw [hw]
  have : IntOp.xori (BitVec.ofNat 32 (c % 128)) (IntOp.xori seed (IntOp.shrui .vector seed 16#32)) = BitVec.ofNat 32 (c % 128) ^^^ (seed ^^^ seed >>> 16) := rfl
  rw [this]
  generalize BitVec.ofNat 32 (rm * t + c / 1024) = R
  generalize BitVec.ofNat 32 (128 * ((c / 128) % 8)) = g
  generalize BitVec.ofNat 32 (c % 128) = l
  have : ((R <<< 10 ^^^ R >>> 6) ^^^ (l ^^^ (seed ^^^ seed >>> 16))) ^^^ g = (((R <<< 10 ^^^ g) ^^^ l) ^^^ seed) ^^^ (R >>> 6 ^^^ seed >>> 16) := by
    ac_rfl
  rw [this]

theorem rhash_lt (h : BitVec 32) : (rhash h).toNat < 2 ^ 24 := by
  unfold rhash
  simp only [BitVec.toNat_ushiftRight, Nat.shiftRight_eq_div_pow]
  have := ((((h ^^^ (h >>> 16)) * 2146121005#32 ^^^ ((h ^^^ (h >>> 16)) * 2146121005#32) >>> 15) * 2221713035#32) ^^^ (((h ^^^ (h >>> 16)) * 2146121005#32 ^^^ ((h ^^^ (h >>> 16)) * 2146121005#32) >>> 15) * 2221713035#32) >>> 16).isLt
  omega

/-- Such a hash reads the same signed and unsigned. -/
theorem rhash_toInt (h : BitVec 32) : (((rhash h).toInt : ℝ) : EReal) = (((rhash h).toNat : ℝ) : EReal) := by
  rw [BitVec.toInt_eq_toNat_of_lt (by have := rhash_lt h; omega)]
  norm_num

end Cert.Proof.KernelIdeal
end
-- ==== Proof.CodeMath.lean ====
/-
  The quantised values, their code bytes and the unpacking of a byte.
-/
module

public import proofs.«01_k».proof.Proof.ScaleMath
public import proofs.«01_k».proof.Proof.HashMath

@[expose] public section

set_option maxRecDepth 16384

noncomputable section

namespace Cert.Proof.KernelIdeal

open Idealize.ShloMosaic

/-- The reference's quantised value of `x` under multiplier `M` and hash `h`. -/
def rQ (x M : EReal) (h : BitVec 32) : EReal :=
  min (((7#32 : BitVec 32).toInt : ℝ) : EReal) (max (((4294967289#32 : BitVec 32).toInt : ℝ) : EReal)
    (Ideal.liftRound Int.floor (x * M + ((h.toNat : ℝ) : EReal) * Ideal.ofBits .f32 0x33800000#32)))

theorem ofBits_seven : Ideal.ofBits .bf16 0x40E0#16 = ((7 : ℝ) : EReal) := by
  show Ideal.ieee 8 7 (0x40E0#16) = _
  unfold Ideal.ieee
  norm_num [BitVec.extractLsb', Nat.shiftRight_eq_div_pow]
theorem ofBits_neg_seven : Ideal.ofBits .bf16 0xC0E0#16 = ((-7 : ℝ) : EReal) := by
  show Ideal.ieee 8 7 (0xC0E0#16) = _
  unfold Ideal.ieee
  norm_num [BitVec.extractLsb', Nat.shiftRight_eq_div_pow]
theorem toInt_seven : (((7#32 : BitVec 32).toInt : ℝ) : EReal) = ((7 : ℝ) : EReal) := by
  rw [show (7#32 : BitVec 32).toInt = 7 by decide]; norm_num
theorem toInt_neg_seven : (((4294967289#32 : BitVec 32).toInt : ℝ) : EReal) = ((-7 : ℝ) : EReal) := by
  rw [show (4294967289#32 : BitVec 32).toInt = -7 by decide]; norm_num

/-- The kernel's quantised value is the reference's. -/
theorem rq_eq (x M : EReal) (h : BitVec 32) : rq (x * M) (rhash h) = rQ x M (rhash h) := by
  unfold rq rQ
  rw [ofBits_seven, ofBits_neg_seven, toInt_seven, toInt_neg_seven, ← rhash_toInt]
  rfl

/-- A quantised value is one of the integers from −7 to 7. -/
theorem rQ_int (x M : EReal) (h : BitVec 32) : ∃ k : Fin 15, rQ x M h = ((((k.val : ℤ) - 7 : ℤ) : ℝ) : EReal) := by
  unfold rQ
  rw [toInt_seven, toInt_neg_seven]
  generalize (x * M + ((h.toNat : ℝ) : EReal) * Ideal.ofBits .f32 0x33800000#32) = y
  induction y using EReal.rec with
  | bot => exact ⟨0, by rw [Ideal.liftRound_bot, max_eq_left bot_le, min_eq_right (by exact_mod_cast (by norm_num : (-7 : ℝ) ≤ 7))]; norm_num⟩
  | top => exact ⟨14, by rw [Ideal.liftRound_top, max_eq_right le_top, min_eq_left le_top]; norm_num⟩
  | coe y =>
    rw [Ideal.liftRound_coe]
    refine ⟨⟨(min 7 (max (-7) ⌊y⌋) + 7).toNat, by omega⟩, ?_⟩
    have : (((min 7 (max (-7) ⌊y⌋) + 7).toNat : ℕ) : ℤ) - 7 = min 7 (max (-7) ⌊y⌋) := by omega
    simp only [this]
    have hmin (a b : ℝ) : ((min a b : ℝ) : EReal) = min (a : EReal) (b : EReal) := EReal.coe_strictMono.monotone.map_min
    have hmax (a b : ℝ) : ((max a b : ℝ) : EReal) = max (a : EReal) (b : EReal) := EReal.coe_strictMono.monotone.map_max
    rw [← hmax, ← hmin]
    push_cast
    rfl

/-- The word of such an integer. -/
theorem fptosi_int (k : Fin 15) : FloatOps.fptosi (F := Ideal) (φ := .f32) 32 ((((k.val : ℤ) - 7 : ℤ) : ℝ) : EReal) = BitVec.ofInt 32 ((k.val : ℤ) - 7) := by
  show Ideal.fptosi 32 _ = _
  unfold Ideal.fptosi
  rw [Ideal.toIntClamped_coe, Int.floor_intCast, Int.ceil_intCast, ite_self]
  congr 1
  have := k.isLt
  omega

/-- The byte of two such integers, by words. -/
def wbyte (ke ko : Fin 15) : BitVec 8 :=
  BitVec.setWidth 8 ((BitVec.ofInt 32 ((ke.val : ℤ) - 7) &&& 15#32) ||| ((BitVec.ofInt 32 ((ko.val : ℤ) - 7) &&& 15#32) <<< 4))

theorem byte_int (ke ko : Fin 15) : byte ((((ke.val : ℤ) - 7 : ℤ) : ℝ) : EReal) ((((ko.val : ℤ) - 7 : ℤ) : ℝ) : EReal) = wbyte ke ko := by
  unfold byte nib wbyte
  rw [fptosi_int, fptosi_int]
  rfl

/-- The reference's unpacked low half of a byte, as a number. -/
def unLo (w : BitVec 8) : EReal := ((((((w.setWidth 32 &&& 15#32) ^^^ 8#32) - 8#32).toInt : ℤ) : ℝ) : EReal)
/-- The reference's unpacked high half of a byte, as a number. -/
def unHi (w : BitVec 8) : EReal := ((((((w.setWidth 32).sshiftRight 4 ^^^ 8#32) - 8#32).toInt : ℤ) : ℝ) : EReal)

theorem unpack_word : ∀ ke ko : Fin 15, (((((wbyte ke ko).setWidth 32 &&& 15#32) ^^^ 8#32) - 8#32 : BitVec 32).toInt = (ke.val : ℤ) - 7)
    ∧ (((((wbyte ke ko).setWidth 32).sshiftRight 4 ^^^ 8#32) - 8#32 : BitVec 32).toInt = (ko.val : ℤ) - 7) := by decide +kernel

theorem unLo_byte (x y M N : EReal) (g h : BitVec 32) : unLo (byte (rQ x M g) (rQ y N h)) = rQ x M g := by
  obtain ⟨k, hk⟩ := rQ_int x M g
  obtain ⟨l, hl⟩ := rQ_int y N h
  rw [hk, hl, byte_int, unLo, (unpack_word k l).1]
theorem unHi_byte (x y M N : EReal) (g h : BitVec 32) : unHi (byte (rQ x M g) (rQ y N h)) = rQ y N h := by
  obtain ⟨k, hk⟩ := rQ_int x M g
  obtain ⟨l, hl⟩ := rQ_int y N h
  rw [hk, hl, byte_int, unHi, (unpack_word k l).2]

end Cert.Proof.KernelIdeal
end
-- ==== Proof.Column.lean ====
/-
  One column of the quantiser: the kernel's numbers are the reference's.
-/
module

public import proofs.«01_k».proof.Proof.CodeMath
public import Idealize.ShloMosaic.PureOps.Ideal.Laws

@[expose] public section

set_option maxRecDepth 16384

noncomputable section

namespace Cert.Proof.KernelIdeal

open Idealize.ShloMosaic

/-! ## The largest magnitude of a block -/

theorem pmax_le (f : Nat → EReal) (s : Nat) (z : EReal) : pmax f s ≤ z ↔ ∀ k, k < 4 → ∀ j, j < 2 → ab (f (16 * k + (2 * s + j))) ≤ z := by
  unfold pmax
  simp only [max_le_iff]
  constructor
  · rintro ⟨⟨⟨a1, b1⟩, c1, d1⟩, ⟨a0, b0⟩, c0, d0⟩ k hk j hj
    interval_cases k <;> interval_cases j <;> simp only [Nat.mul_zero, Nat.zero_add, Nat.add_zero, Nat.reduceMul] <;> assumption
  · intro h
    have e (k : Nat) (hk : k < 4) (j : Nat) (hj : j < 2) (n : Nat) (hn : n = 16 * k + (2 * s + j)) : ab (f n) ≤ z := hn ▸ h k hk j hj
    exact ⟨⟨⟨e 0 (by omega) 1 (by omega) _ (by omega), e 1 (by omega) 1 (by omega) _ (by omega)⟩, e 2 (by omega) 1 (by omega) _ (by omega), e 3 (by omega) 1 (by omega) _ (by omega)⟩,
      ⟨e 0 (by omega) 0 (by omega) _ (by omega), e 1 (by omega) 0 (by omega) _ (by omega)⟩, e 2 (by omega) 0 (by omega) _ (by omega), e 3 (by omega) 0 (by omega) _ (by omega)⟩

theorem amx_le (f : Nat → EReal) (z : EReal) : amx f ≤ z ↔ ∀ r, r < 64 → ab (f r) ≤ z := by
  have h8 : amx f ≤ z ↔ ∀ s, s < 8 → pmax f s ≤ z := by
    unfold amx
    simp only [max_le_iff]
    constructor
    · rintro ⟨⟨⟨⟨⟨⟨⟨h0, h1⟩, h2⟩, h3⟩, h4⟩, h5⟩, h6⟩, h7⟩ s hs
      interval_cases s <;> assumption
    · intro h
      exact ⟨⟨⟨⟨⟨⟨⟨h 0 (by omega), h 1 (by omega)⟩, h 2 (by omega)⟩, h 3 (by omega)⟩, h 4 (by omega)⟩, h 5 (by omega)⟩, h 6 (by omega)⟩, h 7 (by omega)⟩
  rw [h8]
  simp only [pmax_le]
  constructor
  · intro h r hr
    have := h ((r % 16) / 2) (by omega) (r / 16) (by omega) (r % 2) (by omega)
    rwa [show 16 * (r / 16) + (2 * ((r % 16) / 2) + r % 2) = r by omega] at this
  · intro h s hs k hk j hj
    exact h _ (by omega)

theorem ofBits_bot : Ideal.ofBits .f32 0xFF800000#32 = ⊥ := by
  show Ideal.ieee 8 23 (0xFF800000#32) = _
  unfold Ideal.ieee
  norm_num [BitVec.extractLsb', Nat.shiftRight_eq_div_pow]

/-- The largest of all 64 magnitudes at once. -/
theorem fold_all (f : Nat → EReal) : (Finset.univ : Finset (Fin 64)).fold max (Ideal.ofBits .f32 0xFF800000#32) (fun r => ab (f r.val)) = amx f := by
  refine eq_of_forall_ge_iff fun z => ?_
  rw [Finset.fold_max_le, amx_le, ofBits_bot]
  exact ⟨fun h r hr => h.2 ⟨r, hr⟩ (Finset.mem_univ _), fun h => ⟨bot_le, fun r _ => h r.val r.isLt⟩⟩

/-- The larger of the even rows' and the odd rows' largest magnitudes. -/
theorem fold_pairs (f : Nat → EReal) :
    max ((Finset.univ : Finset (Fin 32)).fold max (Ideal.ofBits .f32 0xFF800000#32) (fun p => ab (f (2 * p.val))))
      ((Finset.univ : Finset (Fin 32)).fold max (Ideal.ofBits .f32 0xFF800000#32) (fun p => ab (f (2 * p.val + 1)))) = amx f := by
  refine eq_of_forall_ge_iff fun z => ?_
  rw [max_le_iff, Finset.fold_max_le, Finset.fold_max_le, amx_le, ofBits_bot]
  constructor
  · rintro ⟨⟨-, h0⟩, -, h1⟩ r hr
    rcases Nat.mod_two_eq_zero_or_one r with h | h
    · have := h0 ⟨r / 2, by omega⟩ (Finset.mem_univ _)
      simp only [show 2 * (r / 2) = r by omega] at this
      exact this
    · have := h1 ⟨r / 2, by omega⟩ (Finset.mem_univ _)
      simp only [show 2 * (r / 2) + 1 = r by omega] at this
      exact this
  · intro h
    exact ⟨⟨bot_le, fun p _ => h _ (by omega)⟩, bot_le, fun p _ => h _ (by omega)⟩

/-- The largest magnitude of block `b` of a column. -/
def Mx (a : Nat → EReal) (b : Nat) : EReal := amx fun r => a (64 * b + r)

/-! ## Hashes -/

/-- The word of seed and position the reference hashes: row `t`, column `c`, `W` columns. -/
def posw (W : Nat) (seed : BitVec 32) (c t : Nat) : BitVec 32 := BitVec.ofNat 32 (t * W + c) ^^^ seed

theorem posw_ops (W : Nat) (seed : BitVec 32) (g p q c : Nat) :
    IntOp.xori (IntOp.addi (IntOp.muli (IntOp.addi (IntOp.addi (IntOp.muli (BitVec.ofNat 32 g) 640#32) (IntOp.muli (BitVec.ofNat 32 p) 2#32)) (BitVec.ofNat 32 q))
      (BitVec.ofNat 32 W)) (BitVec.ofNat 32 c)) seed = posw W seed c (640 * g + 2 * p + q) := by
  show ((BitVec.ofNat 32 g * BitVec.ofNat 32 640 + BitVec.ofNat 32 p * BitVec.ofNat 32 2 + BitVec.ofNat 32 q) * BitVec.ofNat 32 W + BitVec.ofNat 32 c) ^^^ seed = _
  rw [← BitVec.ofNat_mul, ← BitVec.ofNat_mul, ← BitVec.ofNat_add, ← BitVec.ofNat_add, ← BitVec.ofNat_mul, ← BitVec.ofNat_add, posw,
    Nat.mul_comm g, Nat.mul_comm p]

/-- The reference's operations on the mixed position. -/
theorem rhash_ops (h : BitVec 32) :
    (let h1 := IntOp.muli (IntOp.xori h (IntOp.shrui .host h 16#32)) 2146121005#32
     let h2 := IntOp.muli (IntOp.xori h1 (IntOp.shrui .host h1 15#32)) 2221713035#32
     IntOp.shrui .host (IntOp.xori h2 (IntOp.shrui .host h2 16#32)) 8#32) = rhash h := rfl

/-! ## A column's values -/

/-- The reference's quantised value of row `t` of a column. -/
def RQ (a : Nat → EReal) (w : Nat → BitVec 32) (t : Nat) : EReal := rQ (a t) (rM (Mx a (t / 64))) (rhash (w t))
/-- The reference's value of row `t` after quantisation. -/
def RV (a : Nat → EReal) (w : Nat → BitVec 32) (t : Nat) : EReal := RQ a w t * rS (Mx a (t / 64))

section
variable (a : Nat → EReal) (ha : ∀ b, b < 30 → InR (Mx a b))
include ha

theorem Sv_eq (b : Nat) (hb : b < 30) : Sv a b = rS (Mx a b) := scale_word (ha b hb)

variable (h w : Nat → BitVec 32) (hw : ∀ t, t < 1920 → h t = rhash (w t))
include hw

theorem Qv_eq (t : Nat) (ht : t < 1920) : Qv a h t = RQ a w t := by
  unfold Qv RQ Ew
  rw [show (amx fun r => a (64 * (t / 64) + r)) = Mx a (t / 64) from rfl, mult_half (ha (t / 64) (by omega)) (t % 2) (by omega), hw t ht]
  exact rq_eq _ _ _
theorem Vv_eq (t : Nat) (ht : t < 1920) : Vv a h t = RV a w t := by
  unfold Vv RV Ew
  rw [Qv_eq a ha h w hw t ht, show (amx fun r => a (64 * (t / 64) + r)) = Mx a (t / 64) from rfl, scale_half (ha (t / 64) (by omega)) (t % 2) (by omega)]
theorem Cv_eq (p : Nat) (hp : p < 960) : Cv a h p = byte (RQ a w (2 * p)) (RQ a w (2 * p + 1)) := by
  unfold Cv
  rw [Qv_eq a ha h w hw _ (by omega), Qv_eq a ha h w hw _ (by omega)]
end

theorem un_RQ (a : Nat → EReal) (w : Nat → BitVec 32) (s t : Nat) :
    unLo (byte (RQ a w s) (RQ a w t)) = RQ a w s ∧ unHi (byte (RQ a w s) (RQ a w t)) = RQ a w t :=
  ⟨unLo_byte (a s) (a t) _ _ _ _, unHi_byte (a s) (a t) _ _ _ _⟩

/-- A sum over the rows, by the even rows and the odd rows. -/
theorem sum_pairs (f : Nat → EReal) : ∑ k : Fin 1920, f k.val = ∑ k : Fin 960, f (2 * k.val) + ∑ k : Fin 960, f (2 * k.val + 1) := by
  have h (n : Nat) : ∑ i ∈ Finset.range (2 * n), f i = ∑ i ∈ Finset.range n, f (2 * i) + ∑ i ∈ Finset.range n, f (2 * i + 1) := by
    induction n with
    | zero => simp
    | succ n ih =>
      rw [show 2 * (n + 1) = 2 * n + 1 + 1 by ring, Finset.sum_range_succ, Finset.sum_range_succ, ih, Finset.sum_range_succ, Finset.sum_range_succ]
      abel
  rw [Fin.sum_univ_eq_sum_range f 1920, Fin.sum_univ_eq_sum_range (fun i => f (2 * i)) 960, Fin.sum_univ_eq_sum_range (fun i => f (2 * i + 1)) 960]
  exact h 960

end Cert.Proof.KernelIdeal
end
-- ==== Proof.FoldMax.lean ====
/-
  A host maximum along the third of four axes, at an index, whatever the sizes.
-/
module

public import Idealize.ShloMosaic.Lib.Pointwise
public import Idealize.ShloMosaic.PureOps.Reduce
public import Idealize.ShloMosaic.PureOps.Ideal.Laws
public import proofs.«01_k».proof.Proof.Column

@[expose] public section

noncomputable section

namespace Cert.Proof.FoldMax

open Idealize.ShloMosaic Idealize.ShloMosaic.Tactic
open Cert.Proof.KernelIdeal (ab)

/-- The maximum of `x` along its third axis, from the initial value. -/
theorem reduce_max {n0 n1 n2 n3 : Nat} {u : Shape} (h : (⟨4, ![n0, n1, n2, n3]⟩ : Shape).ReducesTo [2] (⟨3, ![n0, n1, n3]⟩ : Shape)) (hu : 0 < u.numel)
    (x : FVec Ideal ⟨4, ![n0, n1, n2, n3]⟩ .f32) (init : FVec Ideal u .f32) (g : Fin n0) (b : Fin n1) (c : Fin n3) :
    Host.reduce FloatOps.maximumf x init h hu (ix3 g b c)
      = Finset.univ.fold max (init (Shape.Idx.first hu)) fun r : Fin n2 => x (ix4 g b r c) := by
  have e := Host.reduce_eq_fold (FloatOps.maximumf (F := Ideal) (φ := .f32)) x init h hu (ix3 g b c)
  rw [Shape.ReducesTo.fold_fiber_r4_a2 h] at e
  exact e

/-- The maximum of magnitudes along the third axis, from a constant. -/
theorem reduce_absmax {n0 n1 n2 n3 : Nat} {u : Shape} (h : (⟨4, ![n0, n1, n2, n3]⟩ : Shape).ReducesTo [2] (⟨3, ![n0, n1, n3]⟩ : Shape)) (hu : 0 < u.numel)
    (x : FVec Ideal ⟨4, ![n0, n1, n2, n3]⟩ .f32) (w : BitVec 32) (g : Fin n0) (b : Fin n1) (c : Fin n3) :
    Host.reduce FloatOps.maximumf (Host.absf x) (constant u .f32 w : FVec Ideal u .f32) h hu (ix3 g b c)
      = Finset.univ.fold max (Ideal.ofBits .f32 w) fun r : Fin n2 => ab (x (ix4 g b r c)) :=
  reduce_max h hu (Host.absf x) (constant u .f32 w) g b c

/-- The larger of two arrays, at an index. -/
theorem max_ix {s : Shape} (a b : FVec Ideal s .f32) (j : s.Idx) : maximumf a b j = max (a j) (b j) := rfl

end Cert.Proof.FoldMax
end
-- ==== Proof.RefX.lean ====
/-
  The reference's quantiser at the width of `x`, read element by element.
-/
module

public import proofs.«01_k».proof.Proof.Gen.ReferenceIdeal
public import proofs.«01_k».proof.Proof.Column
public import proofs.«01_k».proof.Proof.FoldMax
public import Idealize.ShloMosaic.Lib.Pointwise
public import Idealize.ShloMosaic.PureOps.Reduce

@[expose] public section

set_option maxRecDepth 16384

noncomputable section

namespace Cert.Proof.RefX

open Cert.ReferenceIdeal Cert.ReferenceIdeal.Gen
open Idealize.ShloMosaic Idealize.ShloMosaic.TcCoe Idealize.ShloMosaic.Tactic
open Cert.Proof.KernelIdeal (colA colA_of ab Mx fold_pairs rE rS rM posw posw_ops rhash rhash_ops rQ byte nib unLo unHi RQ RV un_RQ)

theorem flat_casts : S3x640x7168.ShapeCasts (⟨2, ![1920, 7168]⟩ : Shape) := by decide

/-- The array with its token axes read as one. -/
def flat (X : FVec Ideal S3x640x7168 .bf16) : (⟨2, ![1920, 7168]⟩ : Shape).Idx → EReal := shapeCast ⟨2, ![1920, 7168]⟩ X flat_casts

theorem flat_ix (X : FVec Ideal S3x640x7168 .bf16) (g : Fin 3) (r : Fin 640) (c : Fin 7168) (t : Nat) (ht : t = 640 * g.val + r.val) :
    colA (flat X) c.val t = X (ix3 g r c) := by
  rw [colA_of _ _ _ (by omega) c.isLt]
  unfold flat
  pointwise
  congr 1
  funext a
  match a with
  | ⟨0, _⟩ => apply Fin.ext; show t / 640 = g.val; omega
  | ⟨1, _⟩ => apply Fin.ext; show t % 640 = r.val; omega
  | ⟨2, _⟩ => rfl

/-- The even rows, by block. -/
def ev (X : FVec Ideal S3x640x7168 .bf16) : FVec Ideal S3x10x32x7168 .f32 :=
  shapeCast S3x10x32x7168 (extf .f32 (extractStridedSlice S3x320x7168 ![0, 0, 0] (shapeCast S3x320x14336 X shapeCasts_S3x640x7168_S3x320x14336)
    slices_S3x320x14336_S3x320x7168_0_0_0) bitsLt_bf16_f32) shapeCasts_S3x320x7168_S3x10x32x7168
/-- The odd rows, by block. -/
def od (X : FVec Ideal S3x640x7168 .bf16) : FVec Ideal S3x10x32x7168 .f32 :=
  shapeCast S3x10x32x7168 (extf .f32 (extractStridedSlice S3x320x7168 ![0, 0, 7168] (shapeCast S3x320x14336 X shapeCasts_S3x640x7168_S3x320x14336)
    slices_S3x320x14336_S3x320x7168_0_0_7168) bitsLt_bf16_f32) shapeCasts_S3x320x7168_S3x10x32x7168

theorem ev_ix (X : FVec Ideal S3x640x7168 .bf16) (g : Fin 3) (b : Fin 10) (p : Fin 32) (c : Fin 7168) :
    ev X (ix4 g b p c) = colA (flat X) c.val (64 * (10 * g.val + b.val) + 2 * p.val) := by
  have h : 64 * b.val + 2 * p.val < 640 := by omega
  rw [flat_ix X g ⟨64 * b.val + 2 * p.val, h⟩ c _ (by simp only; omega)]
  unfold ev
  pointwise
  congr 1
  funext a
  match a with
  | ⟨0, _⟩ => rfl
  | ⟨1, _⟩ => apply Fin.ext; show (b.val * 32 + p.val) * 2 + c.val / 7168 = 64 * b.val + 2 * p.val; omega
  | ⟨2, _⟩ => apply Fin.ext; show c.val % 7168 = c.val; omega
theorem od_ix (X : FVec Ideal S3x640x7168 .bf16) (g : Fin 3) (b : Fin 10) (p : Fin 32) (c : Fin 7168) :
    od X (ix4 g b p c) = colA (flat X) c.val (64 * (10 * g.val + b.val) + 2 * p.val + 1) := by
  have h : 64 * b.val + 2 * p.val + 1 < 640 := by omega
  rw [flat_ix X g ⟨64 * b.val + 2 * p.val + 1, h⟩ c _ (by simp only; omega)]
  unfold od
  pointwise
  congr 1
  funext a
  match a with
  | ⟨0, _⟩ => rfl
  | ⟨1, _⟩ => apply Fin.ext; show (b.val * 32 + p.val) * 2 + (7168 + c.val) / 7168 = 64 * b.val + 2 * p.val + 1; omega
  | ⟨2, _⟩ => rfl

/-- The largest magnitude of each block. -/
def mx (E O : FVec Ideal S3x10x32x7168 .f32) : FVec Ideal S3x10x7168 .f32 :=
  maximumf (Host.reduce FloatOps.maximumf (Host.absf E) (constant S_ .f32 0xFF800000#32) reducesTo_S3x10x32x7168_S3x10x7168_d2 h_S_)
    (Host.reduce FloatOps.maximumf (Host.absf O) (constant S_ .f32 0xFF800000#32) reducesTo_S3x10x32x7168_S3x10x7168_d2 h_S_)

theorem mx_fold (E O : FVec Ideal S3x10x32x7168 .f32) (g : Fin 3) (b : Fin 10) (c : Fin 7168) :
    mx E O (ix3 g b c) = max (Finset.univ.fold max (Ideal.ofBits .f32 0xFF800000#32) fun r : Fin 32 => ab (E (ix4 g b r c)))
      (Finset.univ.fold max (Ideal.ofBits .f32 0xFF800000#32) fun r : Fin 32 => ab (O (ix4 g b r c))) := by
  unfold mx
  rw [FoldMax.max_ix, FoldMax.reduce_absmax, FoldMax.reduce_absmax]
theorem mx_ix (X : FVec Ideal S3x640x7168 .bf16) (g : Fin 3) (b : Fin 10) (c : Fin 7168) :
    mx (ev X) (od X) (ix3 g b c) = Mx (colA (flat X) c.val) (10 * g.val + b.val) := by
  rw [mx_fold]
  simp only [ev_ix, od_ix]
  have h := fold_pairs fun r => colA (flat X) c.val (64 * (10 * g.val + b.val) + r)
  simp only [← Nat.add_assoc] at h
  exact h

/-- One number at every block. -/
def two : FVec Ideal S3x10x7168 .f32 := broadcastInDim S3x10x7168 ![] bcast_S_S3x10x7168 (constant S_ .f32 0x40000000#32)
/-- One more than the exponent of each block. -/
def ex (a : FVec Ideal S3x10x7168 .f32) : FVec Ideal S3x10x7168 .f32 :=
  addf (Host.floor (Host.divf (Host.log a) (Host.log two))) (broadcastInDim S3x10x7168 ![] bcast_S_S3x10x7168 (constant S_ .f32 0x3F800000#32))
/-- The scale of each block. -/
def sc (a : FVec Ideal S3x10x7168 .f32) : FVec Ideal S3x10x7168 .f32 :=
  select (cmpf .oeq a (broadcastInDim S3x10x7168 ![] bcast_S_S3x10x7168 (constant S_ .f32 0x00000000#32)))
    (broadcastInDim S3x10x7168 ![] bcast_S_S3x10x7168 (constant S_ .f32 0x3F800000#32))
    (Host.powf two (subf (ex a) (broadcastInDim S3x10x7168 ![] bcast_S_S3x10x7168 (constant S_ .f32 0x40400000#32))))
/-- The multiplier of each block. -/
def mu (a : FVec Ideal S3x10x7168 .f32) : FVec Ideal S3x10x1x7168 .f32 :=
  broadcastInDim S3x10x1x7168 ![0, 1, 3] bcast_S3x10x7168_S3x10x1x7168_0_1_3
    (select (cmpf .oeq a (broadcastInDim S3x10x7168 ![] bcast_S_S3x10x7168 (constant S_ .f32 0x00000000#32)))
      (broadcastInDim S3x10x7168 ![] bcast_S_S3x10x7168 (constant S_ .f32 0x3F800000#32))
      (Host.powf two (subf (broadcastInDim S3x10x7168 ![] bcast_S_S3x10x7168 (constant S_ .f32 0x40400000#32)) (ex a))))
/-- The scale again, as bf16, in the shape that broadcasts over a block's rows. -/
def sb (s : FVec Ideal S3x10x7168 .f32) : FVec Ideal S3x10x1x7168 .bf16 :=
  broadcastInDim S3x10x1x7168 ![0, 1, 3] bcast_S3x10x7168_S3x10x1x7168_0_1_3 (truncf .bf16 s bitsLt_bf16_f32)

theorem ex_ix (a : FVec Ideal S3x10x7168 .f32) (j : S3x10x7168.Idx) : ex a j = rE (a j) := rfl
theorem ite_cmp (x y z w : EReal) : (if Ideal.cmp .oeq x y = 1#1 then z else w) = if x = y then z else w := by
  unfold Ideal.cmp
  by_cases h : x = y <;> simp [h]
theorem sc_ix (a : FVec Ideal S3x10x7168 .f32) (j : S3x10x7168.Idx) : sc a j = rS (a j) := by
  have : sc a j = if Ideal.cmp .oeq (a j) (Ideal.ofBits .f32 0x00000000#32) = 1#1 then Ideal.ofBits .f32 0x3F800000#32
      else Ideal.pow (Ideal.ofBits .f32 0x40000000#32) (rE (a j) - Ideal.ofBits .f32 0x40400000#32) := rfl
  rw [this, ite_cmp, Ideal.ofBits_zero_f32, Ideal.ofBits_one_f32]
  rfl
theorem mu_ix (a : FVec Ideal S3x10x7168 .f32) (g : Fin 3) (b : Fin 10) (c : Fin 7168) : mu a (ix4 g b 0 c) = rM (a (ix3 g b c)) := by
  have : mu a (ix4 g b 0 c) = (select (cmpf .oeq a (broadcastInDim S3x10x7168 ![] bcast_S_S3x10x7168 (constant S_ .f32 0x00000000#32)))
      (broadcastInDim S3x10x7168 ![] bcast_S_S3x10x7168 (constant S_ .f32 0x3F800000#32))
      (Host.powf two (subf (broadcastInDim S3x10x7168 ![] bcast_S_S3x10x7168 (constant S_ .f32 0x40400000#32)) (ex a)))) (ix3 g b c) := by
    unfold mu
    generalize select _ _ _ = z
    pointwise
  rw [this]
  have : ∀ j : S3x10x7168.Idx, (select (cmpf .oeq a (broadcastInDim S3x10x7168 ![] bcast_S_S3x10x7168 (constant S_ .f32 0x00000000#32)))
      (broadcastInDim S3x10x7168 ![] bcast_S_S3x10x7168 (constant S_ .f32 0x3F800000#32))
      (Host.powf two (subf (broadcastInDim S3x10x7168 ![] bcast_S_S3x10x7168 (constant S_ .f32 0x40400000#32)) (ex a)))) j
      = if Ideal.cmp .oeq (a j) (Ideal.ofBits .f32 0x00000000#32) = 1#1 then Ideal.ofBits .f32 0x3F800000#32
      else Ideal.pow (Ideal.ofBits .f32 0x40000000#32) (Ideal.ofBits .f32 0x40400000#32 - rE (a j)) := fun _ => rfl
  rw [this, ite_cmp, Ideal.ofBits_zero_f32, Ideal.ofBits_one_f32]
  rfl
theorem sb_ix (s : FVec Ideal S3x10x7168 .f32) (g : Fin 3) (b : Fin 10) (c : Fin 7168) : sb s (ix4 g b 0 c) = s (ix3 g b c) := by
  unfold sb
  pointwise

/-- The words the reference hashes. -/
def ps (seed : IVec S_ 32) (q : BitVec 32) : IVec S3x320x7168 32 :=
  xori (addi (muli (addi (addi (muli (iotaInDim S3x320x7168 32 0) (broadcastInDim S3x320x7168 ![] bcast_S_S3x320x7168 (constantI S_ 32 640#32)))
    (muli (iotaInDim S3x320x7168 32 1) (broadcastInDim S3x320x7168 ![] bcast_S_S3x320x7168 (constantI S_ 32 2#32))))
    (broadcastInDim S3x320x7168 ![] bcast_S_S3x320x7168 (constantI S_ 32 q))) (broadcastInDim S3x320x7168 ![] bcast_S_S3x320x7168 (constantI S_ 32 7168#32)))
    (iotaInDim S3x320x7168 32 2)) (broadcastInDim S3x320x7168 ![] bcast_S_S3x320x7168 seed)
/-- The hash after its first multiplication. -/
def h1 (h : IVec S3x320x7168 32) : IVec S3x320x7168 32 :=
  muli (xori h (Host.shrui h (broadcastInDim S3x320x7168 ![] bcast_S_S3x320x7168 (constantI S_ 32 16#32))))
    (broadcastInDim S3x320x7168 ![] bcast_S_S3x320x7168 (constantI S_ 32 2146121005#32))
/-- The hash after its second multiplication. -/
def h2 (h : IVec S3x320x7168 32) : IVec S3x320x7168 32 :=
  muli (xori h (Host.shrui h (broadcastInDim S3x320x7168 ![] bcast_S_S3x320x7168 (constantI S_ 32 15#32))))
    (broadcastInDim S3x320x7168 ![] bcast_S_S3x320x7168 (constantI S_ 32 2221713035#32))
/-- The random numbers, from the second multiplication's words. -/
def un (h : IVec S3x320x7168 32) : FVec Ideal S3x10x32x7168 .f32 :=
  shapeCast S3x10x32x7168 (mulf (uitofp .f32 (Host.shrui (xori h (Host.shrui h (broadcastInDim S3x320x7168 ![] bcast_S_S3x320x7168 (constantI S_ 32 16#32))))
    (broadcastInDim S3x320x7168 ![] bcast_S_S3x320x7168 (constantI S_ 32 8#32)))) (broadcastInDim S3x320x7168 ![] bcast_S_S3x320x7168 (constant S_ .f32 0x33800000#32)))
    shapeCasts_S3x320x7168_S3x10x32x7168

theorem ps_ix (seed : IVec S_ 32) (q : Nat) (g : Fin 3) (p : Fin 320) (c : Fin 7168) :
    ps seed (BitVec.ofNat 32 q) (ix3 g p c) = posw 7168 (seed ix0) c.val (640 * g.val + 2 * p.val + q) := by
  unfold ps
  pointwise
  exact posw_ops 7168 (seed ix0) g.val p.val q c.val

theorem un_ix (h : IVec S3x320x7168 32) (g : Fin 3) (b : Fin 10) (p : Fin 32) (c : Fin 7168) (r : Fin 320) (hr : r.val = 32 * b.val + p.val) :
    un (h2 (h1 h)) (ix4 g b p c) = (((rhash (h (ix3 g r c))).toNat : ℝ) : EReal) * Ideal.ofBits .f32 0x33800000#32 := by
  have e (z : FVec Ideal S3x320x7168 .f32) : shapeCast S3x10x32x7168 z shapeCasts_S3x320x7168_S3x10x32x7168 (ix4 g b p c) = z (ix3 g r c) := by
    pointwise
    congr 1
    funext a
    match a with
    | ⟨0, _⟩ => rfl
    | ⟨1, _⟩ => apply Fin.ext; show b.val * 32 + p.val = r.val; omega
    | ⟨2, _⟩ => rfl
  unfold un
  rw [e]
  rfl

/-- The quantised values of the rows of one parity. -/
def qt (x : FVec Ideal S3x10x32x7168 .f32) (m : FVec Ideal S3x10x1x7168 .f32) (u : FVec Ideal S3x10x32x7168 .f32) : FVec Ideal S3x10x32x7168 .f32 :=
  minimumf (broadcastInDim S3x10x32x7168 ![] bcast_S_S3x10x32x7168 (sitofp .f32 (constantI S_ 32 7#32)))
    (maximumf (broadcastInDim S3x10x32x7168 ![] bcast_S_S3x10x32x7168 (sitofp .f32 (constantI S_ 32 4294967289#32)))
      (Host.floor (addf (mulf x (broadcastInDim S3x10x32x7168 ![0, 1, 2, 3] bcast_S3x10x1x7168_S3x10x32x7168_0_1_2_3 m)) u)))
/-- The code bytes. -/
def cd (qe qo : FVec Ideal S3x10x32x7168 .f32) : IVec S3x320x7168 8 :=
  shapeCast S3x320x7168 (trunci 8 (ori (andi (fptosi 32 qe) (broadcastInDim S3x10x32x7168 ![] bcast_S_S3x10x32x7168 (constantI S_ 32 15#32)))
    (Host.shli (andi (fptosi 32 qo) (broadcastInDim S3x10x32x7168 ![] bcast_S_S3x10x32x7168 (constantI S_ 32 15#32)))
      (broadcastInDim S3x10x32x7168 ![] bcast_S_S3x10x32x7168 (constantI S_ 32 4#32)))) natLt_8_32) shapeCasts_S3x10x32x7168_S3x320x7168

theorem qt_ix (x : FVec Ideal S3x10x32x7168 .f32) (m : FVec Ideal S3x10x1x7168 .f32) (u : FVec Ideal S3x10x32x7168 .f32)
    (g : Fin 3) (b : Fin 10) (p : Fin 32) (c : Fin 7168) (h : BitVec 32)
    (hu : u (ix4 g b p c) = ((h.toNat : ℝ) : EReal) * Ideal.ofBits .f32 0x33800000#32) :
    qt x m u (ix4 g b p c) = rQ (x (ix4 g b p c)) (m (ix4 g b 0 c)) h := by
  unfold qt rQ
  rw [← hu]
  pointwise
  rfl
theorem cd_ix (qe qo : FVec Ideal S3x10x32x7168 .f32) (g : Fin 3) (p : Fin 320) (c : Fin 7168) (b : Fin 10) (r : Fin 32)
    (hp : p.val = 32 * b.val + r.val) : cd qe qo (ix3 g p c) = byte (qe (ix4 g b r c)) (qo (ix4 g b r c)) := by
  have e (z : IVec S3x10x32x7168 8) : shapeCast S3x320x7168 z shapeCasts_S3x10x32x7168_S3x320x7168 (ix3 g p c) = z (ix4 g b r c) := by
    pointwise
    congr 1
    funext a
    match a with
    | ⟨0, _⟩ => rfl
    | ⟨1, _⟩ => apply Fin.ext; show p.val / 32 = b.val; omega
    | ⟨2, _⟩ => apply Fin.ext; show p.val % 32 = r.val; omega
    | ⟨3, _⟩ => rfl
  unfold cd
  rw [e]
  rfl

/-- The quantised values of the even rows and of the odd rows. -/
def qe (X : FVec Ideal S3x640x7168 .bf16) (seed : IVec S_ 32) : FVec Ideal S3x10x32x7168 .f32 := qt (ev X) (mu (mx (ev X) (od X))) (un (h2 (h1 (ps seed 0#32))))
def qo (X : FVec Ideal S3x640x7168 .bf16) (seed : IVec S_ 32) : FVec Ideal S3x10x32x7168 .f32 := qt (od X) (mu (mx (ev X) (od X))) (un (h2 (h1 (ps seed 1#32))))

theorem qe_ix (X : FVec Ideal S3x640x7168 .bf16) (seed : IVec S_ 32) (g : Fin 3) (b : Fin 10) (p : Fin 32) (c : Fin 7168) :
    qe X seed (ix4 g b p c) = RQ (colA (flat X) c.val) (posw 7168 (seed ix0) c.val) (64 * (10 * g.val + b.val) + 2 * p.val) := by
  have hr : 32 * b.val + p.val < 320 := by omega
  have hu := un_ix (ps seed 0#32) g b p c ⟨32 * b.val + p.val, hr⟩ rfl
  rw [ps_ix seed 0 g ⟨32 * b.val + p.val, hr⟩ c] at hu
  unfold qe RQ
  rw [qt_ix _ _ _ g b p c _ hu, ev_ix, mu_ix, mx_ix, show (64 * (10 * g.val + b.val) + 2 * p.val) / 64 = 10 * g.val + b.val by omega,
    show 640 * g.val + 2 * (⟨32 * b.val + p.val, hr⟩ : Fin 320).val + 0 = 64 * (10 * g.val + b.val) + 2 * p.val by simp only; omega]
theorem qo_ix (X : FVec Ideal S3x640x7168 .bf16) (seed : IVec S_ 32) (g : Fin 3) (b : Fin 10) (p : Fin 32) (c : Fin 7168) :
    qo X seed (ix4 g b p c) = RQ (colA (flat X) c.val) (posw 7168 (seed ix0) c.val) (64 * (10 * g.val + b.val) + 2 * p.val + 1) := by
  have hr : 32 * b.val + p.val < 320 := by omega
  have hu := un_ix (ps seed 1#32) g b p c ⟨32 * b.val + p.val, hr⟩ rfl
  rw [ps_ix seed 1 g ⟨32 * b.val + p.val, hr⟩ c] at hu
  unfold qo RQ
  rw [qt_ix _ _ _ g b p c _ hu, od_ix, mu_ix, mx_ix, show (64 * (10 * g.val + b.val) + 2 * p.val + 1) / 64 = 10 * g.val + b.val by omega,
    show 640 * g.val + 2 * (⟨32 * b.val + p.val, hr⟩ : Fin 320).val + 1 = 64 * (10 * g.val + b.val) + 2 * p.val + 1 by simp only; omega]

/-- The code bytes of the array. -/
def codes (X : FVec Ideal S3x640x7168 .bf16) (seed : IVec S_ 32) : IVec S3x320x7168 8 := cd (qe X seed) (qo X seed)

theorem codes_ix (X : FVec Ideal S3x640x7168 .bf16) (seed : IVec S_ 32) (g : Fin 3) (p : Fin 320) (c : Fin 7168) (k : Nat) (hk : k = 320 * g.val + p.val) :
    codes X seed (ix3 g p c) = byte (RQ (colA (flat X) c.val) (posw 7168 (seed ix0) c.val) (2 * k)) (RQ (colA (flat X) c.val) (posw 7168 (seed ix0) c.val) (2 * k + 1)) := by
  have hb : p.val / 32 < 10 := by omega
  have hr : p.val % 32 < 32 := Nat.mod_lt _ (by norm_num)
  unfold codes
  rw [cd_ix _ _ g p c ⟨p.val / 32, hb⟩ ⟨p.val % 32, hr⟩ (by simp only; omega), qe_ix, qo_ix]
  simp only
  rw [show 64 * (10 * g.val + p.val / 32) + 2 * (p.val % 32) = 2 * k by omega]

/-- The result array of codes. -/
def codesFlat (X : FVec Ideal S3x640x7168 .bf16) (seed : IVec S_ 32) : IVec S960x7168 8 := shapeCast S960x7168 (codes X seed) shapeCasts_S3x320x7168_S960x7168

theorem codesFlat_ix (X : FVec Ideal S3x640x7168 .bf16) (seed : IVec S_ 32) (k : Fin 960) (c : Fin 7168) :
    codesFlat X seed (ix2 k c) = byte (RQ (colA (flat X) c.val) (posw 7168 (seed ix0) c.val) (2 * k.val)) (RQ (colA (flat X) c.val) (posw 7168 (seed ix0) c.val) (2 * k.val + 1)) := by
  have hg : k.val / 320 < 3 := by omega
  have hp : k.val % 320 < 320 := Nat.mod_lt _ (by norm_num)
  rw [← codes_ix X seed ⟨k.val / 320, hg⟩ ⟨k.val % 320, hp⟩ c k.val (by simp only; omega)]
  unfold codesFlat
  pointwise

/-- The unpacked and scaled low halves of the codes. -/
def lo (w : IVec S3x320x7168 8) (s : FVec Ideal S3x10x1x7168 .bf16) : FVec Ideal S960x7168 .bf16 :=
  shapeCast S960x7168 (mulf (shapeCast S3x10x32x7168 (sitofp .bf16 (subi (xori (andi (extui 32 w natLt_8_32)
    (broadcastInDim S3x320x7168 ![] bcast_S_S3x320x7168 (constantI S_ 32 15#32))) (broadcastInDim S3x320x7168 ![] bcast_S_S3x320x7168 (constantI S_ 32 8#32)))
    (broadcastInDim S3x320x7168 ![] bcast_S_S3x320x7168 (constantI S_ 32 8#32)))) shapeCasts_S3x320x7168_S3x10x32x7168)
    (broadcastInDim S3x10x32x7168 ![0, 1, 2, 3] bcast_S3x10x1x7168_S3x10x32x7168_0_1_2_3 s)) shapeCasts_S3x10x32x7168_S960x7168
/-- The unpacked and scaled high halves of the codes. -/
def hi (w : IVec S3x320x7168 8) (s : FVec Ideal S3x10x1x7168 .bf16) : FVec Ideal S960x7168 .bf16 :=
  shapeCast S960x7168 (mulf (shapeCast S3x10x32x7168 (sitofp .bf16 (subi (xori (Host.shrsi (extui 32 w natLt_8_32)
    (broadcastInDim S3x320x7168 ![] bcast_S_S3x320x7168 (constantI S_ 32 4#32))) (broadcastInDim S3x320x7168 ![] bcast_S_S3x320x7168 (constantI S_ 32 8#32)))
    (broadcastInDim S3x320x7168 ![] bcast_S_S3x320x7168 (constantI S_ 32 8#32)))) shapeCasts_S3x320x7168_S3x10x32x7168)
    (broadcastInDim S3x10x32x7168 ![0, 1, 2, 3] bcast_S3x10x1x7168_S3x10x32x7168_0_1_2_3 s)) shapeCasts_S3x10x32x7168_S960x7168

/-- A product of row values by their block's scale, in the order of the flattened rows. -/
theorem rows_ix (z : FVec Ideal S3x320x7168 .bf16) (s : FVec Ideal S3x10x1x7168 .bf16) (k : Fin 960) (c : Fin 7168)
    (g : Fin 3) (p : Fin 320) (b : Fin 10) (hk : k.val = 320 * g.val + p.val) (hb : b.val = p.val / 32) :
    shapeCast S960x7168 (mulf (shapeCast S3x10x32x7168 z shapeCasts_S3x320x7168_S3x10x32x7168)
      (broadcastInDim S3x10x32x7168 ![0, 1, 2, 3] bcast_S3x10x1x7168_S3x10x32x7168_0_1_2_3 s)) shapeCasts_S3x10x32x7168_S960x7168 (ix2 k c)
    = z (ix3 g p c) * s (ix4 g b 0 c) := by
  pointwise
  congr 1
  · congr 1
    funext a
    match a with
    | ⟨0, _⟩ => apply Fin.ext; show k.val / 320 = g.val; omega
    | ⟨1, _⟩ => apply Fin.ext; show k.val / 32 % 10 * 32 + k.val % 32 = p.val; omega
    | ⟨2, _⟩ => rfl
  · congr 1
    funext a
    match a with
    | ⟨0, _⟩ => apply Fin.ext; show k.val / 320 = g.val; omega
    | ⟨1, _⟩ => apply Fin.ext; show k.val / 32 % 10 = b.val; omega
    | ⟨2, _⟩ => rfl
    | ⟨3, _⟩ => rfl

/-- The scale array of the operand. -/
def scales (X : FVec Ideal S3x640x7168 .bf16) : FVec Ideal S3x10x7168 .f32 := sc (mx (ev X) (od X))

theorem scales_ix (X : FVec Ideal S3x640x7168 .bf16) (g : Fin 3) (b : Fin 10) (c : Fin 7168) :
    scales X (ix3 g b c) = rS (Mx (colA (flat X) c.val) (10 * g.val + b.val)) := by
  unfold scales
  rw [sc_ix, mx_ix]

theorem lo_ix (X : FVec Ideal S3x640x7168 .bf16) (seed : IVec S_ 32) (k : Fin 960) (c : Fin 7168) :
    lo (codes X seed) (sb (scales X)) (ix2 k c) = RV (colA (flat X) c.val) (posw 7168 (seed ix0) c.val) (2 * k.val) := by
  have hg : k.val / 320 < 3 := by omega
  have hp : k.val % 320 < 320 := Nat.mod_lt _ (by norm_num)
  have hb : k.val % 320 / 32 < 10 := by omega
  unfold lo
  rw [rows_ix _ _ k c ⟨k.val / 320, hg⟩ ⟨k.val % 320, hp⟩ ⟨k.val % 320 / 32, hb⟩ (by simp only; omega) rfl, sb_ix, scales_ix]
  have e := codes_ix X seed ⟨k.val / 320, hg⟩ ⟨k.val % 320, hp⟩ c k.val (by simp only; omega)
  have u := (un_RQ (colA (flat X) c.val) (posw 7168 (seed ix0) c.val) (2 * k.val) (2 * k.val + 1)).1
  rw [← e] at u
  unfold RV
  rw [← u, show 2 * k.val / 64 = 10 * (k.val / 320) + k.val % 320 / 32 by omega]
  rfl
theorem hi_ix (X : FVec Ideal S3x640x7168 .bf16) (seed : IVec S_ 32) (k : Fin 960) (c : Fin 7168) :
    hi (codes X seed) (sb (scales X)) (ix2 k c) = RV (colA (flat X) c.val) (posw 7168 (seed ix0) c.val) (2 * k.val + 1) := by
  have hg : k.val / 320 < 3 := by omega
  have hp : k.val % 320 < 320 := Nat.mod_lt _ (by norm_num)
  have hb : k.val % 320 / 32 < 10 := by omega
  unfold hi
  rw [rows_ix _ _ k c ⟨k.val / 320, hg⟩ ⟨k.val % 320, hp⟩ ⟨k.val % 320 / 32, hb⟩ (by simp only; omega) rfl, sb_ix, scales_ix]
  have e := codes_ix X seed ⟨k.val / 320, hg⟩ ⟨k.val % 320, hp⟩ c k.val (by simp only; omega)
  have u := (un_RQ (colA (flat X) c.val) (posw 7168 (seed ix0) c.val) (2 * k.val) (2 * k.val + 1)).2
  rw [← e] at u
  unfold RV
  rw [← u, show (2 * k.val + 1) / 64 = 10 * (k.val / 320) + k.val % 320 / 32 by omega]
  rfl

end Cert.Proof.RefX
end
-- ==== Proof.RefY.lean ====
/-
  The reference's quantiser at the width of `dy`, read element by element.
-/
module

public import proofs.«01_k».proof.Proof.Gen.ReferenceIdeal
public import proofs.«01_k».proof.Proof.Column
public import proofs.«01_k».proof.Proof.FoldMax
public import Idealize.ShloMosaic.Lib.Pointwise
public import Idealize.ShloMosaic.PureOps.Reduce

@[expose] public section

set_option maxRecDepth 16384

noncomputable section

namespace Cert.Proof.RefY

open Cert.ReferenceIdeal Cert.ReferenceIdeal.Gen
open Idealize.ShloMosaic Idealize.ShloMosaic.TcCoe Idealize.ShloMosaic.Tactic
open Cert.Proof.KernelIdeal (colA colA_of ab Mx fold_pairs rE rS rM posw posw_ops rhash rhash_ops rQ byte nib unLo unHi RQ RV un_RQ)

theorem flat_casts : S3x640x2048.ShapeCasts (⟨2, ![1920, 2048]⟩ : Shape) := by decide

/-- The array with its token axes read as one. -/
def flat (X : FVec Ideal S3x640x2048 .bf16) : (⟨2, ![1920, 2048]⟩ : Shape).Idx → EReal := shapeCast ⟨2, ![1920, 2048]⟩ X flat_casts

theorem flat_ix (X : FVec Ideal S3x640x2048 .bf16) (g : Fin 3) (r : Fin 640) (c : Fin 2048) (t : Nat) (ht : t = 640 * g.val + r.val) :
    colA (flat X) c.val t = X (ix3 g r c) := by
  rw [colA_of _ _ _ (by omega) c.isLt]
  unfold flat
  pointwise
  congr 1
  funext a
  match a with
  | ⟨0, _⟩ => apply Fin.ext; show t / 640 = g.val; omega
  | ⟨1, _⟩ => apply Fin.ext; show t % 640 = r.val; omega
  | ⟨2, _⟩ => rfl

/-- The even rows, by block. -/
def ev (X : FVec Ideal S3x640x2048 .bf16) : FVec Ideal S3x10x32x2048 .f32 :=
  shapeCast S3x10x32x2048 (extf .f32 (extractStridedSlice S3x320x2048 ![0, 0, 0] (shapeCast S3x320x4096 X shapeCasts_S3x640x2048_S3x320x4096)
    slices_S3x320x4096_S3x320x2048_0_0_0) bitsLt_bf16_f32) shapeCasts_S3x320x2048_S3x10x32x2048
/-- The odd rows, by block. -/
def od (X : FVec Ideal S3x640x2048 .bf16) : FVec Ideal S3x10x32x2048 .f32 :=
  shapeCast S3x10x32x2048 (extf .f32 (extractStridedSlice S3x320x2048 ![0, 0, 2048] (shapeCast S3x320x4096 X shapeCasts_S3x640x2048_S3x320x4096)
    slices_S3x320x4096_S3x320x2048_0_0_2048) bitsLt_bf16_f32) shapeCasts_S3x320x2048_S3x10x32x2048

theorem ev_ix (X : FVec Ideal S3x640x2048 .bf16) (g : Fin 3) (b : Fin 10) (p : Fin 32) (c : Fin 2048) :
    ev X (ix4 g b p c) = colA (flat X) c.val (64 * (10 * g.val + b.val) + 2 * p.val) := by
  have h : 64 * b.val + 2 * p.val < 640 := by omega
  rw [flat_ix X g ⟨64 * b.val + 2 * p.val, h⟩ c _ (by simp only; omega)]
  unfold ev
  pointwise
  congr 1
  funext a
  match a with
  | ⟨0, _⟩ => rfl
  | ⟨1, _⟩ => apply Fin.ext; show (b.val * 32 + p.val) * 2 + c.val / 2048 = 64 * b.val + 2 * p.val; omega
  | ⟨2, _⟩ => apply Fin.ext; show c.val % 2048 = c.val; omega
theorem od_ix (X : FVec Ideal S3x640x2048 .bf16) (g : Fin 3) (b : Fin 10) (p : Fin 32) (c : Fin 2048) :
    od X (ix4 g b p c) = colA (flat X) c.val (64 * (10 * g.val + b.val) + 2 * p.val + 1) := by
  have h : 64 * b.val + 2 * p.val + 1 < 640 := by omega
  rw [flat_ix X g ⟨64 * b.val + 2 * p.val + 1, h⟩ c _ (by simp only; omega)]
  unfold od
  pointwise
  congr 1
  funext a
  match a with
  | ⟨0, _⟩ => rfl
  | ⟨1, _⟩ => apply Fin.ext; show (b.val * 32 + p.val) * 2 + (2048 + c.val) / 2048 = 64 * b.val + 2 * p.val + 1; omega
  | ⟨2, _⟩ => rfl

/-- The largest magnitude of each block. -/
def mx (E O : FVec Ideal S3x10x32x2048 .f32) : FVec Ideal S3x10x2048 .f32 :=
  maximumf (Host.reduce FloatOps.maximumf (Host.absf E) (constant S_ .f32 0xFF800000#32) reducesTo_S3x10x32x2048_S3x10x2048_d2 h_S_)
    (Host.reduce FloatOps.maximumf (Host.absf O) (constant S_ .f32 0xFF800000#32) reducesTo_S3x10x32x2048_S3x10x2048_d2 h_S_)

theorem mx_fold (E O : FVec Ideal S3x10x32x2048 .f32) (g : Fin 3) (b : Fin 10) (c : Fin 2048) :
    mx E O (ix3 g b c) = max (Finset.univ.fold max (Ideal.ofBits .f32 0xFF800000#32) fun r : Fin 32 => ab (E (ix4 g b r c)))
      (Finset.univ.fold max (Ideal.ofBits .f32 0xFF800000#32) fun r : Fin 32 => ab (O (ix4 g b r c))) := by
  unfold mx
  rw [FoldMax.max_ix, FoldMax.reduce_absmax, FoldMax.reduce_absmax]
theorem mx_ix (X : FVec Ideal S3x640x2048 .bf16) (g : Fin 3) (b : Fin 10) (c : Fin 2048) :
    mx (ev X) (od X) (ix3 g b c) = Mx (colA (flat X) c.val) (10 * g.val + b.val) := by
  rw [mx_fold]
  simp only [ev_ix, od_ix]
  have h := fold_pairs fun r => colA (flat X) c.val (64 * (10 * g.val + b.val) + r)
  simp only [← Nat.add_assoc] at h
  exact h

/-- One number at every block. -/
def two : FVec Ideal S3x10x2048 .f32 := broadcastInDim S3x10x2048 ![] bcast_S_S3x10x2048 (constant S_ .f32 0x40000000#32)
/-- One more than the exponent of each block. -/
def ex (a : FVec Ideal S3x10x2048 .f32) : FVec Ideal S3x10x2048 .f32 :=
  addf (Host.floor (Host.divf (Host.log a) (Host.log two))) (broadcastInDim S3x10x2048 ![] bcast_S_S3x10x2048 (constant S_ .f32 0x3F800000#32))
/-- The scale of each block. -/
def sc (a : FVec Ideal S3x10x2048 .f32) : FVec Ideal S3x10x2048 .f32 :=
  select (cmpf .oeq a (broadcastInDim S3x10x2048 ![] bcast_S_S3x10x2048 (constant S_ .f32 0x00000000#32)))
    (broadcastInDim S3x10x2048 ![] bcast_S_S3x10x2048 (constant S_ .f32 0x3F800000#32))
    (Host.powf two (subf (ex a) (broadcastInDim S3x10x2048 ![] bcast_S_S3x10x2048 (constant S_ .f32 0x40400000#32))))
/-- The multiplier of each block. -/
def mu (a : FVec Ideal S3x10x2048 .f32) : FVec Ideal S3x10x1x2048 .f32 :=
  broadcastInDim S3x10x1x2048 ![0, 1, 3] bcast_S3x10x2048_S3x10x1x2048_0_1_3
    (select (cmpf .oeq a (broadcastInDim S3x10x2048 ![] bcast_S_S3x10x2048 (constant S_ .f32 0x00000000#32)))
      (broadcastInDim S3x10x2048 ![] bcast_S_S3x10x2048 (constant S_ .f32 0x3F800000#32))
      (Host.powf two (subf (broadcastInDim S3x10x2048 ![] bcast_S_S3x10x2048 (constant S_ .f32 0x40400000#32)) (ex a))))
/-- The scale again, as bf16, in the shape that broadcasts over a block's rows. -/
def sb (s : FVec Ideal S3x10x2048 .f32) : FVec Ideal S3x10x1x2048 .bf16 :=
  broadcastInDim S3x10x1x2048 ![0, 1, 3] bcast_S3x10x2048_S3x10x1x2048_0_1_3 (truncf .bf16 s bitsLt_bf16_f32)

theorem ex_ix (a : FVec Ideal S3x10x2048 .f32) (j : S3x10x2048.Idx) : ex a j = rE (a j) := rfl
theorem ite_cmp (x y z w : EReal) : (if Ideal.cmp .oeq x y = 1#1 then z else w) = if x = y then z else w := by
  unfold Ideal.cmp
  by_cases h : x = y <;> simp [h]
theorem sc_ix (a : FVec Ideal S3x10x2048 .f32) (j : S3x10x2048.Idx) : sc a j = rS (a j) := by
  have : sc a j = if Ideal.cmp .oeq (a j) (Ideal.ofBits .f32 0x00000000#32) = 1#1 then Ideal.ofBits .f32 0x3F800000#32
      else Ideal.pow (Ideal.ofBits .f32 0x40000000#32) (rE (a j) - Ideal.ofBits .f32 0x40400000#32) := rfl
  rw [this, ite_cmp, Ideal.ofBits_zero_f32, Ideal.ofBits_one_f32]
  rfl
theorem mu_ix (a : FVec Ideal S3x10x2048 .f32) (g : Fin 3) (b : Fin 10) (c : Fin 2048) : mu a (ix4 g b 0 c) = rM (a (ix3 g b c)) := by
  have : mu a (ix4 g b 0 c) = (select (cmpf .oeq a (broadcastInDim S3x10x2048 ![] bcast_S_S3x10x2048 (constant S_ .f32 0x00000000#32)))
      (broadcastInDim S3x10x2048 ![] bcast_S_S3x10x2048 (constant S_ .f32 0x3F800000#32))
      (Host.powf two (subf (broadcastInDim S3x10x2048 ![] bcast_S_S3x10x2048 (constant S_ .f32 0x40400000#32)) (ex a)))) (ix3 g b c) := by
    unfold mu
    generalize select _ _ _ = z
    pointwise
  rw [this]
  have : ∀ j : S3x10x2048.Idx, (select (cmpf .oeq a (broadcastInDim S3x10x2048 ![] bcast_S_S3x10x2048 (constant S_ .f32 0x00000000#32)))
      (broadcastInDim S3x10x2048 ![] bcast_S_S3x10x2048 (constant S_ .f32 0x3F800000#32))
      (Host.powf two (subf (broadcastInDim S3x10x2048 ![] bcast_S_S3x10x2048 (constant S_ .f32 0x40400000#32)) (ex a)))) j
      = if Ideal.cmp .oeq (a j) (Ideal.ofBits .f32 0x00000000#32) = 1#1 then Ideal.ofBits .f32 0x3F800000#32
      else Ideal.pow (Ideal.ofBits .f32 0x40000000#32) (Ideal.ofBits .f32 0x40400000#32 - rE (a j)) := fun _ => rfl
  rw [this, ite_cmp, Ideal.ofBits_zero_f32, Ideal.ofBits_one_f32]
  rfl
theorem sb_ix (s : FVec Ideal S3x10x2048 .f32) (g : Fin 3) (b : Fin 10) (c : Fin 2048) : sb s (ix4 g b 0 c) = s (ix3 g b c) := by
  unfold sb
  pointwise

/-- The words the reference hashes. -/
def ps (seed : IVec S_ 32) (q : BitVec 32) : IVec S3x320x2048 32 :=
  xori (addi (muli (addi (addi (muli (iotaInDim S3x320x2048 32 0) (broadcastInDim S3x320x2048 ![] bcast_S_S3x320x2048 (constantI S_ 32 640#32)))
    (muli (iotaInDim S3x320x2048 32 1) (broadcastInDim S3x320x2048 ![] bcast_S_S3x320x2048 (constantI S_ 32 2#32))))
    (broadcastInDim S3x320x2048 ![] bcast_S_S3x320x2048 (constantI S_ 32 q))) (broadcastInDim S3x320x2048 ![] bcast_S_S3x320x2048 (constantI S_ 32 2048#32)))
    (iotaInDim S3x320x2048 32 2)) (broadcastInDim S3x320x2048 ![] bcast_S_S3x320x2048 seed)
/-- The hash after its first multiplication. -/
def h1 (h : IVec S3x320x2048 32) : IVec S3x320x2048 32 :=
  muli (xori h (Host.shrui h (broadcastInDim S3x320x2048 ![] bcast_S_S3x320x2048 (constantI S_ 32 16#32))))
    (broadcastInDim S3x320x2048 ![] bcast_S_S3x320x2048 (constantI S_ 32 2146121005#32))
/-- The hash after its second multiplication. -/
def h2 (h : IVec S3x320x2048 32) : IVec S3x320x2048 32 :=
  muli (xori h (Host.shrui h (broadcastInDim S3x320x2048 ![] bcast_S_S3x320x2048 (constantI S_ 32 15#32))))
    (broadcastInDim S3x320x2048 ![] bcast_S_S3x320x2048 (constantI S_ 32 2221713035#32))
/-- The random numbers, from the second multiplication's words. -/
def un (h : IVec S3x320x2048 32) : FVec Ideal S3x10x32x2048 .f32 :=
  shapeCast S3x10x32x2048 (mulf (uitofp .f32 (Host.shrui (xori h (Host.shrui h (broadcastInDim S3x320x2048 ![] bcast_S_S3x320x2048 (constantI S_ 32 16#32))))
    (broadcastInDim S3x320x2048 ![] bcast_S_S3x320x2048 (constantI S_ 32 8#32)))) (broadcastInDim S3x320x2048 ![] bcast_S_S3x320x2048 (constant S_ .f32 0x33800000#32)))
    shapeCasts_S3x320x2048_S3x10x32x2048

theorem ps_ix (seed : IVec S_ 32) (q : Nat) (g : Fin 3) (p : Fin 320) (c : Fin 2048) :
    ps seed (BitVec.ofNat 32 q) (ix3 g p c) = posw 2048 (seed ix0) c.val (640 * g.val + 2 * p.val + q) := by
  unfold ps
  pointwise
  exact posw_ops 2048 (seed ix0) g.val p.val q c.val

theorem un_ix (h : IVec S3x320x2048 32) (g : Fin 3) (b : Fin 10) (p : Fin 32) (c : Fin 2048) (r : Fin 320) (hr : r.val = 32 * b.val + p.val) :
    un (h2 (h1 h)) (ix4 g b p c) = (((rhash (h (ix3 g r c))).toNat : ℝ) : EReal) * Ideal.ofBits .f32 0x33800000#32 := by
  have e (z : FVec Ideal S3x320x2048 .f32) : shapeCast S3x10x32x2048 z shapeCasts_S3x320x2048_S3x10x32x2048 (ix4 g b p c) = z (ix3 g r c) := by
    pointwise
    congr 1
    funext a
    match a with
    | ⟨0, _⟩ => rfl
    | ⟨1, _⟩ => apply Fin.ext; show b.val * 32 + p.val = r.val; omega
    | ⟨2, _⟩ => rfl
  unfold un
  rw [e]
  rfl

/-- The quantised values of the rows of one parity. -/
def qt (x : FVec Ideal S3x10x32x2048 .f32) (m : FVec Ideal S3x10x1x2048 .f32) (u : FVec Ideal S3x10x32x2048 .f32) : FVec Ideal S3x10x32x2048 .f32 :=
  minimumf (broadcastInDim S3x10x32x2048 ![] bcast_S_S3x10x32x2048 (sitofp .f32 (constantI S_ 32 7#32)))
    (maximumf (broadcastInDim S3x10x32x2048 ![] bcast_S_S3x10x32x2048 (sitofp .f32 (constantI S_ 32 4294967289#32)))
      (Host.floor (addf (mulf x (broadcastInDim S3x10x32x2048 ![0, 1, 2, 3] bcast_S3x10x1x2048_S3x10x32x2048_0_1_2_3 m)) u)))
/-- The code bytes. -/
def cd (qe qo : FVec Ideal S3x10x32x2048 .f32) : IVec S3x320x2048 8 :=
  shapeCast S3x320x2048 (trunci 8 (ori (andi (fptosi 32 qe) (broadcastInDim S3x10x32x2048 ![] bcast_S_S3x10x32x2048 (constantI S_ 32 15#32)))
    (Host.shli (andi (fptosi 32 qo) (broadcastInDim S3x10x32x2048 ![] bcast_S_S3x10x32x2048 (constantI S_ 32 15#32)))
      (broadcastInDim S3x10x32x2048 ![] bcast_S_S3x10x32x2048 (constantI S_ 32 4#32)))) natLt_8_32) shapeCasts_S3x10x32x2048_S3x320x2048

theorem qt_ix (x : FVec Ideal S3x10x32x2048 .f32) (m : FVec Ideal S3x10x1x2048 .f32) (u : FVec Ideal S3x10x32x2048 .f32)
    (g : Fin 3) (b : Fin 10) (p : Fin 32) (c : Fin 2048) (h : BitVec 32)
    (hu : u (ix4 g b p c) = ((h.toNat : ℝ) : EReal) * Ideal.ofBits .f32 0x33800000#32) :
    qt x m u (ix4 g b p c) = rQ (x (ix4 g b p c)) (m (ix4 g b 0 c)) h := by
  unfold qt rQ
  rw [← hu]
  pointwise
  rfl
theorem cd_ix (qe qo : FVec Ideal S3x10x32x2048 .f32) (g : Fin 3) (p : Fin 320) (c : Fin 2048) (b : Fin 10) (r : Fin 32)
    (hp : p.val = 32 * b.val + r.val) : cd qe qo (ix3 g p c) = byte (qe (ix4 g b r c)) (qo (ix4 g b r c)) := by
  have e (z : IVec S3x10x32x2048 8) : shapeCast S3x320x2048 z shapeCasts_S3x10x32x2048_S3x320x2048 (ix3 g p c) = z (ix4 g b r c) := by
    pointwise
    congr 1
    funext a
    match a with
    | ⟨0, _⟩ => rfl
    | ⟨1, _⟩ => apply Fin.ext; show p.val / 32 = b.val; omega
    | ⟨2, _⟩ => apply Fin.ext; show p.val % 32 = r.val; omega
    | ⟨3, _⟩ => rfl
  unfold cd
  rw [e]
  rfl

/-- The quantised values of the even rows and of the odd rows. -/
def qe (X : FVec Ideal S3x640x2048 .bf16) (seed : IVec S_ 32) : FVec Ideal S3x10x32x2048 .f32 := qt (ev X) (mu (mx (ev X) (od X))) (un (h2 (h1 (ps seed 0#32))))
def qo (X : FVec Ideal S3x640x2048 .bf16) (seed : IVec S_ 32) : FVec Ideal S3x10x32x2048 .f32 := qt (od X) (mu (mx (ev X) (od X))) (un (h2 (h1 (ps seed 1#32))))

theorem qe_ix (X : FVec Ideal S3x640x2048 .bf16) (seed : IVec S_ 32) (g : Fin 3) (b : Fin 10) (p : Fin 32) (c : Fin 2048) :
    qe X seed (ix4 g b p c) = RQ (colA (flat X) c.val) (posw 2048 (seed ix0) c.val) (64 * (10 * g.val + b.val) + 2 * p.val) := by
  have hr : 32 * b.val + p.val < 320 := by omega
  have hu := un_ix (ps seed 0#32) g b p c ⟨32 * b.val + p.val, hr⟩ rfl
  rw [ps_ix seed 0 g ⟨32 * b.val + p.val, hr⟩ c] at hu
  unfold qe RQ
  rw [qt_ix _ _ _ g b p c _ hu, ev_ix, mu_ix, mx_ix, show (64 * (10 * g.val + b.val) + 2 * p.val) / 64 = 10 * g.val + b.val by omega,
    show 640 * g.val + 2 * (⟨32 * b.val + p.val, hr⟩ : Fin 320).val + 0 = 64 * (10 * g.val + b.val) + 2 * p.val by simp only; omega]
theorem qo_ix (X : FVec Ideal S3x640x2048 .bf16) (seed : IVec S_ 32) (g : Fin 3) (b : Fin 10) (p : Fin 32) (c : Fin 2048) :
    qo X seed (ix4 g b p c) = RQ (colA (flat X) c.val) (posw 2048 (seed ix0) c.val) (64 * (10 * g.val + b.val) + 2 * p.val + 1) := by
  have hr : 32 * b.val + p.val < 320 := by omega
  have hu := un_ix (ps seed 1#32) g b p c ⟨32 * b.val + p.val, hr⟩ rfl
  rw [ps_ix seed 1 g ⟨32 * b.val + p.val, hr⟩ c] at hu
  unfold qo RQ
  rw [qt_ix _ _ _ g b p c _ hu, od_ix, mu_ix, mx_ix, show (64 * (10 * g.val + b.val) + 2 * p.val + 1) / 64 = 10 * g.val + b.val by omega,
    show 640 * g.val + 2 * (⟨32 * b.val + p.val, hr⟩ : Fin 320).val + 1 = 64 * (10 * g.val + b.val) + 2 * p.val + 1 by simp only; omega]

/-- The code bytes of the array. -/
def codes (X : FVec Ideal S3x640x2048 .bf16) (seed : IVec S_ 32) : IVec S3x320x2048 8 := cd (qe X seed) (qo X seed)

theorem codes_ix (X : FVec Ideal S3x640x2048 .bf16) (seed : IVec S_ 32) (g : Fin 3) (p : Fin 320) (c : Fin 2048) (k : Nat) (hk : k = 320 * g.val + p.val) :
    codes X seed (ix3 g p c) = byte (RQ (colA (flat X) c.val) (posw 2048 (seed ix0) c.val) (2 * k)) (RQ (colA (flat X) c.val) (posw 2048 (seed ix0) c.val) (2 * k + 1)) := by
  have hb : p.val / 32 < 10 := by omega
  have hr : p.val % 32 < 32 := Nat.mod_lt _ (by norm_num)
  unfold codes
  rw [cd_ix _ _ g p c ⟨p.val / 32, hb⟩ ⟨p.val % 32, hr⟩ (by simp only; omega), qe_ix, qo_ix]
  simp only
  rw [show 64 * (10 * g.val + p.val / 32) + 2 * (p.val % 32) = 2 * k by omega]

/-- The result array of codes. -/
def codesFlat (X : FVec Ideal S3x640x2048 .bf16) (seed : IVec S_ 32) : IVec S960x2048 8 := shapeCast S960x2048 (codes X seed) shapeCasts_S3x320x2048_S960x2048

theorem codesFlat_ix (X : FVec Ideal S3x640x2048 .bf16) (seed : IVec S_ 32) (k : Fin 960) (c : Fin 2048) :
    codesFlat X seed (ix2 k c) = byte (RQ (colA (flat X) c.val) (posw 2048 (seed ix0) c.val) (2 * k.val)) (RQ (colA (flat X) c.val) (posw 2048 (seed ix0) c.val) (2 * k.val + 1)) := by
  have hg : k.val / 320 < 3 := by omega
  have hp : k.val % 320 < 320 := Nat.mod_lt _ (by norm_num)
  rw [← codes_ix X seed ⟨k.val / 320, hg⟩ ⟨k.val % 320, hp⟩ c k.val (by simp only; omega)]
  unfold codesFlat
  pointwise

/-- The unpacked and scaled low halves of the codes. -/
def lo (w : IVec S3x320x2048 8) (s : FVec Ideal S3x10x1x2048 .bf16) : FVec Ideal S960x2048 .bf16 :=
  shapeCast S960x2048 (mulf (shapeCast S3x10x32x2048 (sitofp .bf16 (subi (xori (andi (extui 32 w natLt_8_32)
    (broadcastInDim S3x320x2048 ![] bcast_S_S3x320x2048 (constantI S_ 32 15#32))) (broadcastInDim S3x320x2048 ![] bcast_S_S3x320x2048 (constantI S_ 32 8#32)))
    (broadcastInDim S3x320x2048 ![] bcast_S_S3x320x2048 (constantI S_ 32 8#32)))) shapeCasts_S3x320x2048_S3x10x32x2048)
    (broadcastInDim S3x10x32x2048 ![0, 1, 2, 3] bcast_S3x10x1x2048_S3x10x32x2048_0_1_2_3 s)) shapeCasts_S3x10x32x2048_S960x2048
/-- The unpacked and scaled high halves of the codes. -/
def hi (w : IVec S3x320x2048 8) (s : FVec Ideal S3x10x1x2048 .bf16) : FVec Ideal S960x2048 .bf16 :=
  shapeCast S960x2048 (mulf (shapeCast S3x10x32x2048 (sitofp .bf16 (subi (xori (Host.shrsi (extui 32 w natLt_8_32)
    (broadcastInDim S3x320x2048 ![] bcast_S_S3x320x2048 (constantI S_ 32 4#32))) (broadcastInDim S3x320x2048 ![] bcast_S_S3x320x2048 (constantI S_ 32 8#32)))
    (broadcastInDim S3x320x2048 ![] bcast_S_S3x320x2048 (constantI S_ 32 8#32)))) shapeCasts_S3x320x2048_S3x10x32x2048)
    (broadcastInDim S3x10x32x2048 ![0, 1, 2, 3] bcast_S3x10x1x2048_S3x10x32x2048_0_1_2_3 s)) shapeCasts_S3x10x32x2048_S960x2048

/-- A product of row values by their block's scale, in the order of the flattened rows. -/
theorem rows_ix (z : FVec Ideal S3x320x2048 .bf16) (s : FVec Ideal S3x10x1x2048 .bf16) (k : Fin 960) (c : Fin 2048)
    (g : Fin 3) (p : Fin 320) (b : Fin 10) (hk : k.val = 320 * g.val + p.val) (hb : b.val = p.val / 32) :
    shapeCast S960x2048 (mulf (shapeCast S3x10x32x2048 z shapeCasts_S3x320x2048_S3x10x32x2048)
      (broadcastInDim S3x10x32x2048 ![0, 1, 2, 3] bcast_S3x10x1x2048_S3x10x32x2048_0_1_2_3 s)) shapeCasts_S3x10x32x2048_S960x2048 (ix2 k c)
    = z (ix3 g p c) * s (ix4 g b 0 c) := by
  pointwise
  congr 1
  · congr 1
    funext a
    match a with
    | ⟨0, _⟩ => apply Fin.ext; show k.val / 320 = g.val; omega
    | ⟨1, _⟩ => apply Fin.ext; show k.val / 32 % 10 * 32 + k.val % 32 = p.val; omega
    | ⟨2, _⟩ => rfl
  · congr 1
    funext a
    match a with
    | ⟨0, _⟩ => apply Fin.ext; show k.val / 320 = g.val; omega
    | ⟨1, _⟩ => apply Fin.ext; show k.val / 32 % 10 = b.val; omega
    | ⟨2, _⟩ => rfl
    | ⟨3, _⟩ => rfl

/-- The scale array of the operand. -/
def scales (X : FVec Ideal S3x640x2048 .bf16) : FVec Ideal S3x10x2048 .f32 := sc (mx (ev X) (od X))

theorem scales_ix (X : FVec Ideal S3x640x2048 .bf16) (g : Fin 3) (b : Fin 10) (c : Fin 2048) :
    scales X (ix3 g b c) = rS (Mx (colA (flat X) c.val) (10 * g.val + b.val)) := by
  unfold scales
  rw [sc_ix, mx_ix]

theorem lo_ix (X : FVec Ideal S3x640x2048 .bf16) (seed : IVec S_ 32) (k : Fin 960) (c : Fin 2048) :
    lo (codes X seed) (sb (scales X)) (ix2 k c) = RV (colA (flat X) c.val) (posw 2048 (seed ix0) c.val) (2 * k.val) := by
  have hg : k.val / 320 < 3 := by omega
  have hp : k.val % 320 < 320 := Nat.mod_lt _ (by norm_num)
  have hb : k.val % 320 / 32 < 10 := by omega
  unfold lo
  rw [rows_ix _ _ k c ⟨k.val / 320, hg⟩ ⟨k.val % 320, hp⟩ ⟨k.val % 320 / 32, hb⟩ (by simp only; omega) rfl, sb_ix, scales_ix]
  have e := codes_ix X seed ⟨k.val / 320, hg⟩ ⟨k.val % 320, hp⟩ c k.val (by simp only; omega)
  have u := (un_RQ (colA (flat X) c.val) (posw 2048 (seed ix0) c.val) (2 * k.val) (2 * k.val + 1)).1
  rw [← e] at u
  unfold RV
  rw [← u, show 2 * k.val / 64 = 10 * (k.val / 320) + k.val % 320 / 32 by omega]
  rfl
theorem hi_ix (X : FVec Ideal S3x640x2048 .bf16) (seed : IVec S_ 32) (k : Fin 960) (c : Fin 2048) :
    hi (codes X seed) (sb (scales X)) (ix2 k c) = RV (colA (flat X) c.val) (posw 2048 (seed ix0) c.val) (2 * k.val + 1) := by
  have hg : k.val / 320 < 3 := by omega
  have hp : k.val % 320 < 320 := Nat.mod_lt _ (by norm_num)
  have hb : k.val % 320 / 32 < 10 := by omega
  unfold hi
  rw [rows_ix _ _ k c ⟨k.val / 320, hg⟩ ⟨k.val % 320, hp⟩ ⟨k.val % 320 / 32, hb⟩ (by simp only; omega) rfl, sb_ix, scales_ix]
  have e := codes_ix X seed ⟨k.val / 320, hg⟩ ⟨k.val % 320, hp⟩ c k.val (by simp only; omega)
  have u := (un_RQ (colA (flat X) c.val) (posw 2048 (seed ix0) c.val) (2 * k.val) (2 * k.val + 1)).2
  rw [← e] at u
  unfold RV
  rw [← u, show (2 * k.val + 1) / 64 = 10 * (k.val / 320) + k.val % 320 / 32 by omega]
  rfl

end Cert.Proof.RefY
end
-- ==== Proof.DotRows.lean ====
/-
  A host product that sums over the rows of both operands, at an index, whatever the sizes.
-/
module

public import Idealize.ShloMosaic.Lib.Pointwise
public import Idealize.ShloMosaic.Lib.StackMember
public import Idealize.ShloMosaic.PureOps.Ideal.Laws

@[expose] public section

noncomputable section

namespace Cert.Proof.DotRows

open Idealize.ShloMosaic Idealize.ShloMosaic.Tactic
open Idealize.ShloMosaic.ValueIdx (contrEquiv1 contrEquiv1_symm_val)

/-- The product of the transpose of `A` by `B`: an entry sums over the rows. -/
theorem dot_rows {m n k : Nat} {φ₁ φ₂ : FTy} (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    Host.dotGeneral (⟨[0], [0], [1], [1], [], [], w⟩ : DotDims _ _ _) prec A B (ix2 a b) = ∑ c : Fin k, A (ix2 c a) * B (ix2 c b) := by
  show FloatOps.dotGeneral _ prec _ A B (ix2 a b) = _
  rw [Ideal.dotGeneral_apply, ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Proof.DotRows
end
-- ==== Proof.RefValue.lean ====
/-
  The five results of the reference, read element by element.
-/
module

public import proofs.«01_k».proof.Proof.Gen.ReferenceIdeal.Run
public import proofs.«01_k».proof.Proof.RefX
public import proofs.«01_k».proof.Proof.RefY
public import proofs.«01_k».proof.Proof.DotRows

@[expose] public section

set_option maxRecDepth 16384

noncomputable section

namespace Cert.Proof.RefValue

open Cert.ReferenceIdeal Cert.ReferenceIdeal.Gen
open Idealize.ShloMosaic Idealize.ShloMosaic.TcCoe Idealize.ShloMosaic.Tactic Idealize.SL.Sem
open Cert.Proof.KernelIdeal (colA posw RV sum_pairs)

/-- The seed of `x`. -/
def seedX (S : IVec S2 32) : IVec S_ 32 := shapeCast S_ (extractStridedSlice S1 ![0] S slices_S2_S1_0) shapeCasts_S1_S_
/-- The seed of `dy`. -/
def seedY (S : IVec S2 32) : IVec S_ 32 := shapeCast S_ (extractStridedSlice S1 ![1] S slices_S2_S1_1) shapeCasts_S1_S_

theorem seedX_ix (S : IVec S2 32) : seedX S ix0 = S (ix1 0) := by
  unfold seedX
  pointwise
theorem seedY_ix (S : IVec S2 32) : seedY S ix0 = S (ix1 1) := by
  unfold seedY
  pointwise

/-- The gradient: the product of the even rows plus the product of the odd rows. -/
def dw (X : FVec Ideal S3x640x7168 .bf16) (Y : FVec Ideal S3x640x2048 .bf16) (S : IVec S2 32) : FVec Ideal S7168x2048 .f32 :=
  addf (Host.dotGeneral dot_S960x7168_S960x2048_S7168x2048_0_0_1_1_n_n none
      (RefX.lo (RefX.codes X (seedX S)) (RefX.sb (RefX.scales X))) (RefY.lo (RefY.codes Y (seedY S)) (RefY.sb (RefY.scales Y))))
    (Host.dotGeneral dot_S960x7168_S960x2048_S7168x2048_0_0_1_1_n_n none
      (RefX.hi (RefX.codes X (seedX S)) (RefX.sb (RefX.scales X))) (RefY.hi (RefY.codes Y (seedY S)) (RefY.sb (RefY.scales Y))))

theorem dot_ix (A : FVec Ideal S960x7168 .bf16) (B : FVec Ideal S960x2048 .bf16) (p : Fin 7168) (q : Fin 2048) :
    (Host.dotGeneral dot_S960x7168_S960x2048_S7168x2048_0_0_1_1_n_n none A B : FVec Ideal S7168x2048 .f32) (ix2 p q)
      = ∑ k : Fin 960, A (ix2 k p) * B (ix2 k q) :=
  DotRows.dot_rows Facts₀.dot_S960x7168_S960x2048_S7168x2048_0_0_1_1_n_n_wf none A B p q

/-- The sum of two arrays, at an index. -/
theorem add_ix {s : Shape} (a b : FVec Ideal s .f32) (j : s.Idx) : addf a b j = a j + b j := rfl

theorem lo_prod (X : FVec Ideal S3x640x7168 .bf16) (Y : FVec Ideal S3x640x2048 .bf16) (S : IVec S2 32) (p : Fin 7168) (q : Fin 2048) (k : Fin 960) :
    RefX.lo (RefX.codes X (seedX S)) (RefX.sb (RefX.scales X)) (ix2 k p) * RefY.lo (RefY.codes Y (seedY S)) (RefY.sb (RefY.scales Y)) (ix2 k q)
      = RV (colA (RefX.flat X) p.val) (posw 7168 (S (ix1 0)) p.val) (2 * k.val)
        * RV (colA (RefY.flat Y) q.val) (posw 2048 (S (ix1 1)) q.val) (2 * k.val) := by
  rw [RefX.lo_ix, RefY.lo_ix, seedX_ix, seedY_ix]
theorem hi_prod (X : FVec Ideal S3x640x7168 .bf16) (Y : FVec Ideal S3x640x2048 .bf16) (S : IVec S2 32) (p : Fin 7168) (q : Fin 2048) (k : Fin 960) :
    RefX.hi (RefX.codes X (seedX S)) (RefX.sb (RefX.scales X)) (ix2 k p) * RefY.hi (RefY.codes Y (seedY S)) (RefY.sb (RefY.scales Y)) (ix2 k q)
      = RV (colA (RefX.flat X) p.val) (posw 7168 (S (ix1 0)) p.val) (2 * k.val + 1)
        * RV (colA (RefY.flat Y) q.val) (posw 2048 (S (ix1 1)) q.val) (2 * k.val + 1) := by
  rw [RefX.hi_ix, RefY.hi_ix, seedX_ix, seedY_ix]

theorem dw_pairs (X : FVec Ideal S3x640x7168 .bf16) (Y : FVec Ideal S3x640x2048 .bf16) (S : IVec S2 32) (p : Fin 7168) (q : Fin 2048) :
    dw X Y S (ix2 p q) = (∑ k : Fin 960, RV (colA (RefX.flat X) p.val) (posw 7168 (S (ix1 0)) p.val) (2 * k.val)
        * RV (colA (RefY.flat Y) q.val) (posw 2048 (S (ix1 1)) q.val) (2 * k.val))
      + ∑ k : Fin 960, RV (colA (RefX.flat X) p.val) (posw 7168 (S (ix1 0)) p.val) (2 * k.val + 1)
        * RV (colA (RefY.flat Y) q.val) (posw 2048 (S (ix1 1)) q.val) (2 * k.val + 1) := by
  unfold dw
  rw [add_ix, dot_ix, dot_ix, Finset.sum_congr rfl fun k _ => lo_prod X Y S p q k, Finset.sum_congr rfl fun k _ => hi_prod X Y S p q k]

/-- An element of the gradient is a sum over all the tokens. -/
theorem dw_ix (X : FVec Ideal S3x640x7168 .bf16) (Y : FVec Ideal S3x640x2048 .bf16) (S : IVec S2 32) (p : Fin 7168) (q : Fin 2048) :
    dw X Y S (ix2 p q) = ∑ k : Fin 1920, RV (colA (RefX.flat X) p.val) (posw 7168 (S (ix1 0)) p.val) k.val
      * RV (colA (RefY.flat Y) q.val) (posw 2048 (S (ix1 1)) q.val) k.val :=
  (dw_pairs X Y S p q).trans (sum_pairs fun k => RV (colA (RefX.flat X) p.val) (posw 7168 (S (ix1 0)) p.val) k
      * RV (colA (RefY.flat Y) q.val) (posw 2048 (S (ix1 1)) q.val) k).symm

/-- The reference's run: every result is one function of the arguments, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v294)
        = dw (m ((c.tc : Thread nD τ).loc main_arg0)) (m ((c.tc : Thread nD τ).loc main_arg1)) (m ((c.tc : Thread nD τ).loc main_arg2))
      ∧ r.2.mem ((c.tc : Thread nD τ).loc main_v295)
        = RefX.codesFlat (m ((c.tc : Thread nD τ).loc main_arg0)) (seedX (m ((c.tc : Thread nD τ).loc main_arg2)))
      ∧ r.2.mem ((c.tc : Thread nD τ).loc main_v26) = RefX.scales (m ((c.tc : Thread nD τ).loc main_arg0))
      ∧ r.2.mem ((c.tc : Thread nD τ).loc main_v296)
        = RefY.codesFlat (m ((c.tc : Thread nD τ).loc main_arg1)) (seedY (m ((c.tc : Thread nD τ).loc main_arg2)))
      ∧ r.2.mem ((c.tc : Thread nD τ).loc main_v147) = RefY.scales (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5⟩ := h c
    refine ⟨h0.trans ?_, h1.trans ?_, h2.trans ?_, h3.trans ?_, h4.trans ?_, h5⟩
    all_goals rfl) (Cert.ReferenceIdeal.Value.run m ρ)

end Cert.Proof.RefValue
end
-- ==== Proof.Maximal.lean ====
/-
  The precondition, read block by block: the largest magnitude of every block is zero or a normal number.
-/
module

public import proofs.«01_k».proof.Proof.Gen.Pre_block_maxima_normal
public import proofs.«01_k».proof.Proof.RefX
public import proofs.«01_k».proof.Proof.RefY

@[expose] public section

set_option maxRecDepth 16384

noncomputable section

namespace Cert.Proof.Maximal

open Cert.Pre_block_maxima_normal Cert.Pre_block_maxima_normal.Gen
open Idealize.ShloMosaic Idealize.ShloMosaic.TcCoe Idealize.ShloMosaic.Tactic
open Cert.Proof.KernelIdeal (colA ab Mx InR fold_all)

/-- The three comparisons of one number, as one bit. -/
theorem inR_of_bit (a : EReal)
    (h : IntOp.ori (Ideal.cmp .oeq a (Ideal.ofBits .f32 0x00000000#32))
      (IntOp.andi (Ideal.cmp .oge a (Ideal.ofBits .f32 0x01800000#32)) (Ideal.cmp .ole a (Ideal.ofBits .f32 0x7F7FFFFF#32))) = 1#1) : InR a := by
  rw [Ideal.ofBits_zero_f32] at h
  unfold InR
  by_cases h0 : a = 0
  · exact Or.inl h0
  by_cases h1 : Ideal.ofBits .f32 0x01800000#32 ≤ a
  · by_cases h2 : a ≤ Ideal.ofBits .f32 0x7F7FFFFF#32
    · exact Or.inr ⟨h1, h2⟩
    · simp [Ideal.cmp, IntOp.ori, IntOp.andi, h0, h1, h2] at h
  · simp [Ideal.cmp, IntOp.ori, IntOp.andi, h0, h1] at h

/-- The precondition's test, element by element. -/
def test {s : Shape} (hb : S_.BroadcastsInDim s (![] : Fin 0 → Fin s.rank)) (a : FVec Ideal s .f32) : IVec s 1 :=
  ori (cmpf .oeq a (broadcastInDim s ![] hb (constant S_ .f32 0x00000000#32)))
    (andi (cmpf .oge a (broadcastInDim s ![] hb (constant S_ .f32 0x01800000#32))) (cmpf .ole a (broadcastInDim s ![] hb (constant S_ .f32 0x7F7FFFFF#32))))

theorem test_inR {s : Shape} (hb : S_.BroadcastsInDim s (![] : Fin 0 → Fin s.rank)) (a : FVec Ideal s .f32) (h : test hb a = fun _ => 1#1) (j : s.Idx) :
    InR (a j) := inR_of_bit _ (congrFun h j)

/-- The precondition's maxima of `x`. -/
def mX (X : FVec Ideal S3x640x7168 .bf16) : FVec Ideal S3x10x7168 .f32 :=
  Host.reduce FloatOps.maximumf (Host.absf (extf .f32 (shapeCast S3x10x64x7168 X shapeCasts_S3x640x7168_S3x10x64x7168) bitsLt_bf16_f32))
    (constant S_ .f32 0xFF800000#32) reducesTo_S3x10x64x7168_S3x10x7168_d2 h_S_
/-- The precondition's maxima of `dy`. -/
def mY (Y : FVec Ideal S3x640x2048 .bf16) : FVec Ideal S3x10x2048 .f32 :=
  Host.reduce FloatOps.maximumf (Host.absf (extf .f32 (shapeCast S3x10x64x2048 Y shapeCasts_S3x640x2048_S3x10x64x2048) bitsLt_bf16_f32))
    (constant S_ .f32 0xFF800000#32) reducesTo_S3x10x64x2048_S3x10x2048_d2 h_S_

theorem row_x (X : FVec Ideal S3x640x7168 .bf16) (g : Fin 3) (b : Fin 10) (r : Fin 64) (c : Fin 7168) :
    (extf .f32 (shapeCast S3x10x64x7168 X shapeCasts_S3x640x7168_S3x10x64x7168) bitsLt_bf16_f32 : FVec Ideal S3x10x64x7168 .f32) (ix4 g b r c)
      = colA (RefX.flat X) c.val (64 * (10 * g.val + b.val) + r.val) := by
  have h : 64 * b.val + r.val < 640 := by omega
  rw [RefX.flat_ix X g ⟨64 * b.val + r.val, h⟩ c _ (by simp only; omega)]
  pointwise
  congr 1
  funext a
  match a with
  | ⟨0, _⟩ => rfl
  | ⟨1, _⟩ => apply Fin.ext; show b.val * 64 + r.val = 64 * b.val + r.val; omega
  | ⟨2, _⟩ => rfl
theorem row_y (X : FVec Ideal S3x640x2048 .bf16) (g : Fin 3) (b : Fin 10) (r : Fin 64) (c : Fin 2048) :
    (extf .f32 (shapeCast S3x10x64x2048 X shapeCasts_S3x640x2048_S3x10x64x2048) bitsLt_bf16_f32 : FVec Ideal S3x10x64x2048 .f32) (ix4 g b r c)
      = colA (RefY.flat X) c.val (64 * (10 * g.val + b.val) + r.val) := by
  have h : 64 * b.val + r.val < 640 := by omega
  rw [RefY.flat_ix X g ⟨64 * b.val + r.val, h⟩ c _ (by simp only; omega)]
  pointwise
  congr 1
  funext a
  match a with
  | ⟨0, _⟩ => rfl
  | ⟨1, _⟩ => apply Fin.ext; show b.val * 64 + r.val = 64 * b.val + r.val; omega
  | ⟨2, _⟩ => rfl

theorem mX_ix (X : FVec Ideal S3x640x7168 .bf16) (g : Fin 3) (b : Fin 10) (c : Fin 7168) :
    mX X (ix3 g b c) = Mx (colA (RefX.flat X) c.val) (10 * g.val + b.val) := by
  unfold mX
  rw [FoldMax.reduce_absmax]
  simp only [row_x]
  exact fold_all fun r => colA (RefX.flat X) c.val (64 * (10 * g.val + b.val) + r)
theorem mY_ix (Y : FVec Ideal S3x640x2048 .bf16) (g : Fin 3) (b : Fin 10) (c : Fin 2048) :
    mY Y (ix3 g b c) = Mx (colA (RefY.flat Y) c.val) (10 * g.val + b.val) := by
  unfold mY
  rw [FoldMax.reduce_absmax]
  simp only [row_y]
  exact fold_all fun r => colA (RefY.flat Y) c.val (64 * (10 * g.val + b.val) + r)

/-- Every block of every column of `x` is in range. -/
theorem inR_x (X : FVec Ideal S3x640x7168 .bf16) (Y : FVec Ideal S3x640x2048 .bf16) (S : IVec S2 32)
    (h : (fn (F := Ideal) X Y S).1 = fun _ => 1#1) (c : Nat) (hc : c < 7168) (b : Nat) (hb : b < 30) : InR (Mx (colA (RefX.flat X) c) b) := by
  have hg : b / 10 < 3 := by omega
  have hr : b % 10 < 10 := Nat.mod_lt _ (by norm_num)
  have e : 10 * (b / 10) + b % 10 = b := by omega
  have := mX_ix X ⟨b / 10, hg⟩ ⟨b % 10, hr⟩ ⟨c, hc⟩
  simp only [e] at this
  rw [← this]
  exact test_inR bcast_S_S3x10x7168 (mX X) h _
/-- Every block of every column of `dy` is in range. -/
theorem inR_y (X : FVec Ideal S3x640x7168 .bf16) (Y : FVec Ideal S3x640x2048 .bf16) (S : IVec S2 32)
    (h : (fn (F := Ideal) X Y S).2 = fun _ => 1#1) (c : Nat) (hc : c < 2048) (b : Nat) (hb : b < 30) : InR (Mx (colA (RefY.flat Y) c) b) := by
  have hg : b / 10 < 3 := by omega
  have hr : b % 10 < 10 := Nat.mod_lt _ (by norm_num)
  have e : 10 * (b / 10) + b % 10 = b := by omega
  have := mY_ix Y ⟨b / 10, hg⟩ ⟨b % 10, hr⟩ ⟨c, hc⟩
  simp only [e] at this
  rw [← this]
  exact test_inR bcast_S_S3x10x2048 (mY Y) h _

end Cert.Proof.Maximal
end
-- ==== Proof.Equation.lean ====
/-
  The kernel's results are the reference's.
-/
module

public import proofs.«01_k».proof.Defs
public import proofs.«01_k».proof.Proof.Arrays
public import proofs.«01_k».proof.Proof.RefValue
public import proofs.«01_k».proof.Proof.Maximal

@[expose] public section

set_option maxRecDepth 16384

noncomputable section

namespace Cert.Proof.Equation

open Cert.KernelIdeal Cert.KernelIdeal.Gen
open Idealize.ShloMosaic Idealize.ShloMosaic.TcCoe Idealize.ShloMosaic.Tactic Idealize.SL.Sem
open Cert.Proof.KernelIdeal (colA specC specS specV Cv Sv Vv Cv_eq Sv_eq Vv_eq posw rhash hv mix hash_eq RV Mx InR)
open Cert.Proof.KernelIdealRun (gX gY gS gD xHash yHash yVal)

variable (m : (ℓ : Loc nD τ sig) → Buf (Elt Ideal) ℓ) (c : Dev nD)

theorem gX_flat : gX m c = RefX.flat (m ((c.tc : Thread nD τ).loc main_arg0)) := rfl
theorem gY_flat : gY m c = RefY.flat (m ((c.tc : Thread nD τ).loc main_arg1)) := rfl
theorem gS_arg : gS m c = m ((c.tc : Thread nD τ).loc main_arg2) := rfl

/-- The kernel's random words of `x` are the reference's. -/
theorem xHash_eq (p : Nat) (hp : p < 7168) (t : Nat) (ht : t < 1920) :
    xHash m c p t = rhash (posw 7168 (m ((c.tc : Thread nD τ).loc main_arg2) (ix1 0)) p t) :=
  hash_eq 7 p t (by omega) ht (by norm_num) _
/-- The kernel's random words of `dy` are the reference's. -/
theorem yHash_eq (p : Nat) (hp : p < 2048) (t : Nat) (ht : t < 1920) :
    yHash m c p t = rhash (posw 2048 (m ((c.tc : Thread nD τ).loc main_arg2) (ix1 1)) p t) :=
  hash_eq 2 p t (by omega) ht (by norm_num) _

section
variable (hp : (Cert.Pre_block_maxima_normal.fn (F := Ideal) (m ((c.tc : Thread nD τ).loc main_arg0)) (m ((c.tc : Thread nD τ).loc main_arg1)) (m ((c.tc : Thread nD τ).loc main_arg2))).1 = (fun _ => 1#1)
    ∧ (Cert.Pre_block_maxima_normal.fn (F := Ideal) (m ((c.tc : Thread nD τ).loc main_arg0)) (m ((c.tc : Thread nD τ).loc main_arg1)) (m ((c.tc : Thread nD τ).loc main_arg2))).2 = (fun _ => 1#1))
include hp

theorem codes_x : (specC (gX m c) (xHash m c) : S960x7168.Idx → BitVec 8)
    = RefX.codesFlat (m ((c.tc : Thread nD τ).loc main_arg0)) (RefValue.seedX (m ((c.tc : Thread nD τ).loc main_arg2))) := by
  funext y
  obtain ⟨k, q, rfl⟩ : ∃ (k : Fin 960) (q : Fin 7168), y = ix2 k q := ⟨y 0, y 1, by funext a; match a with | ⟨0, _⟩ => rfl | ⟨1, _⟩ => rfl⟩
  rw [RefX.codesFlat_ix, RefValue.seedX_ix]
  exact Cv_eq _ (Maximal.inR_x _ _ _ hp.1 q.val q.isLt) _ _ (xHash_eq m c q.val q.isLt) k.val k.isLt
theorem codes_y : (specC (gY m c) (yHash m c) : S960x2048.Idx → BitVec 8)
    = RefY.codesFlat (m ((c.tc : Thread nD τ).loc main_arg1)) (RefValue.seedY (m ((c.tc : Thread nD τ).loc main_arg2))) := by
  funext y
  obtain ⟨k, q, rfl⟩ : ∃ (k : Fin 960) (q : Fin 2048), y = ix2 k q := ⟨y 0, y 1, by funext a; match a with | ⟨0, _⟩ => rfl | ⟨1, _⟩ => rfl⟩
  rw [RefY.codesFlat_ix, RefValue.seedY_ix]
  exact Cv_eq _ (Maximal.inR_y _ _ _ hp.2 q.val q.isLt) _ _ (yHash_eq m c q.val q.isLt) k.val k.isLt

theorem scales_x : (specS (gX m c) : S3x10x7168.Idx → EReal) = RefX.scales (m ((c.tc : Thread nD τ).loc main_arg0)) := by
  funext y
  obtain ⟨g, b, q, rfl⟩ : ∃ (g : Fin 3) (b : Fin 10) (q : Fin 7168), y = ix3 g b q :=
    ⟨y 0, y 1, y 2, by funext a; match a with | ⟨0, _⟩ => rfl | ⟨1, _⟩ => rfl | ⟨2, _⟩ => rfl⟩
  rw [RefX.scales_ix]
  exact Sv_eq _ (Maximal.inR_x _ _ _ hp.1 q.val q.isLt) (10 * g.val + b.val) (by omega)
theorem scales_y : (specS (gY m c) : S3x10x2048.Idx → EReal) = RefY.scales (m ((c.tc : Thread nD τ).loc main_arg1)) := by
  funext y
  obtain ⟨g, b, q, rfl⟩ : ∃ (g : Fin 3) (b : Fin 10) (q : Fin 2048), y = ix3 g b q :=
    ⟨y 0, y 1, y 2, by funext a; match a with | ⟨0, _⟩ => rfl | ⟨1, _⟩ => rfl | ⟨2, _⟩ => rfl⟩
  rw [RefY.scales_ix]
  exact Sv_eq _ (Maximal.inR_y _ _ _ hp.2 q.val q.isLt) (10 * g.val + b.val) (by omega)

theorem dw_eq : gD m c = RefValue.dw (m ((c.tc : Thread nD τ).loc main_arg0)) (m ((c.tc : Thread nD τ).loc main_arg1)) (m ((c.tc : Thread nD τ).loc main_arg2)) := by
  funext y
  obtain ⟨p, q, rfl⟩ : ∃ (p : Fin 7168) (q : Fin 2048), y = ix2 p q := ⟨y 0, y 1, by funext a; match a with | ⟨0, _⟩ => rfl | ⟨1, _⟩ => rfl⟩
  rw [RefValue.dw_ix]
  refine Finset.sum_congr rfl fun k _ => ?_
  have ex := Vv_eq _ (Maximal.inR_x _ _ _ hp.1 p.val p.isLt) _ _ (xHash_eq m c p.val p.isLt) k.val k.isLt
  have ey := Vv_eq _ (Maximal.inR_y _ _ _ hp.2 q.val q.isLt) _ _ (yHash_eq m c q.val q.isLt) k.val k.isLt
  rw [← ex, ← ey]
  rfl
end

/-- Kernel and reference end with equal results. -/
theorem algebraic : Cert.algebraic_KernelIdeal_ReferenceIdeal_pre_block_maxima_normal := by
  intro m g m' g' hp ha
  refine ⟨fun c => gD m c, fun c => (specC (gX m c) (xHash m c) : S960x7168.Idx → BitVec 8), fun c => (specS (gX m c) : S3x10x7168.Idx → EReal),
    fun c => (specC (gY m c) (yHash m c) : S960x2048.Idx → BitVec 8), fun c => (specS (gY m c) : S3x10x2048.Idx → EReal),
    Cert.Proof.KernelIdealRun.run m g, ?_⟩
  refine (θ_run _ _ _).mono (fun r h c => ?_) (RefValue.run m' g')
  obtain ⟨h0, h1, h2, h3, h4, h5⟩ := h c
  obtain ⟨a0, a1, a2⟩ := ha c
  rw [a0, a1, a2] at h0
  rw [a0, a2] at h1
  rw [a0] at h2
  rw [a1, a2] at h3
  rw [a1] at h4
  exact ⟨h0.trans (dw_eq m c (hp c)).symm, h1.trans (codes_x m c (hp c)).symm, h2.trans (scales_x m c (hp c)).symm,
    h3.trans (codes_y m c (hp c)).symm, h4.trans (scales_y m c (hp c)).symm, h5⟩

end Cert.Proof.Equation
end
-- ==== Proof.lean ====
module

public import proofs.«01_k».proof.Proof.Gen.ReferenceIdeal
public import proofs.«01_k».proof.Proof.Gen.ReferenceIdeal.Run
public import proofs.«01_k».proof.Proof.Gen.Pre_block_maxima_normal
public import proofs.«01_k».proof.Defs
public import proofs.«01_k».proof.Proof.KernelFrame
public import proofs.«01_k».proof.Proof.KernelIdealFrame
public import proofs.«01_k».proof.Proof.Equation
public import Idealize.ShloMosaic.Lib.Bf16Pair

@[expose] public section

noncomputable section

namespace Cert.Proof

open Idealize.ShloMosaic Idealize.SL.Sem

/-- The words rewritten are two bf16 rows each, at the two shapes a group is read at, and a packed pair. -/
theorem preserves : Cert.preserves_Kernel_KernelIdeal :=
  ⟨IdealRules.bf16_pair.statement _ _, IdealRules.bf16_pair.statement _ _, IdealRules.bf16_pair.packStatement _⟩

/-- The reference terminates and leaves its arguments unchanged. -/
theorem referenceFrame : Cert.quiescent_ReferenceIdeal := fun m ρ _ =>
  (θ_run Cert.ReferenceIdeal.defs _ _).mono (fun r h => ⟨fun c => (h c).2.2.2.2.2, Idealize.ShloMosaic.sem_eq_zero_of_no_sems (by decide) r.2⟩)
    (RefValue.run m ρ)

theorem claim : Cert.Claim :=
  ⟨Cert.Kernel.Gen.facts, Cert.KernelIdeal.Gen.facts, Cert.ReferenceIdeal.Gen.facts, Cert.Pre_block_maxima_normal.Gen.facts,
    fun m ρ _ => Cert.Proof.Kernel.frame m ρ,
    fun m ρ _ => Cert.Proof.KernelIdeal.frame m ρ,
    fun m ρ _ => Cert.Proof.KernelIdeal.frame m ρ,
    fun m ρ _ => referenceFrame m ρ trivial,
    fun m ρ _ => referenceFrame m ρ trivial,
    preserves, Equation.algebraic⟩

end Cert.Proof

end
